-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v469) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S8x512x1024 : Shape := ⟨3, ![8, 512, 1024]⟩
abbrev S1024x1024 : Shape := ⟨2, ![1024, 1024]⟩
abbrev S1024 : Shape := ⟨1, ![1024]⟩
abbrev S_ : Shape := ⟨0, ![]⟩

class Facts : Prop where
  reducesTo_S8x512x1024_S_d0_1_2 : S8x512x1024.ReducesTo [0, 1, 2] S_
  h_S_ : 0 < S_.numel
  reducesTo_S1024x1024_S_d0_1 : S1024x1024.ReducesTo [0, 1] S_
  reducesTo_S1024_S_d0 : S1024.ReducesTo [0] S_

variable [Facts]

def fn_part2 {F : FTy → Type} [FloatOps F] (main_v30 : IVec S_ 1) (main_v31 : FVec F S1024 .f32) : IVec S_ 1 :=
  let main_cst_15 : FVec F S_ .f32 := constant S_ .f32 0xFF800000#32
  let main_v32 : FVec F S_ .f32 := (fun x v => Host.reduce FloatOps.maximumf x v reducesTo_S1024_S_d0 h_S_) main_v31 main_cst_15
  let main_cst_16 : FVec F S_ .f32 := constant S_ .f32 0x7F800000#32
  let main_v33 : IVec S_ 1 := cmpf .olt main_v32 main_cst_16
  let main_v34 : IVec S_ 1 := andi main_v30 main_v33
  main_v34

def fn_part1 {F : FTy → Type} [FloatOps F] (main_arg5 : FVec F S1024 .f32) (main_arg6 : FVec F S1024 .f32) (main_arg7 : FVec F S1024 .f32) (main_arg8 : FVec F S1024 .f32) (main_v14 : IVec S_ 1) (main_v15 : FVec F S1024x1024 .f32) : IVec S_ 1 :=
  let main_cst_7 : FVec F S_ .f32 := constant S_ .f32 0xFF800000#32
  let main_v16 : FVec F S_ .f32 := (fun x v => Host.reduce FloatOps.maximumf x v reducesTo_S1024x1024_S_d0_1 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  let main_v19 : FVec F S1024 .f32 := Host.absf main_arg5
  let main_cst_9 : FVec F S_ .f32 := constant S_ .f32 0xFF800000#32
  let main_v20 : FVec F S_ .f32 := (fun x v => Host.reduce FloatOps.maximumf x v reducesTo_S1024_S_d0 h_S_) main_v19 main_cst_9
  let main_cst_10 : FVec F S_ .f32 := constant S_ .f32 0x7F800000#32
  let main_v21 : IVec S_ 1 := cmpf .olt main_v20 main_cst_10
  let main_v22 : IVec S_ 1 := andi main_v18 main_v21
  let main_v23 : FVec F S1024 .f32 := Host.absf main_arg6
  let main_cst_11 : FVec F S_ .f32 := constant S_ .f32 0xFF800000#32
  let main_v24 : FVec F S_ .f32 := (fun x v => Host.reduce FloatOps.maximumf x v reducesTo_S1024_S_d0 h_S_) main_v23 main_cst_11
  let main_cst_12 : FVec F S_ .f32 := constant S_ .f32 0x7F800000#32
  let main_v25 : IVec S_ 1 := cmpf .olt main_v24 main_cst_12
  let main_v26 : IVec S_ 1 := andi main_v22 main_v25
  let main_v27 : FVec F S1024 .f32 := Host.absf main_arg7
  let main_cst_13 : FVec F S_ .f32 := constant S_ .f32 0xFF800000#32
  let main_v28 : FVec F S_ .f32 := (fun x v => Host.reduce FloatOps.maximumf x v reducesTo_S1024_S_d0 h_S_) main_v27 main_cst_13
  let main_cst_14 : FVec F S_ .f32 := constant S_ .f32 0x7F800000#32
  let main_v29 : IVec S_ 1 := cmpf .olt main_v28 main_cst_14
  let main_v30 : IVec S_ 1 := andi main_v26 main_v29
  let main_v31 : FVec F S1024 .f32 := Host.absf main_arg8
  fn_part2 (F := F) main_v30 main_v31

def fn {F : FTy → Type} [FloatOps F] (main_arg0 : FVec F S8x512x1024 .f32) (main_arg1 : FVec F S1024x1024 .f32) (main_arg2 : FVec F S1024x1024 .f32) (main_arg3 : FVec F S1024x1024 .f32) (main_arg4 : FVec F S1024x1024 .f32) (main_arg5 : FVec F S1024 .f32) (main_arg6 : FVec F S1024 .f32) (main_arg7 : FVec F S1024 .f32) (main_arg8 : FVec F S1024 .f32) : IVec S_ 1 :=
  let main_v0 : FVec F S8x512x1024 .f32 := Host.absf main_arg0
  let main_cst : FVec F S_ .f32 := constant S_ .f32 0xFF800000#32
  let main_v1 : FVec F S_ .f32 := (fun x v => Host.reduce FloatOps.maximumf x v reducesTo_S8x512x1024_S_d0_1_2 h_S_) main_v0 main_cst
  let main_cst_0 : FVec F S_ .f32 := constant S_ .f32 0x7F800000#32
  let main_v2 : IVec S_ 1 := cmpf .olt main_v1 main_cst_0
  let main_v3 : FVec F S1024x1024 .f32 := Host.absf main_arg1
  let main_cst_1 : FVec F S_ .f32 := constant S_ .f32 0xFF800000#32
  let main_v4 : FVec F S_ .f32 := (fun x v => Host.reduce FloatOps.maximumf x v reducesTo_S1024x1024_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1024x1024 .f32 := Host.absf main_arg2
  let main_cst_3 : FVec F S_ .f32 := constant S_ .f32 0xFF800000#32
  let main_v8 : FVec F S_ .f32 := (fun x v => Host.reduce FloatOps.maximumf x v reducesTo_S1024x1024_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S1024x1024 .f32 := Host.absf main_arg3
  let main_cst_5 : FVec F S_ .f32 := constant S_ .f32 0xFF800000#32
  let main_v12 : FVec F S_ .f32 := (fun x v => Host.reduce FloatOps.maximumf x v reducesTo_S1024x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S1024x1024 .f32 := Host.absf main_arg4
  fn_part1 (F := F) main_arg5 main_arg6 main_arg7 main_arg8 main_v14 main_v15
-- ==== Kernel.lean ====
abbrev S8x512x1024 : Shape := ⟨3, ![8, 512, 1024]⟩
abbrev S1024x1024 : Shape := ⟨2, ![1024, 1024]⟩
abbrev S1024 : Shape := ⟨1, ![1024]⟩
abbrev S1x1024x1024 : Shape := ⟨3, ![1, 1024, 1024]⟩
abbrev S4x1024x1024 : Shape := ⟨3, ![4, 1024, 1024]⟩
abbrev S1x1024 : Shape := ⟨2, ![1, 1024]⟩
abbrev S4x1024 : Shape := ⟨2, ![4, 1024]⟩
abbrev S4x1x1024 : Shape := ⟨3, ![4, 1, 1024]⟩
abbrev S1x1x1024 : Shape := ⟨3, ![1, 1, 1024]⟩
abbrev S1 : Shape := ⟨1, ![1]⟩
abbrev S1x1x1 : Shape := ⟨3, ![1, 1, 1]⟩
abbrev S8x1x128 : Shape := ⟨3, ![8, 1, 128]⟩
abbrev S1x512x1024 : Shape := ⟨3, ![1, 512, 1024]⟩
abbrev S1x1x128 : Shape := ⟨3, ![1, 1, 128]⟩
abbrev S512x1024 : Shape := ⟨2, ![512, 1024]⟩
abbrev S1x128 : Shape := ⟨2, ![1, 128]⟩
abbrev S_ : Shape := ⟨0, ![]⟩
abbrev S8x3x128 : Shape := ⟨3, ![8, 3, 128]⟩
abbrev S1x3x128 : Shape := ⟨3, ![1, 3, 128]⟩
abbrev S3x128 : Shape := ⟨2, ![3, 128]⟩
abbrev S8x128 : Shape := ⟨2, ![8, 128]⟩
abbrev S2 : Shape := ⟨1, ![2]⟩
abbrev S512x64 : Shape := ⟨2, ![512, 64]⟩
abbrev S512x512 : Shape := ⟨2, ![512, 512]⟩
abbrev S1x512x512 : Shape := ⟨3, ![1, 512, 512]⟩
abbrev S3 : Shape := ⟨1, ![3]⟩
abbrev S8x4x512x512 : Shape := ⟨4, ![8, 4, 512, 512]⟩
abbrev S8x16x512x1 : Shape := ⟨4, ![8, 16, 512, 1]⟩
abbrev S1x4x512x512 : Shape := ⟨4, ![1, 4, 512, 512]⟩
abbrev S1x16x512x1 : Shape := ⟨4, ![1, 16, 512, 1]⟩
abbrev S512 : Shape := ⟨1, ![512]⟩
abbrev S512x1 : Shape := ⟨2, ![512, 1]⟩
abbrev S1x1x512x512 : Shape := ⟨4, ![1, 1, 512, 512]⟩
abbrev S1x1x512x1 : Shape := ⟨4, ![1, 1, 512, 1]⟩
abbrev S1x512x1 : Shape := ⟨3, ![1, 512, 1]⟩
abbrev S1x512x64 : Shape := ⟨3, ![1, 512, 64]⟩

abbrev nBuf : Space → Nat
  | .hbm => 181
  | .vmem => 136
  | .smem => 11
  | _ => 0

abbrev hbmTy0_0 (i : Nat) : BufTy := match i % 128 with
  | 0 => ⟨S8x512x1024, .f32⟩
  | 1 => ⟨S1024x1024, .f32⟩
  | 2 => ⟨S1024x1024, .f32⟩
  | 3 => ⟨S1024x1024, .f32⟩
  | 4 => ⟨S1024x1024, .f32⟩
  | 5 => ⟨S1024, .f32⟩
  | 6 => ⟨S1024, .f32⟩
  | 7 => ⟨S1024, .f32⟩
  | 8 => ⟨S1024, .f32⟩
  | 9 => ⟨S1x1024x1024, .f32⟩
  | 10 => ⟨S1x1024x1024, .f32⟩
  | 11 => ⟨S1x1024x1024, .f32⟩
  | 12 => ⟨S1x1024x1024, .f32⟩
  | 13 => ⟨S4x1024x1024, .f32⟩
  | 14 => ⟨S1x1024, .f32⟩
  | 15 => ⟨S1x1024, .f32⟩
  | 16 => ⟨S1x1024, .f32⟩
  | 17 => ⟨S1x1024, .f32⟩
  | 18 => ⟨S4x1024, .f32⟩
  | 19 => ⟨S4x1x1024, .f32⟩
  | 20 => ⟨S4x1024x1024, .f32⟩
  | 21 => ⟨S4x1x1024, .f32⟩
  | 22 => ⟨S8x1x128, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S1, .f32⟩
  | 30 => ⟨S8x512x1024, .f32⟩
  | 31 => ⟨S8x512x1024, .f32⟩
  | 32 => ⟨S8x512x1024, .f32⟩
  | 33 => ⟨S8x3x128, .f32⟩
  | 34 => ⟨S8x1x128, .f32⟩
  | 35 => ⟨S8x128, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S8x1x128, .f32⟩
  | 43 => ⟨S8x128, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S8x1x128, .f32⟩
  | 51 => ⟨S8x128, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S1, .f32⟩
  | 59 => ⟨S1, .f32⟩
  | 60 => ⟨S2, .f32⟩
  | 61 => ⟨S8x1x128, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S1, .f32⟩
  | 69 => ⟨S1, .f32⟩
  | 70 => ⟨S1, .f32⟩
  | 71 => ⟨S3, .f32⟩
  | 72 => ⟨S8x4x512x512, .f32⟩
  | 73 => ⟨S8x4x512x512, .f32⟩
  | 74 => ⟨S8x4x512x512, .f32⟩
  | 75 => ⟨S8x4x512x512, .f32⟩
  | 76 => ⟨S8x16x512x1, .f32⟩
  | 77 => ⟨S8x1x128, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1, .f32⟩
  | 85 => ⟨S1, .f32⟩
  | 86 => ⟨S2, .f32⟩
  | 87 => ⟨S8x512x1024, .f32⟩
  | 88 => ⟨S8x1x128, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S1, .f32⟩
  | 96 => ⟨S8x512x1024, .f32⟩
  | 97 => ⟨S8x1x128, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1, .f32⟩
  | 105 => ⟨S8x512x1024, .f32⟩
  | 106 => ⟨S8x512x1024, .f32⟩
  | 107 => ⟨S8x512x1024, .f32⟩
  | 108 => ⟨S8x3x128, .f32⟩
  | 109 => ⟨S8x1x128, .f32⟩
  | 110 => ⟨S8x128, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S8x1x128, .f32⟩
  | 118 => ⟨S8x128, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S8x1x128, .f32⟩
  | 126 => ⟨S8x128, .f32⟩
  | 127 => ⟨S_, .f32⟩
  | _ => ⟨S8x512x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1, .f32⟩
  | 6 => ⟨S1, .f32⟩
  | 7 => ⟨S2, .f32⟩
  | 8 => ⟨S8x1x128, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S1, .f32⟩
  | 16 => ⟨S1, .f32⟩
  | 17 => ⟨S1, .f32⟩
  | 18 => ⟨S3, .f32⟩
  | 19 => ⟨S8x4x512x512, .f32⟩
  | 20 => ⟨S8x4x512x512, .f32⟩
  | 21 => ⟨S8x4x512x512, .f32⟩
  | 22 => ⟨S8x4x512x512, .f32⟩
  | 23 => ⟨S8x16x512x1, .f32⟩
  | 24 => ⟨S8x1x128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S1, .f32⟩
  | 32 => ⟨S1, .f32⟩
  | 33 => ⟨S2, .f32⟩
  | 34 => ⟨S8x512x1024, .f32⟩
  | 35 => ⟨S8x1x128, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S1, .f32⟩
  | 43 => ⟨S8x512x1024, .f32⟩
  | 44 => ⟨S8x1x128, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1, .f32⟩
  | 52 => ⟨S8x512x1024, .f32⟩
  | _ => ⟨S8x512x1024, .f32⟩

abbrev hbmTy (i : Nat) : BufTy := match i / 128 with
  | 0 => hbmTy0_0 i
  | 1 => hbmTy0_1 i
  | _ => ⟨S8x512x1024, .f32⟩

abbrev vmemTy0_0 (i : Nat) : BufTy := match i % 128 with
  | 0 => ⟨S1x1024x1024, .f32⟩
  | 1 => ⟨S1x1024x1024, .f32⟩
  | 2 => ⟨S1x1x1024, .f32⟩
  | 3 => ⟨S1x1x1024, .f32⟩
  | 4 => ⟨S1x1024x1024, .f32⟩
  | 5 => ⟨S1x1024x1024, .f32⟩
  | 6 => ⟨S1x1x1024, .f32⟩
  | 7 => ⟨S1x1x1024, .f32⟩
  | 8 => ⟨S1x512x1024, .f32⟩
  | 9 => ⟨S1x512x1024, .f32⟩
  | 10 => ⟨S1x1x128, .f32⟩
  | 11 => ⟨S1x1x128, .f32⟩
  | 12 => ⟨S1x512x1024, .f32⟩
  | 13 => ⟨S1x512x1024, .f32⟩
  | 14 => ⟨S1x1024x1024, .f32⟩
  | 15 => ⟨S1x1024x1024, .f32⟩
  | 16 => ⟨S1x1024x1024, .f32⟩
  | 17 => ⟨S4x1x1024, .f32⟩
  | 18 => ⟨S1x512x1024, .f32⟩
  | 19 => ⟨S1x512x1024, .f32⟩
  | 20 => ⟨S1x512x1024, .f32⟩
  | 21 => ⟨S1x512x1024, .f32⟩
  | 22 => ⟨S1x512x1024, .f32⟩
  | 23 => ⟨S1x512x1024, .f32⟩
  | 24 => ⟨S1x3x128, .f32⟩
  | 25 => ⟨S1x3x128, .f32⟩
  | 26 => ⟨S1x512x1024, .f32⟩
  | 27 => ⟨S1x512x1024, .f32⟩
  | 28 => ⟨S1x512x1024, .f32⟩
  | 29 => ⟨S1x512x1024, .f32⟩
  | 30 => ⟨S1x1x128, .f32⟩
  | 31 => ⟨S1x1x128, .f32⟩
  | 32 => ⟨S1x512x1024, .f32⟩
  | 33 => ⟨S1x512x1024, .f32⟩
  | 34 => ⟨S1x512x1024, .f32⟩
  | 35 => ⟨S1x512x1024, .f32⟩
  | 36 => ⟨S1x4x512x512, .f32⟩
  | 37 => ⟨S1x4x512x512, .f32⟩
  | 38 => ⟨S1x4x512x512, .f32⟩
  | 39 => ⟨S1x4x512x512, .f32⟩
  | 40 => ⟨S1x4x512x512, .f32⟩
  | 41 => ⟨S1x4x512x512, .f32⟩
  | 42 => ⟨S1x4x512x512, .f32⟩
  | 43 => ⟨S1x4x512x512, .f32⟩
  | 44 => ⟨S1x16x512x1, .f32⟩
  | 45 => ⟨S1x16x512x1, .f32⟩
  | 46 => ⟨S1x1x128, .f32⟩
  | 47 => ⟨S1x1x128, .f32⟩
  | 48 => ⟨S1x4x512x512, .f32⟩
  | 49 => ⟨S1x4x512x512, .f32⟩
  | 50 => ⟨S1x4x512x512, .f32⟩
  | 51 => ⟨S1x4x512x512, .f32⟩
  | 52 => ⟨S1x4x512x512, .f32⟩
  | 53 => ⟨S1x4x512x512, .f32⟩
  | 54 => ⟨S1x4x512x512, .f32⟩
  | 55 => ⟨S1x4x512x512, .f32⟩
  | 56 => ⟨S1x16x512x1, .f32⟩
  | 57 => ⟨S1x16x512x1, .f32⟩
  | 58 => ⟨S1x512x1024, .f32⟩
  | 59 => ⟨S1x512x1024, .f32⟩
  | 60 => ⟨S1x512x1024, .f32⟩
  | 61 => ⟨S1x512x1024, .f32⟩
  | 62 => ⟨S1x1x128, .f32⟩
  | 63 => ⟨S1x1x128, .f32⟩
  | 64 => ⟨S1x512x1024, .f32⟩
  | 65 => ⟨S1x512x1024, .f32⟩
  | 66 => ⟨S1x1024x1024, .f32⟩
  | 67 => ⟨S4x1x1024, .f32⟩
  | 68 => ⟨S1x512x1024, .f32⟩
  | 69 => ⟨S1x512x1024, .f32⟩
  | 70 => ⟨S1x1x128, .f32⟩
  | 71 => ⟨S1x1x128, .f32⟩
  | 72 => ⟨S1x512x1024, .f32⟩
  | 73 => ⟨S1x512x1024, .f32⟩
  | 74 => ⟨S1x1024x1024, .f32⟩
  | 75 => ⟨S1x1024x1024, .f32⟩
  | 76 => ⟨S1x1024x1024, .f32⟩
  | 77 => ⟨S4x1x1024, .f32⟩
  | 78 => ⟨S1x512x1024, .f32⟩
  | 79 => ⟨S1x512x1024, .f32⟩
  | 80 => ⟨S1x512x1024, .f32⟩
  | 81 => ⟨S1x512x1024, .f32⟩
  | 82 => ⟨S1x512x1024, .f32⟩
  | 83 => ⟨S1x512x1024, .f32⟩
  | 84 => ⟨S1x3x128, .f32⟩
  | 85 => ⟨S1x3x128, .f32⟩
  | 86 => ⟨S1x512x1024, .f32⟩
  | 87 => ⟨S1x512x1024, .f32⟩
  | 88 => ⟨S1x512x1024, .f32⟩
  | 89 => ⟨S1x512x1024, .f32⟩
  | 90 => ⟨S1x1x128, .f32⟩
  | 91 => ⟨S1x1x128, .f32⟩
  | 92 => ⟨S1x512x1024, .f32⟩
  | 93 => ⟨S1x512x1024, .f32⟩
  | 94 => ⟨S1x512x1024, .f32⟩
  | 95 => ⟨S1x512x1024, .f32⟩
  | 96 => ⟨S1x4x512x512, .f32⟩
  | 97 => ⟨S1x4x512x512, .f32⟩
  | 98 => ⟨S1x4x512x512, .f32⟩
  | 99 => ⟨S1x4x512x512, .f32⟩
  | 100 => ⟨S1x4x512x512, .f32⟩
  | 101 => ⟨S1x4x512x512, .f32⟩
  | 102 => ⟨S1x4x512x512, .f32⟩
  | 103 => ⟨S1x4x512x512, .f32⟩
  | 104 => ⟨S1x16x512x1, .f32⟩
  | 105 => ⟨S1x16x512x1, .f32⟩
  | 106 => ⟨S1x1x128, .f32⟩
  | 107 => ⟨S1x1x128, .f32⟩
  | 108 => ⟨S1x4x512x512, .f32⟩
  | 109 => ⟨S1x4x512x512, .f32⟩
  | 110 => ⟨S1x4x512x512, .f32⟩
  | 111 => ⟨S1x4x512x512, .f32⟩
  | 112 => ⟨S1x4x512x512, .f32⟩
  | 113 => ⟨S1x4x512x512, .f32⟩
  | 114 => ⟨S1x4x512x512, .f32⟩
  | 115 => ⟨S1x4x512x512, .f32⟩
  | 116 => ⟨S1x16x512x1, .f32⟩
  | 117 => ⟨S1x16x512x1, .f32⟩
  | 118 => ⟨S1x512x1024, .f32⟩
  | 119 => ⟨S1x512x1024, .f32⟩
  | 120 => ⟨S1x512x1024, .f32⟩
  | 121 => ⟨S1x512x1024, .f32⟩
  | 122 => ⟨S1x1x128, .f32⟩
  | 123 => ⟨S1x1x128, .f32⟩
  | 124 => ⟨S1x512x1024, .f32⟩
  | 125 => ⟨S1x512x1024, .f32⟩
  | 126 => ⟨S1x1024x1024, .f32⟩
  | 127 => ⟨S4x1x1024, .f32⟩
  | _ => ⟨S8x512x1024, .f32⟩

abbrev vmemTy0_1 (i : Nat) : BufTy := match i % 128 with
  | 0 => ⟨S1x512x1024, .f32⟩
  | 1 => ⟨S1x512x1024, .f32⟩
  | 2 => ⟨S1x1x128, .f32⟩
  | 3 => ⟨S1x1x128, .f32⟩
  | 4 => ⟨S1x512x1024, .f32⟩
  | 5 => ⟨S1x512x1024, .f32⟩
  | 6 => ⟨S1x512x1024, .f32⟩
  | 7 => ⟨S1x512x1024, .f32⟩
  | _ => ⟨S8x512x1024, .f32⟩

abbrev vmemTy (i : Nat) : BufTy := match i / 128 with
  | 0 => vmemTy0_0 i
  | 1 => vmemTy0_1 i
  | _ => ⟨S8x512x1024, .f32⟩

abbrev bufTy : (tb : Table) → Fin (tcTables nBuf tb) → BufTy
  | .hbm, ⟨i, _⟩ => hbmTy i
  | .local _ .vmem, ⟨i, _⟩ => vmemTy i
  | .local _ .smem, ⟨0, _⟩ => ⟨S1, .f32⟩
  | .local _ .smem, ⟨1, _⟩ => ⟨S2, .f32⟩
  | .local _ .smem, ⟨2, _⟩ => ⟨S3, .f32⟩
  | .local _ .smem, ⟨3, _⟩ => ⟨S2, .f32⟩
  | .local _ .smem, ⟨4, _⟩ => ⟨S1, .f32⟩
  | .local _ .smem, ⟨5, _⟩ => ⟨S1, .f32⟩
  | .local _ .smem, ⟨6, _⟩ => ⟨S2, .f32⟩
  | .local _ .smem, ⟨7, _⟩ => ⟨S3, .f32⟩
  | .local _ .smem, ⟨8, _⟩ => ⟨S2, .f32⟩
  | .local _ .smem, ⟨9, _⟩ => ⟨S1, .f32⟩
  | .local _ .smem, ⟨10, _⟩ => ⟨S1, .f32⟩
  | _, _ => ⟨S8x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | _, _ => false

abbrev semScoped : Fin 0 → Bool
  | ⟨_, h⟩ => absurd h (Nat.not_lt_zero _)

abbrev dmaSemScoped : Fin 147 → Bool
  | ⟨i, _⟩ => dmaSemScopedAt i

abbrev sig : RefSig :=
  ofTc nBuf bufTy 0 147 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_11 : Ref sig .tc := ⟨.hbm, 62, rfl⟩
abbrev main_v37 : Ref sig .tc := ⟨.hbm, 63, rfl⟩
abbrev main_cst_12 : Ref sig .tc := ⟨.hbm, 64, rfl⟩
abbrev main_v38 : Ref sig .tc := ⟨.hbm, 65, rfl⟩
abbrev main_cst_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44_0 : Ref sig .tc := ⟨.hbm, 72, rfl⟩
abbrev main_v44_1 : Ref sig .tc := ⟨.hbm, 73, rfl⟩
abbrev main_v44_2 : Ref sig .tc := ⟨.hbm, 74, rfl⟩
abbrev main_v44_3 : Ref sig .tc := ⟨.hbm, 75, rfl⟩
abbrev main_v44_4 : Ref sig .tc := ⟨.hbm, 76, rfl⟩
abbrev main_v44_5 : Ref sig .tc := ⟨.hbm, 77, rfl⟩
abbrev main_cst_14 : Ref sig .tc := ⟨.hbm, 78, rfl⟩
abbrev main_v45 : Ref sig .tc := ⟨.hbm, 79, rfl⟩
abbrev main_cst_15 : Ref sig .tc := ⟨.hbm, 80, rfl⟩
abbrev main_v46 : Ref sig .tc := ⟨.hbm, 81, rfl⟩
abbrev main_cst_16 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51_0 : Ref sig .tc := ⟨.hbm, 87, rfl⟩
abbrev main_v51_1 : Ref sig .tc := ⟨.hbm, 88, rfl⟩
abbrev main_cst_17 : Ref sig .tc := ⟨.hbm, 89, rfl⟩
abbrev main_v52 : Ref sig .tc := ⟨.hbm, 90, rfl⟩
abbrev main_cst_18 : Ref sig .tc := ⟨.hbm, 91, rfl⟩
abbrev main_v53 : Ref sig .tc := ⟨.hbm, 92, rfl⟩
abbrev main_cst_19 : Ref sig .tc := ⟨.hbm, 93, rfl⟩
abbrev main_v54 : Ref sig .tc := ⟨.hbm, 94, rfl⟩
abbrev main_v55 : Ref sig .tc := ⟨.hbm, 95, rfl⟩
abbrev main_v56_0 : Ref sig .tc := ⟨.hbm, 96, rfl⟩
abbrev main_v56_1 : Ref sig .tc := ⟨.hbm, 97, rfl⟩
abbrev main_cst_20 : Ref sig .tc := ⟨.hbm, 98, rfl⟩
abbrev main_v57 : Ref sig .tc := ⟨.hbm, 99, rfl⟩
abbrev main_cst_21 : Ref sig .tc := ⟨.hbm, 100, rfl⟩
abbrev main_v58 : Ref sig .tc := ⟨.hbm, 101, rfl⟩
abbrev main_cst_22 : Ref sig .tc := ⟨.hbm, 102, rfl⟩
abbrev main_v59 : Ref sig .tc := ⟨.hbm, 103, rfl⟩
abbrev main_v60 : Ref sig .tc := ⟨.hbm, 104, rfl⟩
abbrev main_v61_0 : Ref sig .tc := ⟨.hbm, 105, rfl⟩
abbrev main_v61_1 : Ref sig .tc := ⟨.hbm, 106, rfl⟩
abbrev main_v61_2 : Ref sig .tc := ⟨.hbm, 107, rfl⟩
abbrev main_v61_3 : Ref sig .tc := ⟨.hbm, 108, rfl⟩
abbrev main_v62 : Ref sig .tc := ⟨.hbm, 109, rfl⟩
abbrev main_v63 : Ref sig .tc := ⟨.hbm, 110, rfl⟩
abbrev main_cst_23 : Ref sig .tc := ⟨.hbm, 111, rfl⟩
abbrev main_v64 : Ref sig .tc := ⟨.hbm, 112, rfl⟩
abbrev main_cst_24 : Ref sig .tc := ⟨.hbm, 113, rfl⟩
abbrev main_v65 : Ref sig .tc := ⟨.hbm, 114, rfl⟩
abbrev main_cst_25 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_26 : Ref sig .tc := ⟨.hbm, 119, rfl⟩
abbrev main_v69 : Ref sig .tc := ⟨.hbm, 120, rfl⟩
abbrev main_cst_27 : Ref sig .tc := ⟨.hbm, 121, rfl⟩
abbrev main_v70 : Ref sig .tc := ⟨.hbm, 122, rfl⟩
abbrev main_cst_28 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_29 : Ref sig .tc := ⟨.hbm, 127, rfl⟩
abbrev main_v74 : Ref sig .tc := ⟨.hbm, 128, rfl⟩
abbrev main_cst_30 : Ref sig .tc := ⟨.hbm, 129, rfl⟩
abbrev main_v75 : Ref sig .tc := ⟨.hbm, 130, rfl⟩
abbrev main_cst_31 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_32 : Ref sig .tc := ⟨.hbm, 137, rfl⟩
abbrev main_v81 : Ref sig .tc := ⟨.hbm, 138, rfl⟩
abbrev main_cst_33 : Ref sig .tc := ⟨.hbm, 139, rfl⟩
abbrev main_v82 : Ref sig .tc := ⟨.hbm, 140, rfl⟩
abbrev main_cst_34 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88_0 : Ref sig .tc := ⟨.hbm, 147, rfl⟩
abbrev main_v88_1 : Ref sig .tc := ⟨.hbm, 148, rfl⟩
abbrev main_v88_2 : Ref sig .tc := ⟨.hbm, 149, rfl⟩
abbrev main_v88_3 : Ref sig .tc := ⟨.hbm, 150, rfl⟩
abbrev main_v88_4 : Ref sig .tc := ⟨.hbm, 151, rfl⟩
abbrev main_v88_5 : Ref sig .tc := ⟨.hbm, 152, rfl⟩
abbrev main_cst_35 : Ref sig .tc := ⟨.hbm, 153, rfl⟩
abbrev main_v89 : Ref sig .tc := ⟨.hbm, 154, rfl⟩
abbrev main_cst_36 : Ref sig .tc := ⟨.hbm, 155, rfl⟩
abbrev main_v90 : Ref sig .tc := ⟨.hbm, 156, rfl⟩
abbrev main_cst_37 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95_0 : Ref sig .tc := ⟨.hbm, 162, rfl⟩
abbrev main_v95_1 : Ref sig .tc := ⟨.hbm, 163, rfl⟩
abbrev main_cst_38 : Ref sig .tc := ⟨.hbm, 164, rfl⟩
abbrev main_v96 : Ref sig .tc := ⟨.hbm, 165, rfl⟩
abbrev main_cst_39 : Ref sig .tc := ⟨.hbm, 166, rfl⟩
abbrev main_v97 : Ref sig .tc := ⟨.hbm, 167, rfl⟩
abbrev main_cst_40 : Ref sig .tc := ⟨.hbm, 168, rfl⟩
abbrev main_v98 : Ref sig .tc := ⟨.hbm, 169, rfl⟩
abbrev main_v99 : Ref sig .tc := ⟨.hbm, 170, rfl⟩
abbrev main_v100_0 : Ref sig .tc := ⟨.hbm, 171, rfl⟩
abbrev main_v100_1 : Ref sig .tc := ⟨.hbm, 172, rfl⟩
abbrev main_cst_41 : Ref sig .tc := ⟨.hbm, 173, rfl⟩
abbrev main_v101 : Ref sig .tc := ⟨.hbm, 174, rfl⟩
abbrev main_cst_42 : Ref sig .tc := ⟨.hbm, 175, rfl⟩
abbrev main_v102 : Ref sig .tc := ⟨.hbm, 176, rfl⟩
abbrev main_cst_43 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc2_stg9_0 : Ref sig .tc := ⟨.vmem, 24, rfl⟩
abbrev cc2_stg9_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc4_stg6_1 : Ref sig .tc := ⟨.vmem, 43, rfl⟩
abbrev cc4_stg7_0 : Ref sig .tc := ⟨.vmem, 44, rfl⟩
abbrev cc4_stg7_1 : Ref sig .tc := ⟨.vmem, 45, rfl⟩
abbrev cc4_stg8_0 : Ref sig .tc := ⟨.vmem, 46, rfl⟩
abbrev cc4_stg8_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc5_stg3_0 : Ref sig .tc := ⟨.vmem, 52, rfl⟩
abbrev cc5_stg3_1 : Ref sig .tc := ⟨.vmem, 53, rfl⟩
abbrev cc5_stg4_0 : Ref sig .tc := ⟨.vmem, 54, rfl⟩
abbrev cc5_stg4_1 : Ref sig .tc := ⟨.vmem, 55, rfl⟩
abbrev cc5_stg5_0 : Ref sig .tc := ⟨.vmem, 56, rfl⟩
abbrev cc5_stg5_1 : Ref sig .tc := ⟨.vmem, 57, rfl⟩
abbrev cc5_stg6_0 : Ref sig .tc := ⟨.vmem, 58, rfl⟩
abbrev cc5_stg6_1 : Ref sig .tc := ⟨.vmem, 59, rfl⟩
abbrev cc5_stg7_0 : Ref sig .tc := ⟨.vmem, 60, rfl⟩
abbrev cc5_stg7_1 : Ref sig .tc := ⟨.vmem, 61, rfl⟩
abbrev cc5_stg8_0 : Ref sig .tc := ⟨.vmem, 62, rfl⟩
abbrev cc5_stg8_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg4_1 : Ref sig .tc := ⟨.vmem, 69, rfl⟩
abbrev cc6_stg5_0 : Ref sig .tc := ⟨.vmem, 70, rfl⟩
abbrev cc6_stg5_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc7_stg6_1 : Ref sig .tc := ⟨.vmem, 79, rfl⟩
abbrev cc7_stg7_0 : Ref sig .tc := ⟨.vmem, 80, rfl⟩
abbrev cc7_stg7_1 : Ref sig .tc := ⟨.vmem, 81, rfl⟩
abbrev cc7_stg8_0 : Ref sig .tc := ⟨.vmem, 82, rfl⟩
abbrev cc7_stg8_1 : Ref sig .tc := ⟨.vmem, 83, rfl⟩
abbrev cc7_stg9_0 : Ref sig .tc := ⟨.vmem, 84, rfl⟩
abbrev cc7_stg9_1 : Ref sig .tc := ⟨.vmem, 85, rfl⟩
abbrev cc8_stg1_0 : Ref sig .tc := ⟨.vmem, 86, rfl⟩
abbrev cc8_stg1_1 : Ref sig .tc := ⟨.vmem, 87, rfl⟩
abbrev cc8_stg2_0 : Ref sig .tc := ⟨.vmem, 88, rfl⟩
abbrev cc8_stg2_1 : Ref sig .tc := ⟨.vmem, 89, rfl⟩
abbrev cc8_stg3_0 : Ref sig .tc := ⟨.vmem, 90, rfl⟩
abbrev cc8_stg3_1 : Ref sig .tc := ⟨.vmem, 91, rfl⟩
abbrev cc9_stg1_0 : Ref sig .tc := ⟨.vmem, 92, rfl⟩
abbrev cc9_stg1_1 : Ref sig .tc := ⟨.vmem, 93, rfl⟩
abbrev cc9_stg2_0 : Ref sig .tc := ⟨.vmem, 94, rfl⟩
abbrev cc9_stg2_1 : Ref sig .tc := ⟨.vmem, 95, rfl⟩
abbrev cc9_stg3_0 : Ref sig .tc := ⟨.vmem, 96, rfl⟩
abbrev cc9_stg3_1 : Ref sig .tc := ⟨.vmem, 97, rfl⟩
abbrev cc9_stg4_0 : Ref sig .tc := ⟨.vmem, 98, rfl⟩
abbrev cc9_stg4_1 : Ref sig .tc := ⟨.vmem, 99, rfl⟩
abbrev cc9_stg5_0 : Ref sig .tc := ⟨.vmem, 100, rfl⟩
abbrev cc9_stg5_1 : Ref sig .tc := ⟨.vmem, 101, rfl⟩
abbrev cc9_stg6_0 : Ref sig .tc := ⟨.vmem, 102, rfl⟩
abbrev cc9_stg6_1 : Ref sig .tc := ⟨.vmem, 103, rfl⟩
abbrev cc9_stg7_0 : Ref sig .tc := ⟨.vmem, 104, rfl⟩
abbrev cc9_stg7_1 : Ref sig .tc := ⟨.vmem, 105, rfl⟩
abbrev cc9_stg8_0 : Ref sig .tc := ⟨.vmem, 106, rfl⟩
abbrev cc9_stg8_1 : Ref sig .tc := ⟨.vmem, 107, rfl⟩
abbrev cc10_stg1_0 : Ref sig .tc := ⟨.vmem, 108, rfl⟩
abbrev cc10_stg1_1 : Ref sig .tc := ⟨.vmem, 109, rfl⟩
abbrev cc10_stg2_0 : Ref sig .tc := ⟨.vmem, 110, rfl⟩
abbrev cc10_stg2_1 : Ref sig .tc := ⟨.vmem, 111, rfl⟩
abbrev cc10_stg3_0 : Ref sig .tc := ⟨.vmem, 112, rfl⟩
abbrev cc10_stg3_1 : Ref sig .tc := ⟨.vmem, 113, rfl⟩
abbrev cc10_stg4_0 : Ref sig .tc := ⟨.vmem, 114, rfl⟩
abbrev cc10_stg4_1 : Ref sig .tc := ⟨.vmem, 115, rfl⟩
abbrev cc10_stg5_0 : Ref sig .tc := ⟨.vmem, 116, rfl⟩
abbrev cc10_stg5_1 : Ref sig .tc := ⟨.vmem, 117, rfl⟩
abbrev cc10_stg6_0 : Ref sig .tc := ⟨.vmem, 118, rfl⟩
abbrev cc10_stg6_1 : Ref sig .tc := ⟨.vmem, 119, rfl⟩
abbrev cc10_stg7_0 : Ref sig .tc := ⟨.vmem, 120, rfl⟩
abbrev cc10_stg7_1 : Ref sig .tc := ⟨.vmem, 121, rfl⟩
abbrev cc10_stg8_0 : Ref sig .tc := ⟨.vmem, 122, rfl⟩
abbrev cc10_stg8_1 : Ref sig .tc := ⟨.vmem, 123, rfl⟩
abbrev cc11_stg1_0 : Ref sig .tc := ⟨.vmem, 124, rfl⟩
abbrev cc11_stg1_1 : Ref sig .tc := ⟨.vmem, 125, rfl⟩
abbrev cc11_stg2_0 : Ref sig .tc := ⟨.vmem, 126, rfl⟩
abbrev cc11_stg3_0 : Ref sig .tc := ⟨.vmem, 127, rfl⟩
abbrev cc11_stg4_0 : Ref sig .tc := ⟨.vmem, 128, rfl⟩
abbrev cc11_stg4_1 : Ref sig .tc := ⟨.vmem, 129, rfl⟩
abbrev cc11_stg5_0 : Ref sig .tc := ⟨.vmem, 130, rfl⟩
abbrev cc11_stg5_1 : Ref sig .tc := ⟨.vmem, 131, rfl⟩
abbrev cc12_stg1_0 : Ref sig .tc := ⟨.vmem, 132, rfl⟩
abbrev cc12_stg1_1 : Ref sig .tc := ⟨.vmem, 133, rfl⟩
abbrev cc12_stg2_0 : Ref sig .tc := ⟨.vmem, 134, rfl⟩
abbrev cc12_stg2_1 : Ref sig .tc := ⟨.vmem, 135, rfl⟩
abbrev cc2_stg0_0 : Ref sig .tc := ⟨.smem, 0, rfl⟩
abbrev cc3_stg0_0 : Ref sig .tc := ⟨.smem, 1, rfl⟩
abbrev cc4_stg0_0 : Ref sig .tc := ⟨.smem, 2, rfl⟩
abbrev cc5_stg0_0 : Ref sig .tc := ⟨.smem, 3, rfl⟩
abbrev cc6_stg0_0 : Ref sig .tc := ⟨.smem, 4, rfl⟩
abbrev cc7_stg0_0 : Ref sig .tc := ⟨.smem, 5, rfl⟩
abbrev cc8_stg0_0 : Ref sig .tc := ⟨.smem, 6, rfl⟩
abbrev cc9_stg0_0 : Ref sig .tc := ⟨.smem, 7, rfl⟩
abbrev cc10_stg0_0 : Ref sig .tc := ⟨.smem, 8, rfl⟩
abbrev cc11_stg0_0 : Ref sig .tc := ⟨.smem, 9, rfl⟩
abbrev cc12_stg0_0 : Ref sig .tc := ⟨.smem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc2_sem7_0 : DmaSem sig := 21
abbrev cc2_sem7_1 : DmaSem sig := 22
abbrev cc2_sem8_0 : DmaSem sig := 23
abbrev cc2_sem8_1 : DmaSem sig := 24
abbrev cc2_sem9_0 : DmaSem sig := 25
abbrev cc2_sem9_1 : DmaSem sig := 26
abbrev cc3_sem0_0 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc4_sem0_0 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem4_1 : DmaSem sig := 42
abbrev cc4_sem5_0 : DmaSem sig := 43
abbrev cc4_sem5_1 : DmaSem sig := 44
abbrev cc4_sem6_0 : DmaSem sig := 45
abbrev cc4_sem6_1 : DmaSem sig := 46
abbrev cc4_sem7_0 : DmaSem sig := 47
abbrev cc4_sem7_1 : DmaSem sig := 48
abbrev cc4_sem8_0 : DmaSem sig := 49
abbrev cc4_sem8_1 : DmaSem sig := 50
abbrev cc5_sem0_0 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc5_sem5_0 : DmaSem sig := 60
abbrev cc5_sem5_1 : DmaSem sig := 61
abbrev cc5_sem6_0 : DmaSem sig := 62
abbrev cc5_sem6_1 : DmaSem sig := 63
abbrev cc5_sem7_0 : DmaSem sig := 64
abbrev cc5_sem7_1 : DmaSem sig := 65
abbrev cc5_sem8_0 : DmaSem sig := 66
abbrev cc5_sem8_1 : DmaSem sig := 67
abbrev cc6_sem0_0 : DmaSem sig := 68
abbrev cc6_sem1_0 : DmaSem sig := 69
abbrev cc6_sem1_1 : DmaSem sig := 70
abbrev cc6_sem2_0 : DmaSem sig := 71
abbrev cc6_sem3_0 : DmaSem sig := 72
abbrev cc6_sem4_0 : DmaSem sig := 73
abbrev cc6_sem4_1 : DmaSem sig := 74
abbrev cc6_sem5_0 : DmaSem sig := 75
abbrev cc6_sem5_1 : DmaSem sig := 76
abbrev cc7_sem0_0 : DmaSem sig := 77
abbrev cc7_sem1_0 : DmaSem sig := 78
abbrev cc7_sem1_1 : DmaSem sig := 79
abbrev cc7_sem2_0 : DmaSem sig := 80
abbrev cc7_sem3_0 : DmaSem sig := 81
abbrev cc7_sem4_0 : DmaSem sig := 82
abbrev cc7_sem5_0 : DmaSem sig := 83
abbrev cc7_sem6_0 : DmaSem sig := 84
abbrev cc7_sem6_1 : DmaSem sig := 85
abbrev cc7_sem7_0 : DmaSem sig := 86
abbrev cc7_sem7_1 : DmaSem sig := 87
abbrev cc7_sem8_0 : DmaSem sig := 88
abbrev cc7_sem8_1 : DmaSem sig := 89
abbrev cc7_sem9_0 : DmaSem sig := 90
abbrev cc7_sem9_1 : DmaSem sig := 91
abbrev cc8_sem0_0 : DmaSem sig := 92
abbrev cc8_sem1_0 : DmaSem sig := 93
abbrev cc8_sem1_1 : DmaSem sig := 94
abbrev cc8_sem2_0 : DmaSem sig := 95
abbrev cc8_sem2_1 : DmaSem sig := 96
abbrev cc8_sem3_0 : DmaSem sig := 97
abbrev cc8_sem3_1 : DmaSem sig := 98
abbrev cc9_sem0_0 : DmaSem sig := 99
abbrev cc9_sem1_0 : DmaSem sig := 100
abbrev cc9_sem1_1 : DmaSem sig := 101
abbrev cc9_sem2_0 : DmaSem sig := 102
abbrev cc9_sem2_1 : DmaSem sig := 103
abbrev cc9_sem3_0 : DmaSem sig := 104
abbrev cc9_sem3_1 : DmaSem sig := 105
abbrev cc9_sem4_0 : DmaSem sig := 106
abbrev cc9_sem4_1 : DmaSem sig := 107
abbrev cc9_sem5_0 : DmaSem sig := 108
abbrev cc9_sem5_1 : DmaSem sig := 109
abbrev cc9_sem6_0 : DmaSem sig := 110
abbrev cc9_sem6_1 : DmaSem sig := 111
abbrev cc9_sem7_0 : DmaSem sig := 112
abbrev cc9_sem7_1 : DmaSem sig := 113
abbrev cc9_sem8_0 : DmaSem sig := 114
abbrev cc9_sem8_1 : DmaSem sig := 115
abbrev cc10_sem0_0 : DmaSem sig := 116
abbrev cc10_sem1_0 : DmaSem sig := 117
abbrev cc10_sem1_1 : DmaSem sig := 118
abbrev cc10_sem2_0 : DmaSem sig := 119
abbrev cc10_sem2_1 : DmaSem sig := 120
abbrev cc10_sem3_0 : DmaSem sig := 121
abbrev cc10_sem3_1 : DmaSem sig := 122
abbrev cc10_sem4_0 : DmaSem sig := 123
abbrev cc10_sem4_1 : DmaSem sig := 124
abbrev cc10_sem5_0 : DmaSem sig := 125
abbrev cc10_sem5_1 : DmaSem sig := 126
abbrev cc10_sem6_0 : DmaSem sig := 127
abbrev cc10_sem6_1 : DmaSem sig := 128
abbrev cc10_sem7_0 : DmaSem sig := 129
abbrev cc10_sem7_1 : DmaSem sig := 130
abbrev cc10_sem8_0 : DmaSem sig := 131
abbrev cc10_sem8_1 : DmaSem sig := 132
abbrev cc11_sem0_0 : DmaSem sig := 133
abbrev cc11_sem1_0 : DmaSem sig := 134
abbrev cc11_sem1_1 : DmaSem sig := 135
abbrev cc11_sem2_0 : DmaSem sig := 136
abbrev cc11_sem3_0 : DmaSem sig := 137
abbrev cc11_sem4_0 : DmaSem sig := 138
abbrev cc11_sem4_1 : DmaSem sig := 139
abbrev cc11_sem5_0 : DmaSem sig := 140
abbrev cc11_sem5_1 : DmaSem sig := 141
abbrev cc12_sem0_0 : DmaSem sig := 142
abbrev cc12_sem1_0 : DmaSem sig := 143
abbrev cc12_sem1_1 : DmaSem sig := 144
abbrev cc12_sem2_0 : DmaSem sig := 145
abbrev cc12_sem2_1 : DmaSem sig := 146

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 4], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S4x1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x3x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![2, 4], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage3_0 : Fin 1 → Memref sig .tc .smem S2 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1x512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 4], ![false, false]⟩

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_1 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_3 (i : grid4.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc4_transform_4 (i : grid4.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc4_transform_5 (i : grid4.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc4_transform_6 (i : grid4.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc4_transform_7 (i : grid4.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc4_transform_8 (i : grid4.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage4_0 : Fin 1 → Memref sig .tc .smem S3 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1x512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x4x512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1x4x512x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1x4x512x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x4x512x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1x16x512x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1x1x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev grid5 : Pipeline.Grid := ⟨2, ![2, 4], ![false, false]⟩

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc5_transform_1 (i : grid5.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc5_transform_2 (i : grid5.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc5_transform_3 (i : grid5.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc5_transform_4 (i : grid5.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc5_transform_5 (i : grid5.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc5_transform_6 (i : grid5.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_8 (i : grid5.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage5_0 : Fin 1 → Memref sig .tc .smem S2 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false]

abbrev stage5_1 : Fin 2 → Memref sig .tc .vmem S1x4x512x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x4x512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x4x512x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1x4x512x512 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S1x16x512x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x512x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1x512x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S1x1x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev grid6 : Pipeline.Grid := ⟨2, ![2, 4], ![false, false]⟩

def cc6_transform_0 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_1 (i : grid6.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc6_transform_5 (i : grid6.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage6_0 : Fin 1 → Memref sig .tc .smem S1 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false]

abbrev stage6_1 : Fin 2 → Memref sig .tc .vmem S1x512x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S1x1024x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S4x1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S1x512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev stage6_5 : Fin 2 → Memref sig .tc .vmem S1x1x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev grid7 : Pipeline.Grid := ⟨2, ![2, 4], ![false, false]⟩

def cc7_transform_0 (i : grid7.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc7_transform_1 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc7_transform_4 (i : grid7.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_5 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_6 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_7 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_8 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc7_transform_9 (i : grid7.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage7_0 : Fin 1 → Memref sig .tc .smem S1 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false]

abbrev stage7_1 : Fin 2 → Memref sig .tc .vmem S1x512x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 1 → Memref sig .tc .vmem S1x1024x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x1024x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S1x1024x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 1 → Memref sig .tc .vmem S4x1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false, false]

abbrev stage7_6 : Fin 2 → Memref sig .tc .vmem S1x512x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S1x512x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev stage7_8 : Fin 2 → Memref sig .tc .vmem S1x512x1024 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, true]

abbrev stage7_9 : Fin 2 → Memref sig .tc .vmem S1x3x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true, true]

abbrev grid8 : Pipeline.Grid := ⟨2, ![2, 4], ![false, false]⟩

def cc8_transform_0 (i : grid8.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc8_transform_1 (i : grid8.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc8_transform_3 (i : grid8.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage8_0 : Fin 1 → Memref sig .tc .smem S2 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, false]

abbrev stage8_1 : Fin 2 → Memref sig .tc .vmem S1x512x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S1x512x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 2 → Memref sig .tc .vmem S1x1x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨2, ![2, 4], ![false, false]⟩

def cc9_transform_0 (i : grid9.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc9_transform_1 (i : grid9.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc9_transform_2 (i : grid9.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc9_transform_3 (i : grid9.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc9_transform_4 (i : grid9.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc9_transform_5 (i : grid9.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc9_transform_6 (i : grid9.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc9_transform_7 (i : grid9.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc9_transform_8 (i : grid9.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage9_0 : Fin 1 → Memref sig .tc .smem S3 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, false]

abbrev stage9_1 : Fin 2 → Memref sig .tc .vmem S1x512x1024 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, true]

abbrev stage9_2 : Fin 2 → Memref sig .tc .vmem S1x512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1x4x512x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev stage9_4 : Fin 2 → Memref sig .tc .vmem S1x4x512x512 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, true]

abbrev stage9_5 : Fin 2 → Memref sig .tc .vmem S1x4x512x512 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, true]

abbrev stage9_6 : Fin 2 → Memref sig .tc .vmem S1x4x512x512 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true, true]

abbrev stage9_7 : Fin 2 → Memref sig .tc .vmem S1x16x512x1 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true, true]

abbrev stage9_8 : Fin 2 → Memref sig .tc .vmem S1x1x128 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true, true]

abbrev grid10 : Pipeline.Grid := ⟨2, ![2, 4], ![false, false]⟩

def cc10_transform_0 (i : grid10.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc10_transform_1 (i : grid10.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc10_transform_2 (i : grid10.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc10_transform_3 (i : grid10.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc10_transform_4 (i : grid10.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc10_transform_5 (i : grid10.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc10_transform_6 (i : grid10.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc10_transform_7 (i : grid10.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc10_transform_8 (i : grid10.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage10_0 : Fin 1 → Memref sig .tc .smem S2 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false, false]

abbrev stage10_1 : Fin 2 → Memref sig .tc .vmem S1x4x512x512 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, true]

abbrev stage10_2 : Fin 2 → Memref sig .tc .vmem S1x4x512x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev stage10_3 : Fin 2 → Memref sig .tc .vmem S1x4x512x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev stage10_4 : Fin 2 → Memref sig .tc .vmem S1x4x512x512 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev stage10_5 : Fin 2 → Memref sig .tc .vmem S1x16x512x1 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true, true]

abbrev stage10_6 : Fin 2 → Memref sig .tc .vmem S1x512x1024 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true, true]

abbrev stage10_7 : Fin 2 → Memref sig .tc .vmem S1x512x1024 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true, true]

abbrev stage10_8 : Fin 2 → Memref sig .tc .vmem S1x1x128 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true, true]

abbrev grid11 : Pipeline.Grid := ⟨2, ![2, 4], ![false, false]⟩

def cc11_transform_0 (i : grid11.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc11_transform_1 (i : grid11.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc11_transform_2 (i : grid11.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc11_transform_3 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc11_transform_4 (i : grid11.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc11_transform_5 (i : grid11.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage11_0 : Fin 1 → Memref sig .tc .smem S1 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false, false]

abbrev stage11_1 : Fin 2 → Memref sig .tc .vmem S1x512x1024 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true, true]

abbrev stage11_2 : Fin 1 → Memref sig .tc .vmem S1x1024x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false, false]

abbrev stage11_3 : Fin 1 → Memref sig .tc .vmem S4x1x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false, false]

abbrev stage11_4 : Fin 2 → Memref sig .tc .vmem S1x512x1024 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true, true]

abbrev stage11_5 : Fin 2 → Memref sig .tc .vmem S1x1x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true, true]

abbrev grid12 : Pipeline.Grid := ⟨2, ![2, 4], ![false, false]⟩

def cc12_transform_0 (i : grid12.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc12_transform_1 (i : grid12.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc12_transform_2 (i : grid12.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage12_0 : Fin 1 → Memref sig .tc .smem S1 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false, false]

abbrev stage12_1 : Fin 2 → Memref sig .tc .vmem S1x512x1024 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, true]

abbrev stage12_2 : Fin 2 → Memref sig .tc .vmem S1x512x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]
-- ==== ReferenceIdeal.lean ====
abbrev S8x512x1024 : Shape := ⟨3, ![8, 512, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S8x512x16x64 : Shape := ⟨4, ![8, 512, 16, 64]⟩
abbrev S8x16x512x64 : Shape := ⟨4, ![8, 16, 512, 64]⟩
abbrev S8x16x512x512 : Shape := ⟨4, ![8, 16, 512, 512]⟩
abbrev S8x16x512 : Shape := ⟨3, ![8, 16, 512]⟩
abbrev S8x16x512x1 : Shape := ⟨4, ![8, 16, 512, 1]⟩

abbrev nBuf : Space → Nat
  | .hbm => 807
  | .vmem => 0
  | .smem => 0
  | _ => 0

abbrev hbmTy0_0 (i : Nat) : BufTy := match i % 128 with
  | 0 => ⟨S8x512x1024, .f32⟩
  | 1 => ⟨S1024x1024, .f32⟩
  | 2 => ⟨S1024x1024, .f32⟩
  | 3 => ⟨S1024x1024, .f32⟩
  | 4 => ⟨S1024x1024, .f32⟩
  | 5 => ⟨S1024, .f32⟩
  | 6 => ⟨S1024, .f32⟩
  | 7 => ⟨S1024, .f32⟩
  | 8 => ⟨S1024, .f32⟩
  | 9 => ⟨S8x512x1024, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S8x512x1024, .f32⟩
  | 17 => ⟨S8x512x1024, .f32⟩
  | 18 => ⟨S8x512x1024, .f32⟩
  | 19 => ⟨S_, .f32⟩
  | 20 => ⟨S_, .f32⟩
  | 21 => ⟨S_, .f32⟩
  | 22 => ⟨S8x512x1024, .f32⟩
  | 23 => ⟨S8x512x1024, .f32⟩
  | 24 => ⟨S_, .f32⟩
  | 25 => ⟨S8x512x1024, .f32⟩
  | 26 => ⟨S8x512x1024, .f32⟩
  | 27 => ⟨S8x512x1024, .f32⟩
  | 28 => ⟨S8x512x1024, .f32⟩
  | 29 => ⟨S8x512x1024, .f32⟩
  | 30 => ⟨S8x512x1024, .f32⟩
  | 31 => ⟨S1024x1024, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1024x1024, .f32⟩
  | 39 => ⟨S1024x1024, .f32⟩
  | 40 => ⟨S1024x1024, .f32⟩
  | 41 => ⟨S_, .f32⟩
  | 42 => ⟨S_, .f32⟩
  | 43 => ⟨S_, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S1024x1024, .f32⟩
  | 51 => ⟨S1024x1024, .f32⟩
  | 52 => ⟨S1024x1024, .f32⟩
  | 53 => ⟨S1024x1024, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S1024x1024, .f32⟩
  | 61 => ⟨S1024x1024, .f32⟩
  | 62 => ⟨S1024x1024, .f32⟩
  | 63 => ⟨S_, .f32⟩
  | 64 => ⟨S_, .f32⟩
  | 65 => ⟨S_, .f32⟩
  | 66 => ⟨S1024x1024, .f32⟩
  | 67 => ⟨S1024x1024, .f32⟩
  | 68 => ⟨S_, .f32⟩
  | 69 => ⟨S1024x1024, .f32⟩
  | 70 => ⟨S1024x1024, .f32⟩
  | 71 => ⟨S1024x1024, .f32⟩
  | 72 => ⟨S1024x1024, .f32⟩
  | 73 => ⟨S1024x1024, .f32⟩
  | 74 => ⟨S1024x1024, .f32⟩
  | 75 => ⟨S1024x1024, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1024x1024, .f32⟩
  | 83 => ⟨S1024x1024, .f32⟩
  | 84 => ⟨S1024x1024, .f32⟩
  | 85 => ⟨S_, .f32⟩
  | 86 => ⟨S_, .f32⟩
  | 87 => ⟨S_, .f32⟩
  | 88 => ⟨S1024x1024, .f32⟩
  | 89 => ⟨S1024x1024, .f32⟩
  | 90 => ⟨S_, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1024x1024, .f32⟩
  | 105 => ⟨S1024x1024, .f32⟩
  | 106 => ⟨S1024x1024, .f32⟩
  | 107 => ⟨S_, .f32⟩
  | 108 => ⟨S_, .f32⟩
  | 109 => ⟨S_, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S1024x1024, .f32⟩
  | 116 => ⟨S1024x1024, .f32⟩
  | 117 => ⟨S1024x1024, .f32⟩
  | 118 => ⟨S1024x1024, .f32⟩
  | 119 => ⟨S1024x1024, .f32⟩
  | 120 => ⟨S8x512x1024, .f32⟩
  | 121 => ⟨S1024, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x512x1024, .f32⟩

abbrev hbmTy0_1 (i : Nat) : BufTy := match i % 128 with
  | 0 => ⟨S1024, .f32⟩
  | 1 => ⟨S1024, .f32⟩
  | 2 => ⟨S1024, .f32⟩
  | 3 => ⟨S_, .f32⟩
  | 4 => ⟨S_, .f32⟩
  | 5 => ⟨S_, .f32⟩
  | 6 => ⟨S1024, .f32⟩
  | 7 => ⟨S1024, .f32⟩
  | 8 => ⟨S_, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1x1x1024, .f32⟩
  | 16 => ⟨S8x512x1024, .f32⟩
  | 17 => ⟨S8x512x1024, .f32⟩
  | 18 => ⟨S1024x1024, .f32⟩
  | 19 => ⟨S8x512x1024, .f32⟩
  | 20 => ⟨S1024, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S1024, .f32⟩
  | 28 => ⟨S1024, .f32⟩
  | 29 => ⟨S1024, .f32⟩
  | 30 => ⟨S_, .f32⟩
  | 31 => ⟨S_, .f32⟩
  | 32 => ⟨S_, .f32⟩
  | 33 => ⟨S1024, .f32⟩
  | 34 => ⟨S1024, .f32⟩
  | 35 => ⟨S_, .f32⟩
  | 36 => ⟨S1024, .f32⟩
  | 37 => ⟨S1024, .f32⟩
  | 38 => ⟨S1024, .f32⟩
  | 39 => ⟨S1024, .f32⟩
  | 40 => ⟨S1024, .f32⟩
  | 41 => ⟨S1024, .f32⟩
  | 42 => ⟨S1x1x1024, .f32⟩
  | 43 => ⟨S8x512x1024, .f32⟩
  | 44 => ⟨S8x512x1024, .f32⟩
  | 45 => ⟨S1024x1024, .f32⟩
  | 46 => ⟨S8x512x1024, .f32⟩
  | 47 => ⟨S1024, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S1024, .f32⟩
  | 55 => ⟨S1024, .f32⟩
  | 56 => ⟨S1024, .f32⟩
  | 57 => ⟨S_, .f32⟩
  | 58 => ⟨S_, .f32⟩
  | 59 => ⟨S_, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1x1x1024, .f32⟩
  | 70 => ⟨S8x512x1024, .f32⟩
  | 71 => ⟨S8x512x1024, .f32⟩
  | 72 => ⟨S8x512x16x64, .f32⟩
  | 73 => ⟨S8x16x512x64, .f32⟩
  | 74 => ⟨S8x512x16x64, .f32⟩
  | 75 => ⟨S8x16x512x64, .f32⟩
  | 76 => ⟨S8x512x16x64, .f32⟩
  | 77 => ⟨S8x16x512x64, .f32⟩
  | 78 => ⟨S_, .f32⟩
  | 79 => ⟨S8x16x512x64, .f32⟩
  | 80 => ⟨S8x16x512x64, .f32⟩
  | 81 => ⟨S8x16x512x64, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S8x16x512x64, .f32⟩
  | 89 => ⟨S8x16x512x64, .f32⟩
  | 90 => ⟨S8x16x512x64, .f32⟩
  | 91 => ⟨S_, .f32⟩
  | 92 => ⟨S_, .f32⟩
  | 93 => ⟨S_, .f32⟩
  | 94 => ⟨S8x16x512x64, .f32⟩
  | 95 => ⟨S8x16x512x64, .f32⟩
  | 96 => ⟨S_, .f32⟩
  | 97 => ⟨S8x16x512x64, .f32⟩
  | 98 => ⟨S8x16x512x64, .f32⟩
  | 99 => ⟨S8x16x512x64, .f32⟩
  | 100 => ⟨S8x16x512x64, .f32⟩
  | 101 => ⟨S8x16x512x64, .f32⟩
  | 102 => ⟨S8x16x512x64, .f32⟩
  | 103 => ⟨S8x16x512x64, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S8x16x512x64, .f32⟩
  | 111 => ⟨S8x16x512x64, .f32⟩
  | 112 => ⟨S8x16x512x64, .f32⟩
  | 113 => ⟨S_, .f32⟩
  | 114 => ⟨S_, .f32⟩
  | 115 => ⟨S_, .f32⟩
  | 116 => ⟨S8x16x512x64, .f32⟩
  | 117 => ⟨S8x16x512x64, .f32⟩
  | 118 => ⟨S_, .f32⟩
  | 119 => ⟨S8x16x512x64, .f32⟩
  | 120 => ⟨S8x16x512x64, .f32⟩
  | 121 => ⟨S8x16x512x64, .f32⟩
  | 122 => ⟨S8x16x512x64, .f32⟩
  | 123 => ⟨S8x16x512x64, .f32⟩
  | 124 => ⟨S8x16x512x64, .f32⟩
  | 125 => ⟨S8x16x512x64, .f32⟩
  | 126 => ⟨S_, .f32⟩
  | 127 => ⟨S_, .f32⟩
  | _ => ⟨S8x512x1024, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S8x16x512x64, .f32⟩
  | 5 => ⟨S8x16x512x64, .f32⟩
  | 6 => ⟨S8x16x512x64, .f32⟩
  | 7 => ⟨S_, .f32⟩
  | 8 => ⟨S_, .f32⟩
  | 9 => ⟨S_, .f32⟩
  | 10 => ⟨S8x16x512x64, .f32⟩
  | 11 => ⟨S8x16x512x64, .f32⟩
  | 12 => ⟨S_, .f32⟩
  | 13 => ⟨S8x16x512x64, .f32⟩
  | 14 => ⟨S8x16x512x64, .f32⟩
  | 15 => ⟨S8x16x512x64, .f32⟩
  | 16 => ⟨S8x16x512x64, .f32⟩
  | 17 => ⟨S8x16x512x64, .f32⟩
  | 18 => ⟨S8x16x512x64, .f32⟩
  | 19 => ⟨S8x16x512x512, .f32⟩
  | 20 => ⟨S8x16x512x512, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S8x16x512x512, .f32⟩
  | 28 => ⟨S8x16x512x512, .f32⟩
  | 29 => ⟨S8x16x512x512, .f32⟩
  | 30 => ⟨S_, .f32⟩
  | 31 => ⟨S_, .f32⟩
  | 32 => ⟨S_, .f32⟩
  | 33 => ⟨S8x16x512x512, .f32⟩
  | 34 => ⟨S8x16x512x512, .f32⟩
  | 35 => ⟨S_, .f32⟩
  | 36 => ⟨S8x16x512x512, .f32⟩
  | 37 => ⟨S8x16x512x512, .f32⟩
  | 38 => ⟨S8x16x512x512, .f32⟩
  | 39 => ⟨S8x16x512x512, .f32⟩
  | 40 => ⟨S8x16x512x512, .f32⟩
  | 41 => ⟨S8x16x512x512, .f32⟩
  | 42 => ⟨S_, .f32⟩
  | 43 => ⟨S8x16x512, .f32⟩
  | 44 => ⟨S_, .f32⟩
  | 45 => ⟨S8x16x512, .f32⟩
  | 46 => ⟨S8x16x512, .f32⟩
  | 47 => ⟨S8x16x512x1, .f32⟩
  | 48 => ⟨S8x16x512x512, .f32⟩
  | 49 => ⟨S8x16x512x512, .f32⟩
  | 50 => ⟨S8x16x512x512, .f32⟩
  | 51 => ⟨S_, .f32⟩
  | 52 => ⟨S8x16x512, .f32⟩
  | 53 => ⟨S8x16x512x1, .f32⟩
  | 54 => ⟨S8x16x512x512, .f32⟩
  | 55 => ⟨S8x16x512x512, .f32⟩
  | 56 => ⟨S8x16x512x512, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S8x16x512x512, .f32⟩
  | 64 => ⟨S8x16x512x512, .f32⟩
  | 65 => ⟨S8x16x512x512, .f32⟩
  | 66 => ⟨S_, .f32⟩
  | 67 => ⟨S_, .f32⟩
  | 68 => ⟨S_, .f32⟩
  | 69 => ⟨S8x16x512x512, .f32⟩
  | 70 => ⟨S8x16x512x512, .f32⟩
  | 71 => ⟨S_, .f32⟩
  | 72 => ⟨S8x16x512x512, .f32⟩
  | 73 => ⟨S8x16x512x512, .f32⟩
  | 74 => ⟨S8x16x512x512, .f32⟩
  | 75 => ⟨S8x16x512x512, .f32⟩
  | 76 => ⟨S8x16x512x512, .f32⟩
  | 77 => ⟨S8x16x512x512, .f32⟩
  | 78 => ⟨S8x16x512x64, .f32⟩
  | 79 => ⟨S8x512x16x64, .f32⟩
  | 80 => ⟨S8x512x1024, .f32⟩
  | 81 => ⟨S8x512x1024, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S8x512x1024, .f32⟩
  | 89 => ⟨S8x512x1024, .f32⟩
  | 90 => ⟨S8x512x1024, .f32⟩
  | 91 => ⟨S_, .f32⟩
  | 92 => ⟨S_, .f32⟩
  | 93 => ⟨S_, .f32⟩
  | 94 => ⟨S8x512x1024, .f32⟩
  | 95 => ⟨S8x512x1024, .f32⟩
  | 96 => ⟨S_, .f32⟩
  | 97 => ⟨S8x512x1024, .f32⟩
  | 98 => ⟨S8x512x1024, .f32⟩
  | 99 => ⟨S8x512x1024, .f32⟩
  | 100 => ⟨S8x512x1024, .f32⟩
  | 101 => ⟨S8x512x1024, .f32⟩
  | 102 => ⟨S8x512x1024, .f32⟩
  | 103 => ⟨S1024x1024, .f32⟩
  | 104 => ⟨S8x512x1024, .f32⟩
  | 105 => ⟨S1024, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S1024, .f32⟩
  | 113 => ⟨S1024, .f32⟩
  | 114 => ⟨S1024, .f32⟩
  | 115 => ⟨S_, .f32⟩
  | 116 => ⟨S_, .f32⟩
  | 117 => ⟨S_, .f32⟩
  | 118 => ⟨S1024, .f32⟩
  | 119 => ⟨S1024, .f32⟩
  | 120 => ⟨S_, .f32⟩
  | 121 => ⟨S1024, .f32⟩
  | 122 => ⟨S1024, .f32⟩
  | 123 => ⟨S1024, .f32⟩
  | 124 => ⟨S1024, .f32⟩
  | 125 => ⟨S1024, .f32⟩
  | 126 => ⟨S1024, .f32⟩
  | 127 => ⟨S1x1x1024, .f32⟩
  | _ => ⟨S8x512x1024, .f32⟩

abbrev hbmTy0_3 (i : Nat) : BufTy := match i % 128 with
  | 0 => ⟨S8x512x1024, .f32⟩
  | 1 => ⟨S8x512x1024, .f32⟩
  | 2 => ⟨S8x512x1024, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S8x512x1024, .f32⟩
  | 10 => ⟨S8x512x1024, .f32⟩
  | 11 => ⟨S8x512x1024, .f32⟩
  | 12 => ⟨S_, .f32⟩
  | 13 => ⟨S_, .f32⟩
  | 14 => ⟨S_, .f32⟩
  | 15 => ⟨S8x512x1024, .f32⟩
  | 16 => ⟨S8x512x1024, .f32⟩
  | 17 => ⟨S_, .f32⟩
  | 18 => ⟨S8x512x1024, .f32⟩
  | 19 => ⟨S8x512x1024, .f32⟩
  | 20 => ⟨S8x512x1024, .f32⟩
  | 21 => ⟨S8x512x1024, .f32⟩
  | 22 => ⟨S8x512x1024, .f32⟩
  | 23 => ⟨S8x512x1024, .f32⟩
  | 24 => ⟨S8x512x1024, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S8x512x1024, .f32⟩
  | 32 => ⟨S8x512x1024, .f32⟩
  | 33 => ⟨S8x512x1024, .f32⟩
  | 34 => ⟨S_, .f32⟩
  | 35 => ⟨S_, .f32⟩
  | 36 => ⟨S_, .f32⟩
  | 37 => ⟨S8x512x1024, .f32⟩
  | 38 => ⟨S8x512x1024, .f32⟩
  | 39 => ⟨S_, .f32⟩
  | 40 => ⟨S8x512x1024, .f32⟩
  | 41 => ⟨S8x512x1024, .f32⟩
  | 42 => ⟨S8x512x1024, .f32⟩
  | 43 => ⟨S8x512x1024, .f32⟩
  | 44 => ⟨S8x512x1024, .f32⟩
  | 45 => ⟨S8x512x1024, .f32⟩
  | 46 => ⟨S1024x1024, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S1024x1024, .f32⟩
  | 54 => ⟨S1024x1024, .f32⟩
  | 55 => ⟨S1024x1024, .f32⟩
  | 56 => ⟨S_, .f32⟩
  | 57 => ⟨S_, .f32⟩
  | 58 => ⟨S_, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S1024x1024, .f32⟩
  | 66 => ⟨S1024x1024, .f32⟩
  | 67 => ⟨S1024x1024, .f32⟩
  | 68 => ⟨S1024x1024, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S1024x1024, .f32⟩
  | 76 => ⟨S1024x1024, .f32⟩
  | 77 => ⟨S1024x1024, .f32⟩
  | 78 => ⟨S_, .f32⟩
  | 79 => ⟨S_, .f32⟩
  | 80 => ⟨S_, .f32⟩
  | 81 => ⟨S1024x1024, .f32⟩
  | 82 => ⟨S1024x1024, .f32⟩
  | 83 => ⟨S_, .f32⟩
  | 84 => ⟨S1024x1024, .f32⟩
  | 85 => ⟨S1024x1024, .f32⟩
  | 86 => ⟨S1024x1024, .f32⟩
  | 87 => ⟨S1024x1024, .f32⟩
  | 88 => ⟨S1024x1024, .f32⟩
  | 89 => ⟨S1024x1024, .f32⟩
  | 90 => ⟨S1024x1024, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1024x1024, .f32⟩
  | 98 => ⟨S1024x1024, .f32⟩
  | 99 => ⟨S1024x1024, .f32⟩
  | 100 => ⟨S_, .f32⟩
  | 101 => ⟨S_, .f32⟩
  | 102 => ⟨S_, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S1024x1024, .f32⟩
  | 112 => ⟨S1024x1024, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S1024x1024, .f32⟩
  | 120 => ⟨S1024x1024, .f32⟩
  | 121 => ⟨S1024x1024, .f32⟩
  | 122 => ⟨S_, .f32⟩
  | 123 => ⟨S_, .f32⟩
  | 124 => ⟨S_, .f32⟩
  | 125 => ⟨S1024x1024, .f32⟩
  | 126 => ⟨S1024x1024, .f32⟩
  | 127 => ⟨S_, .f32⟩
  | _ => ⟨S8x512x1024, .f32⟩

abbrev hbmTy0_4 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S8x512x1024, .f32⟩
  | 8 => ⟨S1024, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S1024, .f32⟩
  | 16 => ⟨S1024, .f32⟩
  | 17 => ⟨S1024, .f32⟩
  | 18 => ⟨S_, .f32⟩
  | 19 => ⟨S_, .f32⟩
  | 20 => ⟨S_, .f32⟩
  | 21 => ⟨S1024, .f32⟩
  | 22 => ⟨S1024, .f32⟩
  | 23 => ⟨S_, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1x1x1024, .f32⟩
  | 31 => ⟨S8x512x1024, .f32⟩
  | 32 => ⟨S8x512x1024, .f32⟩
  | 33 => ⟨S1024x1024, .f32⟩
  | 34 => ⟨S8x512x1024, .f32⟩
  | 35 => ⟨S1024, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S1024, .f32⟩
  | 43 => ⟨S1024, .f32⟩
  | 44 => ⟨S1024, .f32⟩
  | 45 => ⟨S_, .f32⟩
  | 46 => ⟨S_, .f32⟩
  | 47 => ⟨S_, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S1024, .f32⟩
  | 55 => ⟨S1024, .f32⟩
  | 56 => ⟨S1024, .f32⟩
  | 57 => ⟨S1x1x1024, .f32⟩
  | 58 => ⟨S8x512x1024, .f32⟩
  | 59 => ⟨S8x512x1024, .f32⟩
  | 60 => ⟨S1024x1024, .f32⟩
  | 61 => ⟨S8x512x1024, .f32⟩
  | 62 => ⟨S1024, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S1024, .f32⟩
  | 70 => ⟨S1024, .f32⟩
  | 71 => ⟨S1024, .f32⟩
  | 72 => ⟨S_, .f32⟩
  | 73 => ⟨S_, .f32⟩
  | 74 => ⟨S_, .f32⟩
  | 75 => ⟨S1024, .f32⟩
  | 76 => ⟨S1024, .f32⟩
  | 77 => ⟨S_, .f32⟩
  | 78 => ⟨S1024, .f32⟩
  | 79 => ⟨S1024, .f32⟩
  | 80 => ⟨S1024, .f32⟩
  | 81 => ⟨S1024, .f32⟩
  | 82 => ⟨S1024, .f32⟩
  | 83 => ⟨S1024, .f32⟩
  | 84 => ⟨S1x1x1024, .f32⟩
  | 85 => ⟨S8x512x1024, .f32⟩
  | 86 => ⟨S8x512x1024, .f32⟩
  | 87 => ⟨S8x512x16x64, .f32⟩
  | 88 => ⟨S8x16x512x64, .f32⟩
  | 89 => ⟨S8x512x16x64, .f32⟩
  | 90 => ⟨S8x16x512x64, .f32⟩
  | 91 => ⟨S8x512x16x64, .f32⟩
  | 92 => ⟨S8x16x512x64, .f32⟩
  | 93 => ⟨S_, .f32⟩
  | 94 => ⟨S8x16x512x64, .f32⟩
  | 95 => ⟨S8x16x512x64, .f32⟩
  | 96 => ⟨S8x16x512x64, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S8x16x512x64, .f32⟩
  | 104 => ⟨S8x16x512x64, .f32⟩
  | 105 => ⟨S8x16x512x64, .f32⟩
  | 106 => ⟨S_, .f32⟩
  | 107 => ⟨S_, .f32⟩
  | 108 => ⟨S_, .f32⟩
  | 109 => ⟨S8x16x512x64, .f32⟩
  | 110 => ⟨S8x16x512x64, .f32⟩
  | 111 => ⟨S_, .f32⟩
  | 112 => ⟨S8x16x512x64, .f32⟩
  | 113 => ⟨S8x16x512x64, .f32⟩
  | 114 => ⟨S8x16x512x64, .f32⟩
  | 115 => ⟨S8x16x512x64, .f32⟩
  | 116 => ⟨S8x16x512x64, .f32⟩
  | 117 => ⟨S8x16x512x64, .f32⟩
  | 118 => ⟨S8x16x512x64, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S8x16x512x64, .f32⟩
  | 126 => ⟨S8x16x512x64, .f32⟩
  | 127 => ⟨S8x16x512x64, .f32⟩
  | _ => ⟨S8x512x1024, .f32⟩

abbrev hbmTy0_5 (i : Nat) : BufTy := match i % 128 with
  | 0 => ⟨S_, .f32⟩
  | 1 => ⟨S_, .f32⟩
  | 2 => ⟨S_, .f32⟩
  | 3 => ⟨S8x16x512x64, .f32⟩
  | 4 => ⟨S8x16x512x64, .f32⟩
  | 5 => ⟨S_, .f32⟩
  | 6 => ⟨S8x16x512x64, .f32⟩
  | 7 => ⟨S8x16x512x64, .f32⟩
  | 8 => ⟨S8x16x512x64, .f32⟩
  | 9 => ⟨S8x16x512x64, .f32⟩
  | 10 => ⟨S8x16x512x64, .f32⟩
  | 11 => ⟨S8x16x512x64, .f32⟩
  | 12 => ⟨S8x16x512x64, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S8x16x512x64, .f32⟩
  | 20 => ⟨S8x16x512x64, .f32⟩
  | 21 => ⟨S8x16x512x64, .f32⟩
  | 22 => ⟨S_, .f32⟩
  | 23 => ⟨S_, .f32⟩
  | 24 => ⟨S_, .f32⟩
  | 25 => ⟨S8x16x512x64, .f32⟩
  | 26 => ⟨S8x16x512x64, .f32⟩
  | 27 => ⟨S_, .f32⟩
  | 28 => ⟨S8x16x512x64, .f32⟩
  | 29 => ⟨S8x16x512x64, .f32⟩
  | 30 => ⟨S8x16x512x64, .f32⟩
  | 31 => ⟨S8x16x512x64, .f32⟩
  | 32 => ⟨S8x16x512x64, .f32⟩
  | 33 => ⟨S8x16x512x64, .f32⟩
  | 34 => ⟨S8x16x512x512, .f32⟩
  | 35 => ⟨S8x16x512x512, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S8x16x512x512, .f32⟩
  | 43 => ⟨S8x16x512x512, .f32⟩
  | 44 => ⟨S8x16x512x512, .f32⟩
  | 45 => ⟨S_, .f32⟩
  | 46 => ⟨S_, .f32⟩
  | 47 => ⟨S_, .f32⟩
  | 48 => ⟨S8x16x512x512, .f32⟩
  | 49 => ⟨S8x16x512x512, .f32⟩
  | 50 => ⟨S_, .f32⟩
  | 51 => ⟨S8x16x512x512, .f32⟩
  | 52 => ⟨S8x16x512x512, .f32⟩
  | 53 => ⟨S8x16x512x512, .f32⟩
  | 54 => ⟨S8x16x512x512, .f32⟩
  | 55 => ⟨S8x16x512x512, .f32⟩
  | 56 => ⟨S8x16x512x512, .f32⟩
  | 57 => ⟨S_, .f32⟩
  | 58 => ⟨S8x16x512, .f32⟩
  | 59 => ⟨S_, .f32⟩
  | 60 => ⟨S8x16x512, .f32⟩
  | 61 => ⟨S8x16x512, .f32⟩
  | 62 => ⟨S8x16x512x1, .f32⟩
  | 63 => ⟨S8x16x512x512, .f32⟩
  | 64 => ⟨S8x16x512x512, .f32⟩
  | 65 => ⟨S8x16x512x512, .f32⟩
  | 66 => ⟨S_, .f32⟩
  | 67 => ⟨S8x16x512, .f32⟩
  | 68 => ⟨S8x16x512x1, .f32⟩
  | 69 => ⟨S8x16x512x512, .f32⟩
  | 70 => ⟨S8x16x512x512, .f32⟩
  | 71 => ⟨S8x16x512x512, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S8x16x512x512, .f32⟩
  | 79 => ⟨S8x16x512x512, .f32⟩
  | 80 => ⟨S8x16x512x512, .f32⟩
  | 81 => ⟨S_, .f32⟩
  | 82 => ⟨S_, .f32⟩
  | 83 => ⟨S_, .f32⟩
  | 84 => ⟨S8x16x512x512, .f32⟩
  | 85 => ⟨S8x16x512x512, .f32⟩
  | 86 => ⟨S_, .f32⟩
  | 87 => ⟨S8x16x512x512, .f32⟩
  | 88 => ⟨S8x16x512x512, .f32⟩
  | 89 => ⟨S8x16x512x512, .f32⟩
  | 90 => ⟨S8x16x512x512, .f32⟩
  | 91 => ⟨S8x16x512x512, .f32⟩
  | 92 => ⟨S8x16x512x512, .f32⟩
  | 93 => ⟨S8x16x512x64, .f32⟩
  | 94 => ⟨S8x512x16x64, .f32⟩
  | 95 => ⟨S8x512x1024, .f32⟩
  | 96 => ⟨S8x512x1024, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S8x512x1024, .f32⟩
  | 104 => ⟨S8x512x1024, .f32⟩
  | 105 => ⟨S8x512x1024, .f32⟩
  | 106 => ⟨S_, .f32⟩
  | 107 => ⟨S_, .f32⟩
  | 108 => ⟨S_, .f32⟩
  | 109 => ⟨S8x512x1024, .f32⟩
  | 110 => ⟨S8x512x1024, .f32⟩
  | 111 => ⟨S_, .f32⟩
  | 112 => ⟨S8x512x1024, .f32⟩
  | 113 => ⟨S8x512x1024, .f32⟩
  | 114 => ⟨S8x512x1024, .f32⟩
  | 115 => ⟨S8x512x1024, .f32⟩
  | 116 => ⟨S8x512x1024, .f32⟩
  | 117 => ⟨S8x512x1024, .f32⟩
  | 118 => ⟨S1024x1024, .f32⟩
  | 119 => ⟨S8x512x1024, .f32⟩
  | 120 => ⟨S1024, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S1024, .f32⟩
  | _ => ⟨S8x512x1024, .f32⟩

abbrev hbmTy0_6 (i : Nat) : BufTy := match i % 128 with
  | 0 => ⟨S1024, .f32⟩
  | 1 => ⟨S1024, .f32⟩
  | 2 => ⟨S_, .f32⟩
  | 3 => ⟨S_, .f32⟩
  | 4 => ⟨S_, .f32⟩
  | 5 => ⟨S1024, .f32⟩
  | 6 => ⟨S1024, .f32⟩
  | 7 => ⟨S_, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1x1x1024, .f32⟩
  | 15 => ⟨S8x512x1024, .f32⟩
  | 16 => ⟨S8x512x1024, .f32⟩
  | 17 => ⟨S8x512x1024, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S8x512x1024, .f32⟩
  | 25 => ⟨S8x512x1024, .f32⟩
  | 26 => ⟨S8x512x1024, .f32⟩
  | 27 => ⟨S_, .f32⟩
  | 28 => ⟨S_, .f32⟩
  | 29 => ⟨S_, .f32⟩
  | 30 => ⟨S8x512x1024, .f32⟩
  | 31 => ⟨S8x512x1024, .f32⟩
  | 32 => ⟨S_, .f32⟩
  | 33 => ⟨S8x512x1024, .f32⟩
  | 34 => ⟨S8x512x1024, .f32⟩
  | 35 => ⟨S8x512x1024, .f32⟩
  | 36 => ⟨S8x512x1024, .f32⟩
  | 37 => ⟨S8x512x1024, .f32⟩
  | 38 => ⟨S8x512x1024, .f32⟩
  | _ => ⟨S8x512x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8x512x1024, .f32⟩

abbrev bufTy : (tb : Table) → Fin (tcTables nBuf tb) → BufTy
  | .hbm, ⟨i, _⟩ => hbmTy i
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_9 : Ref sig .tc := ⟨.hbm, 54, rfl⟩
abbrev main_v25 : Ref sig .tc := ⟨.hbm, 55, rfl⟩
abbrev main_cst_10 : Ref sig .tc := ⟨.hbm, 56, rfl⟩
abbrev main_v26 : Ref sig .tc := ⟨.hbm, 57, rfl⟩
abbrev main_cst_11 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_12 : Ref sig .tc := ⟨.hbm, 63, rfl⟩
abbrev main_cst_13 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_14 : Ref sig .tc := ⟨.hbm, 76, rfl⟩
abbrev main_v37 : Ref sig .tc := ⟨.hbm, 77, rfl⟩
abbrev main_cst_15 : Ref sig .tc := ⟨.hbm, 78, rfl⟩
abbrev main_v38 : Ref sig .tc := ⟨.hbm, 79, rfl⟩
abbrev main_cst_16 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_17 : Ref sig .tc := ⟨.hbm, 85, rfl⟩
abbrev main_cst_18 : Ref sig .tc := ⟨.hbm, 86, rfl⟩
abbrev main_call7_v0 : Ref sig .tc := ⟨.hbm, 87, rfl⟩
abbrev main_call7_v1 : Ref sig .tc := ⟨.hbm, 88, rfl⟩
abbrev main_call7_v2 : Ref sig .tc := ⟨.hbm, 89, rfl⟩
abbrev main_call7_v3 : Ref sig .tc := ⟨.hbm, 90, rfl⟩
abbrev main_call7_v4 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_19 : Ref sig .tc := ⟨.hbm, 98, rfl⟩
abbrev main_v49 : Ref sig .tc := ⟨.hbm, 99, rfl⟩
abbrev main_cst_20 : Ref sig .tc := ⟨.hbm, 100, rfl⟩
abbrev main_v50 : Ref sig .tc := ⟨.hbm, 101, rfl⟩
abbrev main_cst_21 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_22 : Ref sig .tc := ⟨.hbm, 107, rfl⟩
abbrev main_cst_23 : Ref sig .tc := ⟨.hbm, 108, rfl⟩
abbrev main_call9_v0 : Ref sig .tc := ⟨.hbm, 109, rfl⟩
abbrev main_call9_v1 : Ref sig .tc := ⟨.hbm, 110, rfl⟩
abbrev main_call9_v2 : Ref sig .tc := ⟨.hbm, 111, rfl⟩
abbrev main_call9_v3 : Ref sig .tc := ⟨.hbm, 112, rfl⟩
abbrev main_call9_v4 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_24 : Ref sig .tc := ⟨.hbm, 122, rfl⟩
abbrev main_v63 : Ref sig .tc := ⟨.hbm, 123, rfl⟩
abbrev main_cst_25 : Ref sig .tc := ⟨.hbm, 124, rfl⟩
abbrev main_v64 : Ref sig .tc := ⟨.hbm, 125, rfl⟩
abbrev main_cst_26 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_cst_27 : Ref sig .tc := ⟨.hbm, 131, rfl⟩
abbrev main_cst_28 : Ref sig .tc := ⟨.hbm, 132, rfl⟩
abbrev main_call11_v0 : Ref sig .tc := ⟨.hbm, 133, rfl⟩
abbrev main_call11_v1 : Ref sig .tc := ⟨.hbm, 134, rfl⟩
abbrev main_call11_v2 : Ref sig .tc := ⟨.hbm, 135, rfl⟩
abbrev main_call11_v3 : Ref sig .tc := ⟨.hbm, 136, rfl⟩
abbrev main_call11_v4 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_cst_29 : Ref sig .tc := ⟨.hbm, 149, rfl⟩
abbrev main_v80 : Ref sig .tc := ⟨.hbm, 150, rfl⟩
abbrev main_cst_30 : Ref sig .tc := ⟨.hbm, 151, rfl⟩
abbrev main_v81 : Ref sig .tc := ⟨.hbm, 152, rfl⟩
abbrev main_cst_31 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_32 : Ref sig .tc := ⟨.hbm, 158, rfl⟩
abbrev main_cst_33 : Ref sig .tc := ⟨.hbm, 159, rfl⟩
abbrev main_call13_v0 : Ref sig .tc := ⟨.hbm, 160, rfl⟩
abbrev main_call13_v1 : Ref sig .tc := ⟨.hbm, 161, rfl⟩
abbrev main_call13_v2 : Ref sig .tc := ⟨.hbm, 162, rfl⟩
abbrev main_call13_v3 : Ref sig .tc := ⟨.hbm, 163, rfl⟩
abbrev main_call13_v4 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_cst_34 : Ref sig .tc := ⟨.hbm, 176, rfl⟩
abbrev main_v97 : Ref sig .tc := ⟨.hbm, 177, rfl⟩
abbrev main_cst_35 : Ref sig .tc := ⟨.hbm, 178, rfl⟩
abbrev main_v98 : Ref sig .tc := ⟨.hbm, 179, rfl⟩
abbrev main_cst_36 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_cst_37 : Ref sig .tc := ⟨.hbm, 185, rfl⟩
abbrev main_cst_38 : Ref sig .tc := ⟨.hbm, 186, rfl⟩
abbrev main_call15_v0 : Ref sig .tc := ⟨.hbm, 187, rfl⟩
abbrev main_call15_v1 : Ref sig .tc := ⟨.hbm, 188, rfl⟩
abbrev main_call15_v2 : Ref sig .tc := ⟨.hbm, 189, rfl⟩
abbrev main_call15_v3 : Ref sig .tc := ⟨.hbm, 190, rfl⟩
abbrev main_call15_v4 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_cst_39 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_cst_40 : Ref sig .tc := ⟨.hbm, 210, rfl⟩
abbrev main_v120 : Ref sig .tc := ⟨.hbm, 211, rfl⟩
abbrev main_cst_41 : Ref sig .tc := ⟨.hbm, 212, rfl⟩
abbrev main_v121 : Ref sig .tc := ⟨.hbm, 213, rfl⟩
abbrev main_cst_42 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_cst_43 : Ref sig .tc := ⟨.hbm, 219, rfl⟩
abbrev main_cst_44 : Ref sig .tc := ⟨.hbm, 220, rfl⟩
abbrev main_call17_v0 : Ref sig .tc := ⟨.hbm, 221, rfl⟩
abbrev main_call17_v1 : Ref sig .tc := ⟨.hbm, 222, rfl⟩
abbrev main_call17_v2 : Ref sig .tc := ⟨.hbm, 223, rfl⟩
abbrev main_call17_v3 : Ref sig .tc := ⟨.hbm, 224, rfl⟩
abbrev main_call17_v4 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_cst_45 : Ref sig .tc := ⟨.hbm, 232, rfl⟩
abbrev main_v132 : Ref sig .tc := ⟨.hbm, 233, rfl⟩
abbrev main_cst_46 : Ref sig .tc := ⟨.hbm, 234, rfl⟩
abbrev main_v133 : Ref sig .tc := ⟨.hbm, 235, rfl⟩
abbrev main_cst_47 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_cst_48 : Ref sig .tc := ⟨.hbm, 241, rfl⟩
abbrev main_cst_49 : Ref sig .tc := ⟨.hbm, 242, rfl⟩
abbrev main_call19_v0 : Ref sig .tc := ⟨.hbm, 243, rfl⟩
abbrev main_call19_v1 : Ref sig .tc := ⟨.hbm, 244, rfl⟩
abbrev main_call19_v2 : Ref sig .tc := ⟨.hbm, 245, rfl⟩
abbrev main_call19_v3 : Ref sig .tc := ⟨.hbm, 246, rfl⟩
abbrev main_call19_v4 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_cst_50 : Ref sig .tc := ⟨.hbm, 254, rfl⟩
abbrev main_v144 : Ref sig .tc := ⟨.hbm, 255, rfl⟩
abbrev main_cst_51 : Ref sig .tc := ⟨.hbm, 256, rfl⟩
abbrev main_v145 : Ref sig .tc := ⟨.hbm, 257, rfl⟩
abbrev main_cst_52 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_cst_53 : Ref sig .tc := ⟨.hbm, 263, rfl⟩
abbrev main_cst_54 : Ref sig .tc := ⟨.hbm, 264, rfl⟩
abbrev main_call21_v0 : Ref sig .tc := ⟨.hbm, 265, rfl⟩
abbrev main_call21_v1 : Ref sig .tc := ⟨.hbm, 266, rfl⟩
abbrev main_call21_v2 : Ref sig .tc := ⟨.hbm, 267, rfl⟩
abbrev main_call21_v3 : Ref sig .tc := ⟨.hbm, 268, rfl⟩
abbrev main_call21_v4 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_cst_55 : Ref sig .tc := ⟨.hbm, 277, rfl⟩
abbrev main_v157 : Ref sig .tc := ⟨.hbm, 278, rfl⟩
abbrev main_cst_56 : Ref sig .tc := ⟨.hbm, 279, rfl⟩
abbrev main_v158 : Ref sig .tc := ⟨.hbm, 280, rfl⟩
abbrev main_cst_57 : Ref sig .tc := ⟨.hbm, 281, rfl⟩
abbrev main_v159 : Ref sig .tc := ⟨.hbm, 282, rfl⟩
abbrev main_v160 : Ref sig .tc := ⟨.hbm, 283, rfl⟩
abbrev main_v161 : Ref sig .tc := ⟨.hbm, 284, rfl⟩
abbrev main_v162 : Ref sig .tc := ⟨.hbm, 285, rfl⟩
abbrev main_cst_58 : Ref sig .tc := ⟨.hbm, 286, rfl⟩
abbrev main_cst_59 : Ref sig .tc := ⟨.hbm, 287, rfl⟩
abbrev main_call23_v0 : Ref sig .tc := ⟨.hbm, 288, rfl⟩
abbrev main_call23_v1 : Ref sig .tc := ⟨.hbm, 289, rfl⟩
abbrev main_call23_v2 : Ref sig .tc := ⟨.hbm, 290, rfl⟩
abbrev main_call23_v3 : Ref sig .tc := ⟨.hbm, 291, rfl⟩
abbrev main_call23_v4 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_cst_60 : Ref sig .tc := ⟨.hbm, 298, rfl⟩
abbrev main_v168 : Ref sig .tc := ⟨.hbm, 299, rfl⟩
abbrev main_cst_61 : Ref sig .tc := ⟨.hbm, 300, rfl⟩
abbrev main_v169 : Ref sig .tc := ⟨.hbm, 301, rfl⟩
abbrev main_v170 : Ref sig .tc := ⟨.hbm, 302, rfl⟩
abbrev main_v171 : Ref sig .tc := ⟨.hbm, 303, rfl⟩
abbrev main_v172 : Ref sig .tc := ⟨.hbm, 304, rfl⟩
abbrev main_v173 : Ref sig .tc := ⟨.hbm, 305, rfl⟩
abbrev main_v174 : Ref sig .tc := ⟨.hbm, 306, rfl⟩
abbrev main_cst_62 : Ref sig .tc := ⟨.hbm, 307, rfl⟩
abbrev main_v175 : Ref sig .tc := ⟨.hbm, 308, rfl⟩
abbrev main_v176 : Ref sig .tc := ⟨.hbm, 309, rfl⟩
abbrev main_v177 : Ref sig .tc := ⟨.hbm, 310, rfl⟩
abbrev main_v178 : Ref sig .tc := ⟨.hbm, 311, rfl⟩
abbrev main_v179 : Ref sig .tc := ⟨.hbm, 312, rfl⟩
abbrev main_cst_63 : Ref sig .tc := ⟨.hbm, 313, rfl⟩
abbrev main_v180 : Ref sig .tc := ⟨.hbm, 314, rfl⟩
abbrev main_cst_64 : Ref sig .tc := ⟨.hbm, 315, rfl⟩
abbrev main_v181 : Ref sig .tc := ⟨.hbm, 316, rfl⟩
abbrev main_cst_65 : Ref sig .tc := ⟨.hbm, 317, rfl⟩
abbrev main_v182 : Ref sig .tc := ⟨.hbm, 318, rfl⟩
abbrev main_v183 : Ref sig .tc := ⟨.hbm, 319, rfl⟩
abbrev main_v184 : Ref sig .tc := ⟨.hbm, 320, rfl⟩
abbrev main_v185 : Ref sig .tc := ⟨.hbm, 321, rfl⟩
abbrev main_cst_66 : Ref sig .tc := ⟨.hbm, 322, rfl⟩
abbrev main_cst_67 : Ref sig .tc := ⟨.hbm, 323, rfl⟩
abbrev main_call25_v0 : Ref sig .tc := ⟨.hbm, 324, rfl⟩
abbrev main_call25_v1 : Ref sig .tc := ⟨.hbm, 325, rfl⟩
abbrev main_call25_v2 : Ref sig .tc := ⟨.hbm, 326, rfl⟩
abbrev main_call25_v3 : Ref sig .tc := ⟨.hbm, 327, rfl⟩
abbrev main_call25_v4 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_v194 : Ref sig .tc := ⟨.hbm, 337, rfl⟩
abbrev main_cst_68 : Ref sig .tc := ⟨.hbm, 338, rfl⟩
abbrev main_v195 : Ref sig .tc := ⟨.hbm, 339, rfl⟩
abbrev main_cst_69 : Ref sig .tc := ⟨.hbm, 340, rfl⟩
abbrev main_v196 : Ref sig .tc := ⟨.hbm, 341, rfl⟩
abbrev main_cst_70 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_v200 : Ref sig .tc := ⟨.hbm, 346, rfl⟩
abbrev main_cst_71 : Ref sig .tc := ⟨.hbm, 347, rfl⟩
abbrev main_cst_72 : Ref sig .tc := ⟨.hbm, 348, rfl⟩
abbrev main_call27_v0 : Ref sig .tc := ⟨.hbm, 349, rfl⟩
abbrev main_call27_v1 : Ref sig .tc := ⟨.hbm, 350, rfl⟩
abbrev main_call27_v2 : Ref sig .tc := ⟨.hbm, 351, rfl⟩
abbrev main_call27_v3 : Ref sig .tc := ⟨.hbm, 352, rfl⟩
abbrev main_call27_v4 : Ref sig .tc := ⟨.hbm, 353, rfl⟩
abbrev main_v201 : Ref sig .tc := ⟨.hbm, 354, rfl⟩
abbrev main_v202 : Ref sig .tc := ⟨.hbm, 355, rfl⟩
abbrev main_v203 : Ref sig .tc := ⟨.hbm, 356, rfl⟩
abbrev main_v204 : Ref sig .tc := ⟨.hbm, 357, rfl⟩
abbrev main_v205 : Ref sig .tc := ⟨.hbm, 358, rfl⟩
abbrev main_v206 : Ref sig .tc := ⟨.hbm, 359, rfl⟩
abbrev main_v207 : Ref sig .tc := ⟨.hbm, 360, rfl⟩
abbrev main_v208 : Ref sig .tc := ⟨.hbm, 361, rfl⟩
abbrev main_cst_73 : Ref sig .tc := ⟨.hbm, 362, rfl⟩
abbrev main_v209 : Ref sig .tc := ⟨.hbm, 363, rfl⟩
abbrev main_cst_74 : Ref sig .tc := ⟨.hbm, 364, rfl⟩
abbrev main_v210 : Ref sig .tc := ⟨.hbm, 365, rfl⟩
abbrev main_cst_75 : Ref sig .tc := ⟨.hbm, 366, rfl⟩
abbrev main_v211 : Ref sig .tc := ⟨.hbm, 367, rfl⟩
abbrev main_v212 : Ref sig .tc := ⟨.hbm, 368, rfl⟩
abbrev main_v213 : Ref sig .tc := ⟨.hbm, 369, rfl⟩
abbrev main_v214 : Ref sig .tc := ⟨.hbm, 370, rfl⟩
abbrev main_cst_76 : Ref sig .tc := ⟨.hbm, 371, rfl⟩
abbrev main_cst_77 : Ref sig .tc := ⟨.hbm, 372, rfl⟩
abbrev main_call29_v0 : Ref sig .tc := ⟨.hbm, 373, rfl⟩
abbrev main_call29_v1 : Ref sig .tc := ⟨.hbm, 374, rfl⟩
abbrev main_call29_v2 : Ref sig .tc := ⟨.hbm, 375, rfl⟩
abbrev main_call29_v3 : Ref sig .tc := ⟨.hbm, 376, rfl⟩
abbrev main_call29_v4 : Ref sig .tc := ⟨.hbm, 377, rfl⟩
abbrev main_v215 : Ref sig .tc := ⟨.hbm, 378, rfl⟩
abbrev main_v216 : Ref sig .tc := ⟨.hbm, 379, rfl⟩
abbrev main_v217 : Ref sig .tc := ⟨.hbm, 380, rfl⟩
abbrev main_v218 : Ref sig .tc := ⟨.hbm, 381, rfl⟩
abbrev main_v219 : Ref sig .tc := ⟨.hbm, 382, rfl⟩
abbrev main_v220 : Ref sig .tc := ⟨.hbm, 383, rfl⟩
abbrev main_v221 : Ref sig .tc := ⟨.hbm, 384, rfl⟩
abbrev main_v222 : Ref sig .tc := ⟨.hbm, 385, rfl⟩
abbrev main_v223 : Ref sig .tc := ⟨.hbm, 386, rfl⟩
abbrev main_cst_78 : Ref sig .tc := ⟨.hbm, 387, rfl⟩
abbrev main_v224 : Ref sig .tc := ⟨.hbm, 388, rfl⟩
abbrev main_cst_79 : Ref sig .tc := ⟨.hbm, 389, rfl⟩
abbrev main_v225 : Ref sig .tc := ⟨.hbm, 390, rfl⟩
abbrev main_cst_80 : Ref sig .tc := ⟨.hbm, 391, rfl⟩
abbrev main_v226 : Ref sig .tc := ⟨.hbm, 392, rfl⟩
abbrev main_v227 : Ref sig .tc := ⟨.hbm, 393, rfl⟩
abbrev main_v228 : Ref sig .tc := ⟨.hbm, 394, rfl⟩
abbrev main_v229 : Ref sig .tc := ⟨.hbm, 395, rfl⟩
abbrev main_cst_81 : Ref sig .tc := ⟨.hbm, 396, rfl⟩
abbrev main_cst_82 : Ref sig .tc := ⟨.hbm, 397, rfl⟩
abbrev main_call31_v0 : Ref sig .tc := ⟨.hbm, 398, rfl⟩
abbrev main_call31_v1 : Ref sig .tc := ⟨.hbm, 399, rfl⟩
abbrev main_call31_v2 : Ref sig .tc := ⟨.hbm, 400, rfl⟩
abbrev main_call31_v3 : Ref sig .tc := ⟨.hbm, 401, rfl⟩
abbrev main_call31_v4 : Ref sig .tc := ⟨.hbm, 402, rfl⟩
abbrev main_v230 : Ref sig .tc := ⟨.hbm, 403, rfl⟩
abbrev main_v231 : Ref sig .tc := ⟨.hbm, 404, rfl⟩
abbrev main_v232 : Ref sig .tc := ⟨.hbm, 405, rfl⟩
abbrev main_v233 : Ref sig .tc := ⟨.hbm, 406, rfl⟩
abbrev main_v234 : Ref sig .tc := ⟨.hbm, 407, rfl⟩
abbrev main_v235 : Ref sig .tc := ⟨.hbm, 408, rfl⟩
abbrev main_cst_83 : Ref sig .tc := ⟨.hbm, 409, rfl⟩
abbrev main_v236 : Ref sig .tc := ⟨.hbm, 410, rfl⟩
abbrev main_cst_84 : Ref sig .tc := ⟨.hbm, 411, rfl⟩
abbrev main_v237 : Ref sig .tc := ⟨.hbm, 412, rfl⟩
abbrev main_cst_85 : Ref sig .tc := ⟨.hbm, 413, rfl⟩
abbrev main_v238 : Ref sig .tc := ⟨.hbm, 414, rfl⟩
abbrev main_v239 : Ref sig .tc := ⟨.hbm, 415, rfl⟩
abbrev main_v240 : Ref sig .tc := ⟨.hbm, 416, rfl⟩
abbrev main_v241 : Ref sig .tc := ⟨.hbm, 417, rfl⟩
abbrev main_cst_86 : Ref sig .tc := ⟨.hbm, 418, rfl⟩
abbrev main_cst_87 : Ref sig .tc := ⟨.hbm, 419, rfl⟩
abbrev main_call33_v0 : Ref sig .tc := ⟨.hbm, 420, rfl⟩
abbrev main_call33_v1 : Ref sig .tc := ⟨.hbm, 421, rfl⟩
abbrev main_call33_v2 : Ref sig .tc := ⟨.hbm, 422, rfl⟩
abbrev main_call33_v3 : Ref sig .tc := ⟨.hbm, 423, rfl⟩
abbrev main_call33_v4 : Ref sig .tc := ⟨.hbm, 424, rfl⟩
abbrev main_v242 : Ref sig .tc := ⟨.hbm, 425, rfl⟩
abbrev main_v243 : Ref sig .tc := ⟨.hbm, 426, rfl⟩
abbrev main_v244 : Ref sig .tc := ⟨.hbm, 427, rfl⟩
abbrev main_v245 : Ref sig .tc := ⟨.hbm, 428, rfl⟩
abbrev main_v246 : Ref sig .tc := ⟨.hbm, 429, rfl⟩
abbrev main_v247 : Ref sig .tc := ⟨.hbm, 430, rfl⟩
abbrev main_cst_88 : Ref sig .tc := ⟨.hbm, 431, rfl⟩
abbrev main_v248 : Ref sig .tc := ⟨.hbm, 432, rfl⟩
abbrev main_cst_89 : Ref sig .tc := ⟨.hbm, 433, rfl⟩
abbrev main_v249 : Ref sig .tc := ⟨.hbm, 434, rfl⟩
abbrev main_cst_90 : Ref sig .tc := ⟨.hbm, 435, rfl⟩
abbrev main_v250 : Ref sig .tc := ⟨.hbm, 436, rfl⟩
abbrev main_v251 : Ref sig .tc := ⟨.hbm, 437, rfl⟩
abbrev main_v252 : Ref sig .tc := ⟨.hbm, 438, rfl⟩
abbrev main_v253 : Ref sig .tc := ⟨.hbm, 439, rfl⟩
abbrev main_cst_91 : Ref sig .tc := ⟨.hbm, 440, rfl⟩
abbrev main_cst_92 : Ref sig .tc := ⟨.hbm, 441, rfl⟩
abbrev main_call35_v0 : Ref sig .tc := ⟨.hbm, 442, rfl⟩
abbrev main_call35_v1 : Ref sig .tc := ⟨.hbm, 443, rfl⟩
abbrev main_call35_v2 : Ref sig .tc := ⟨.hbm, 444, rfl⟩
abbrev main_call35_v3 : Ref sig .tc := ⟨.hbm, 445, rfl⟩
abbrev main_call35_v4 : Ref sig .tc := ⟨.hbm, 446, rfl⟩
abbrev main_v254 : Ref sig .tc := ⟨.hbm, 447, rfl⟩
abbrev main_v255 : Ref sig .tc := ⟨.hbm, 448, rfl⟩
abbrev main_v256 : Ref sig .tc := ⟨.hbm, 449, rfl⟩
abbrev main_v257 : Ref sig .tc := ⟨.hbm, 450, rfl⟩
abbrev main_v258 : Ref sig .tc := ⟨.hbm, 451, rfl⟩
abbrev main_v259 : Ref sig .tc := ⟨.hbm, 452, rfl⟩
abbrev main_cst_93 : Ref sig .tc := ⟨.hbm, 453, rfl⟩
abbrev main_v260 : Ref sig .tc := ⟨.hbm, 454, rfl⟩
abbrev main_cst_94 : Ref sig .tc := ⟨.hbm, 455, rfl⟩
abbrev main_v261 : Ref sig .tc := ⟨.hbm, 456, rfl⟩
abbrev main_cst_95 : Ref sig .tc := ⟨.hbm, 457, rfl⟩
abbrev main_v262 : Ref sig .tc := ⟨.hbm, 458, rfl⟩
abbrev main_v263 : Ref sig .tc := ⟨.hbm, 459, rfl⟩
abbrev main_v264 : Ref sig .tc := ⟨.hbm, 460, rfl⟩
abbrev main_v265 : Ref sig .tc := ⟨.hbm, 461, rfl⟩
abbrev main_cst_96 : Ref sig .tc := ⟨.hbm, 462, rfl⟩
abbrev main_cst_97 : Ref sig .tc := ⟨.hbm, 463, rfl⟩
abbrev main_call37_v0 : Ref sig .tc := ⟨.hbm, 464, rfl⟩
abbrev main_call37_v1 : Ref sig .tc := ⟨.hbm, 465, rfl⟩
abbrev main_call37_v2 : Ref sig .tc := ⟨.hbm, 466, rfl⟩
abbrev main_call37_v3 : Ref sig .tc := ⟨.hbm, 467, rfl⟩
abbrev main_call37_v4 : Ref sig .tc := ⟨.hbm, 468, rfl⟩
abbrev main_v266 : Ref sig .tc := ⟨.hbm, 469, rfl⟩
abbrev main_v267 : Ref sig .tc := ⟨.hbm, 470, rfl⟩
abbrev main_v268 : Ref sig .tc := ⟨.hbm, 471, rfl⟩
abbrev main_v269 : Ref sig .tc := ⟨.hbm, 472, rfl⟩
abbrev main_v270 : Ref sig .tc := ⟨.hbm, 473, rfl⟩
abbrev main_v271 : Ref sig .tc := ⟨.hbm, 474, rfl⟩
abbrev main_cst_98 : Ref sig .tc := ⟨.hbm, 475, rfl⟩
abbrev main_v272 : Ref sig .tc := ⟨.hbm, 476, rfl⟩
abbrev main_cst_99 : Ref sig .tc := ⟨.hbm, 477, rfl⟩
abbrev main_v273 : Ref sig .tc := ⟨.hbm, 478, rfl⟩
abbrev main_cst_100 : Ref sig .tc := ⟨.hbm, 479, rfl⟩
abbrev main_v274 : Ref sig .tc := ⟨.hbm, 480, rfl⟩
abbrev main_v275 : Ref sig .tc := ⟨.hbm, 481, rfl⟩
abbrev main_v276 : Ref sig .tc := ⟨.hbm, 482, rfl⟩
abbrev main_v277 : Ref sig .tc := ⟨.hbm, 483, rfl⟩
abbrev main_cst_101 : Ref sig .tc := ⟨.hbm, 484, rfl⟩
abbrev main_cst_102 : Ref sig .tc := ⟨.hbm, 485, rfl⟩
abbrev main_call39_v0 : Ref sig .tc := ⟨.hbm, 486, rfl⟩
abbrev main_call39_v1 : Ref sig .tc := ⟨.hbm, 487, rfl⟩
abbrev main_call39_v2 : Ref sig .tc := ⟨.hbm, 488, rfl⟩
abbrev main_call39_v3 : Ref sig .tc := ⟨.hbm, 489, rfl⟩
abbrev main_call39_v4 : Ref sig .tc := ⟨.hbm, 490, rfl⟩
abbrev main_v278 : Ref sig .tc := ⟨.hbm, 491, rfl⟩
abbrev main_v279 : Ref sig .tc := ⟨.hbm, 492, rfl⟩
abbrev main_v280 : Ref sig .tc := ⟨.hbm, 493, rfl⟩
abbrev main_v281 : Ref sig .tc := ⟨.hbm, 494, rfl⟩
abbrev main_v282 : Ref sig .tc := ⟨.hbm, 495, rfl⟩
abbrev main_v283 : Ref sig .tc := ⟨.hbm, 496, rfl⟩
abbrev main_cst_103 : Ref sig .tc := ⟨.hbm, 497, rfl⟩
abbrev main_v284 : Ref sig .tc := ⟨.hbm, 498, rfl⟩
abbrev main_cst_104 : Ref sig .tc := ⟨.hbm, 499, rfl⟩
abbrev main_v285 : Ref sig .tc := ⟨.hbm, 500, rfl⟩
abbrev main_cst_105 : Ref sig .tc := ⟨.hbm, 501, rfl⟩
abbrev main_v286 : Ref sig .tc := ⟨.hbm, 502, rfl⟩
abbrev main_v287 : Ref sig .tc := ⟨.hbm, 503, rfl⟩
abbrev main_v288 : Ref sig .tc := ⟨.hbm, 504, rfl⟩
abbrev main_v289 : Ref sig .tc := ⟨.hbm, 505, rfl⟩
abbrev main_cst_106 : Ref sig .tc := ⟨.hbm, 506, rfl⟩
abbrev main_cst_107 : Ref sig .tc := ⟨.hbm, 507, rfl⟩
abbrev main_call41_v0 : Ref sig .tc := ⟨.hbm, 508, rfl⟩
abbrev main_call41_v1 : Ref sig .tc := ⟨.hbm, 509, rfl⟩
abbrev main_call41_v2 : Ref sig .tc := ⟨.hbm, 510, rfl⟩
abbrev main_call41_v3 : Ref sig .tc := ⟨.hbm, 511, rfl⟩
abbrev main_call41_v4 : Ref sig .tc := ⟨.hbm, 512, rfl⟩
abbrev main_v290 : Ref sig .tc := ⟨.hbm, 513, rfl⟩
abbrev main_v291 : Ref sig .tc := ⟨.hbm, 514, rfl⟩
abbrev main_v292 : Ref sig .tc := ⟨.hbm, 515, rfl⟩
abbrev main_v293 : Ref sig .tc := ⟨.hbm, 516, rfl⟩
abbrev main_v294 : Ref sig .tc := ⟨.hbm, 517, rfl⟩
abbrev main_v295 : Ref sig .tc := ⟨.hbm, 518, rfl⟩
abbrev main_v296 : Ref sig .tc := ⟨.hbm, 519, rfl⟩
abbrev main_v297 : Ref sig .tc := ⟨.hbm, 520, rfl⟩
abbrev main_cst_108 : Ref sig .tc := ⟨.hbm, 521, rfl⟩
abbrev main_v298 : Ref sig .tc := ⟨.hbm, 522, rfl⟩
abbrev main_cst_109 : Ref sig .tc := ⟨.hbm, 523, rfl⟩
abbrev main_v299 : Ref sig .tc := ⟨.hbm, 524, rfl⟩
abbrev main_cst_110 : Ref sig .tc := ⟨.hbm, 525, rfl⟩
abbrev main_v300 : Ref sig .tc := ⟨.hbm, 526, rfl⟩
abbrev main_v301 : Ref sig .tc := ⟨.hbm, 527, rfl⟩
abbrev main_v302 : Ref sig .tc := ⟨.hbm, 528, rfl⟩
abbrev main_v303 : Ref sig .tc := ⟨.hbm, 529, rfl⟩
abbrev main_cst_111 : Ref sig .tc := ⟨.hbm, 530, rfl⟩
abbrev main_cst_112 : Ref sig .tc := ⟨.hbm, 531, rfl⟩
abbrev main_call43_v0 : Ref sig .tc := ⟨.hbm, 532, rfl⟩
abbrev main_call43_v1 : Ref sig .tc := ⟨.hbm, 533, rfl⟩
abbrev main_call43_v2 : Ref sig .tc := ⟨.hbm, 534, rfl⟩
abbrev main_call43_v3 : Ref sig .tc := ⟨.hbm, 535, rfl⟩
abbrev main_call43_v4 : Ref sig .tc := ⟨.hbm, 536, rfl⟩
abbrev main_v304 : Ref sig .tc := ⟨.hbm, 537, rfl⟩
abbrev main_v305 : Ref sig .tc := ⟨.hbm, 538, rfl⟩
abbrev main_v306 : Ref sig .tc := ⟨.hbm, 539, rfl⟩
abbrev main_v307 : Ref sig .tc := ⟨.hbm, 540, rfl⟩
abbrev main_v308 : Ref sig .tc := ⟨.hbm, 541, rfl⟩
abbrev main_v309 : Ref sig .tc := ⟨.hbm, 542, rfl⟩
abbrev main_v310 : Ref sig .tc := ⟨.hbm, 543, rfl⟩
abbrev main_v311 : Ref sig .tc := ⟨.hbm, 544, rfl⟩
abbrev main_v312 : Ref sig .tc := ⟨.hbm, 545, rfl⟩
abbrev main_v313 : Ref sig .tc := ⟨.hbm, 546, rfl⟩
abbrev main_v314 : Ref sig .tc := ⟨.hbm, 547, rfl⟩
abbrev main_cst_113 : Ref sig .tc := ⟨.hbm, 548, rfl⟩
abbrev main_v315 : Ref sig .tc := ⟨.hbm, 549, rfl⟩
abbrev main_cst_114 : Ref sig .tc := ⟨.hbm, 550, rfl⟩
abbrev main_v316 : Ref sig .tc := ⟨.hbm, 551, rfl⟩
abbrev main_cst_115 : Ref sig .tc := ⟨.hbm, 552, rfl⟩
abbrev main_v317 : Ref sig .tc := ⟨.hbm, 553, rfl⟩
abbrev main_v318 : Ref sig .tc := ⟨.hbm, 554, rfl⟩
abbrev main_v319 : Ref sig .tc := ⟨.hbm, 555, rfl⟩
abbrev main_v320 : Ref sig .tc := ⟨.hbm, 556, rfl⟩
abbrev main_cst_116 : Ref sig .tc := ⟨.hbm, 557, rfl⟩
abbrev main_cst_117 : Ref sig .tc := ⟨.hbm, 558, rfl⟩
abbrev main_call45_v0 : Ref sig .tc := ⟨.hbm, 559, rfl⟩
abbrev main_call45_v1 : Ref sig .tc := ⟨.hbm, 560, rfl⟩
abbrev main_call45_v2 : Ref sig .tc := ⟨.hbm, 561, rfl⟩
abbrev main_call45_v3 : Ref sig .tc := ⟨.hbm, 562, rfl⟩
abbrev main_call45_v4 : Ref sig .tc := ⟨.hbm, 563, rfl⟩
abbrev main_v321 : Ref sig .tc := ⟨.hbm, 564, rfl⟩
abbrev main_v322 : Ref sig .tc := ⟨.hbm, 565, rfl⟩
abbrev main_v323 : Ref sig .tc := ⟨.hbm, 566, rfl⟩
abbrev main_v324 : Ref sig .tc := ⟨.hbm, 567, rfl⟩
abbrev main_v325 : Ref sig .tc := ⟨.hbm, 568, rfl⟩
abbrev main_v326 : Ref sig .tc := ⟨.hbm, 569, rfl⟩
abbrev main_v327 : Ref sig .tc := ⟨.hbm, 570, rfl⟩
abbrev main_v328 : Ref sig .tc := ⟨.hbm, 571, rfl⟩
abbrev main_v329 : Ref sig .tc := ⟨.hbm, 572, rfl⟩
abbrev main_v330 : Ref sig .tc := ⟨.hbm, 573, rfl⟩
abbrev main_v331 : Ref sig .tc := ⟨.hbm, 574, rfl⟩
abbrev main_cst_118 : Ref sig .tc := ⟨.hbm, 575, rfl⟩
abbrev main_v332 : Ref sig .tc := ⟨.hbm, 576, rfl⟩
abbrev main_cst_119 : Ref sig .tc := ⟨.hbm, 577, rfl⟩
abbrev main_v333 : Ref sig .tc := ⟨.hbm, 578, rfl⟩
abbrev main_cst_120 : Ref sig .tc := ⟨.hbm, 579, rfl⟩
abbrev main_v334 : Ref sig .tc := ⟨.hbm, 580, rfl⟩
abbrev main_v335 : Ref sig .tc := ⟨.hbm, 581, rfl⟩
abbrev main_v336 : Ref sig .tc := ⟨.hbm, 582, rfl⟩
abbrev main_v337 : Ref sig .tc := ⟨.hbm, 583, rfl⟩
abbrev main_cst_121 : Ref sig .tc := ⟨.hbm, 584, rfl⟩
abbrev main_cst_122 : Ref sig .tc := ⟨.hbm, 585, rfl⟩
abbrev main_call47_v0 : Ref sig .tc := ⟨.hbm, 586, rfl⟩
abbrev main_call47_v1 : Ref sig .tc := ⟨.hbm, 587, rfl⟩
abbrev main_call47_v2 : Ref sig .tc := ⟨.hbm, 588, rfl⟩
abbrev main_call47_v3 : Ref sig .tc := ⟨.hbm, 589, rfl⟩
abbrev main_call47_v4 : Ref sig .tc := ⟨.hbm, 590, rfl⟩
abbrev main_v338 : Ref sig .tc := ⟨.hbm, 591, rfl⟩
abbrev main_v339 : Ref sig .tc := ⟨.hbm, 592, rfl⟩
abbrev main_v340 : Ref sig .tc := ⟨.hbm, 593, rfl⟩
abbrev main_v341 : Ref sig .tc := ⟨.hbm, 594, rfl⟩
abbrev main_v342 : Ref sig .tc := ⟨.hbm, 595, rfl⟩
abbrev main_v343 : Ref sig .tc := ⟨.hbm, 596, rfl⟩
abbrev main_v344 : Ref sig .tc := ⟨.hbm, 597, rfl⟩
abbrev main_v345 : Ref sig .tc := ⟨.hbm, 598, rfl⟩
abbrev main_v346 : Ref sig .tc := ⟨.hbm, 599, rfl⟩
abbrev main_v347 : Ref sig .tc := ⟨.hbm, 600, rfl⟩
abbrev main_v348 : Ref sig .tc := ⟨.hbm, 601, rfl⟩
abbrev main_v349 : Ref sig .tc := ⟨.hbm, 602, rfl⟩
abbrev main_v350 : Ref sig .tc := ⟨.hbm, 603, rfl⟩
abbrev main_v351 : Ref sig .tc := ⟨.hbm, 604, rfl⟩
abbrev main_cst_123 : Ref sig .tc := ⟨.hbm, 605, rfl⟩
abbrev main_v352 : Ref sig .tc := ⟨.hbm, 606, rfl⟩
abbrev main_v353 : Ref sig .tc := ⟨.hbm, 607, rfl⟩
abbrev main_v354 : Ref sig .tc := ⟨.hbm, 608, rfl⟩
abbrev main_cst_124 : Ref sig .tc := ⟨.hbm, 609, rfl⟩
abbrev main_v355 : Ref sig .tc := ⟨.hbm, 610, rfl⟩
abbrev main_cst_125 : Ref sig .tc := ⟨.hbm, 611, rfl⟩
abbrev main_v356 : Ref sig .tc := ⟨.hbm, 612, rfl⟩
abbrev main_cst_126 : Ref sig .tc := ⟨.hbm, 613, rfl⟩
abbrev main_v357 : Ref sig .tc := ⟨.hbm, 614, rfl⟩
abbrev main_v358 : Ref sig .tc := ⟨.hbm, 615, rfl⟩
abbrev main_v359 : Ref sig .tc := ⟨.hbm, 616, rfl⟩
abbrev main_v360 : Ref sig .tc := ⟨.hbm, 617, rfl⟩
abbrev main_cst_127 : Ref sig .tc := ⟨.hbm, 618, rfl⟩
abbrev main_cst_128 : Ref sig .tc := ⟨.hbm, 619, rfl⟩
abbrev main_call49_v0 : Ref sig .tc := ⟨.hbm, 620, rfl⟩
abbrev main_call49_v1 : Ref sig .tc := ⟨.hbm, 621, rfl⟩
abbrev main_call49_v2 : Ref sig .tc := ⟨.hbm, 622, rfl⟩
abbrev main_call49_v3 : Ref sig .tc := ⟨.hbm, 623, rfl⟩
abbrev main_call49_v4 : Ref sig .tc := ⟨.hbm, 624, rfl⟩
abbrev main_v361 : Ref sig .tc := ⟨.hbm, 625, rfl⟩
abbrev main_v362 : Ref sig .tc := ⟨.hbm, 626, rfl⟩
abbrev main_v363 : Ref sig .tc := ⟨.hbm, 627, rfl⟩
abbrev main_v364 : Ref sig .tc := ⟨.hbm, 628, rfl⟩
abbrev main_v365 : Ref sig .tc := ⟨.hbm, 629, rfl⟩
abbrev main_v366 : Ref sig .tc := ⟨.hbm, 630, rfl⟩
abbrev main_cst_129 : Ref sig .tc := ⟨.hbm, 631, rfl⟩
abbrev main_v367 : Ref sig .tc := ⟨.hbm, 632, rfl⟩
abbrev main_cst_130 : Ref sig .tc := ⟨.hbm, 633, rfl⟩
abbrev main_v368 : Ref sig .tc := ⟨.hbm, 634, rfl⟩
abbrev main_cst_131 : Ref sig .tc := ⟨.hbm, 635, rfl⟩
abbrev main_v369 : Ref sig .tc := ⟨.hbm, 636, rfl⟩
abbrev main_v370 : Ref sig .tc := ⟨.hbm, 637, rfl⟩
abbrev main_v371 : Ref sig .tc := ⟨.hbm, 638, rfl⟩
abbrev main_v372 : Ref sig .tc := ⟨.hbm, 639, rfl⟩
abbrev main_cst_132 : Ref sig .tc := ⟨.hbm, 640, rfl⟩
abbrev main_cst_133 : Ref sig .tc := ⟨.hbm, 641, rfl⟩
abbrev main_call51_v0 : Ref sig .tc := ⟨.hbm, 642, rfl⟩
abbrev main_call51_v1 : Ref sig .tc := ⟨.hbm, 643, rfl⟩
abbrev main_call51_v2 : Ref sig .tc := ⟨.hbm, 644, rfl⟩
abbrev main_call51_v3 : Ref sig .tc := ⟨.hbm, 645, rfl⟩
abbrev main_call51_v4 : Ref sig .tc := ⟨.hbm, 646, rfl⟩
abbrev main_v373 : Ref sig .tc := ⟨.hbm, 647, rfl⟩
abbrev main_v374 : Ref sig .tc := ⟨.hbm, 648, rfl⟩
abbrev main_v375 : Ref sig .tc := ⟨.hbm, 649, rfl⟩
abbrev main_v376 : Ref sig .tc := ⟨.hbm, 650, rfl⟩
abbrev main_v377 : Ref sig .tc := ⟨.hbm, 651, rfl⟩
abbrev main_v378 : Ref sig .tc := ⟨.hbm, 652, rfl⟩
abbrev main_cst_134 : Ref sig .tc := ⟨.hbm, 653, rfl⟩
abbrev main_v379 : Ref sig .tc := ⟨.hbm, 654, rfl⟩
abbrev main_cst_135 : Ref sig .tc := ⟨.hbm, 655, rfl⟩
abbrev main_v380 : Ref sig .tc := ⟨.hbm, 656, rfl⟩
abbrev main_cst_136 : Ref sig .tc := ⟨.hbm, 657, rfl⟩
abbrev main_v381 : Ref sig .tc := ⟨.hbm, 658, rfl⟩
abbrev main_v382 : Ref sig .tc := ⟨.hbm, 659, rfl⟩
abbrev main_v383 : Ref sig .tc := ⟨.hbm, 660, rfl⟩
abbrev main_v384 : Ref sig .tc := ⟨.hbm, 661, rfl⟩
abbrev main_cst_137 : Ref sig .tc := ⟨.hbm, 662, rfl⟩
abbrev main_cst_138 : Ref sig .tc := ⟨.hbm, 663, rfl⟩
abbrev main_call53_v0 : Ref sig .tc := ⟨.hbm, 664, rfl⟩
abbrev main_call53_v1 : Ref sig .tc := ⟨.hbm, 665, rfl⟩
abbrev main_call53_v2 : Ref sig .tc := ⟨.hbm, 666, rfl⟩
abbrev main_call53_v3 : Ref sig .tc := ⟨.hbm, 667, rfl⟩
abbrev main_call53_v4 : Ref sig .tc := ⟨.hbm, 668, rfl⟩
abbrev main_v385 : Ref sig .tc := ⟨.hbm, 669, rfl⟩
abbrev main_v386 : Ref sig .tc := ⟨.hbm, 670, rfl⟩
abbrev main_v387 : Ref sig .tc := ⟨.hbm, 671, rfl⟩
abbrev main_v388 : Ref sig .tc := ⟨.hbm, 672, rfl⟩
abbrev main_v389 : Ref sig .tc := ⟨.hbm, 673, rfl⟩
abbrev main_v390 : Ref sig .tc := ⟨.hbm, 674, rfl⟩
abbrev main_v391 : Ref sig .tc := ⟨.hbm, 675, rfl⟩
abbrev main_cst_139 : Ref sig .tc := ⟨.hbm, 676, rfl⟩
abbrev main_v392 : Ref sig .tc := ⟨.hbm, 677, rfl⟩
abbrev main_cst_140 : Ref sig .tc := ⟨.hbm, 678, rfl⟩
abbrev main_v393 : Ref sig .tc := ⟨.hbm, 679, rfl⟩
abbrev main_cst_141 : Ref sig .tc := ⟨.hbm, 680, rfl⟩
abbrev main_v394 : Ref sig .tc := ⟨.hbm, 681, rfl⟩
abbrev main_v395 : Ref sig .tc := ⟨.hbm, 682, rfl⟩
abbrev main_v396 : Ref sig .tc := ⟨.hbm, 683, rfl⟩
abbrev main_v397 : Ref sig .tc := ⟨.hbm, 684, rfl⟩
abbrev main_cst_142 : Ref sig .tc := ⟨.hbm, 685, rfl⟩
abbrev main_cst_143 : Ref sig .tc := ⟨.hbm, 686, rfl⟩
abbrev main_call55_v0 : Ref sig .tc := ⟨.hbm, 687, rfl⟩
abbrev main_call55_v1 : Ref sig .tc := ⟨.hbm, 688, rfl⟩
abbrev main_call55_v2 : Ref sig .tc := ⟨.hbm, 689, rfl⟩
abbrev main_call55_v3 : Ref sig .tc := ⟨.hbm, 690, rfl⟩
abbrev main_call55_v4 : Ref sig .tc := ⟨.hbm, 691, rfl⟩
abbrev main_v398 : Ref sig .tc := ⟨.hbm, 692, rfl⟩
abbrev main_v399 : Ref sig .tc := ⟨.hbm, 693, rfl⟩
abbrev main_v400 : Ref sig .tc := ⟨.hbm, 694, rfl⟩
abbrev main_v401 : Ref sig .tc := ⟨.hbm, 695, rfl⟩
abbrev main_v402 : Ref sig .tc := ⟨.hbm, 696, rfl⟩
abbrev main_cst_144 : Ref sig .tc := ⟨.hbm, 697, rfl⟩
abbrev main_v403 : Ref sig .tc := ⟨.hbm, 698, rfl⟩
abbrev main_cst_145 : Ref sig .tc := ⟨.hbm, 699, rfl⟩
abbrev main_v404 : Ref sig .tc := ⟨.hbm, 700, rfl⟩
abbrev main_v405 : Ref sig .tc := ⟨.hbm, 701, rfl⟩
abbrev main_v406 : Ref sig .tc := ⟨.hbm, 702, rfl⟩
abbrev main_v407 : Ref sig .tc := ⟨.hbm, 703, rfl⟩
abbrev main_v408 : Ref sig .tc := ⟨.hbm, 704, rfl⟩
abbrev main_v409 : Ref sig .tc := ⟨.hbm, 705, rfl⟩
abbrev main_cst_146 : Ref sig .tc := ⟨.hbm, 706, rfl⟩
abbrev main_v410 : Ref sig .tc := ⟨.hbm, 707, rfl⟩
abbrev main_v411 : Ref sig .tc := ⟨.hbm, 708, rfl⟩
abbrev main_v412 : Ref sig .tc := ⟨.hbm, 709, rfl⟩
abbrev main_v413 : Ref sig .tc := ⟨.hbm, 710, rfl⟩
abbrev main_v414 : Ref sig .tc := ⟨.hbm, 711, rfl⟩
abbrev main_cst_147 : Ref sig .tc := ⟨.hbm, 712, rfl⟩
abbrev main_v415 : Ref sig .tc := ⟨.hbm, 713, rfl⟩
abbrev main_cst_148 : Ref sig .tc := ⟨.hbm, 714, rfl⟩
abbrev main_v416 : Ref sig .tc := ⟨.hbm, 715, rfl⟩
abbrev main_cst_149 : Ref sig .tc := ⟨.hbm, 716, rfl⟩
abbrev main_v417 : Ref sig .tc := ⟨.hbm, 717, rfl⟩
abbrev main_v418 : Ref sig .tc := ⟨.hbm, 718, rfl⟩
abbrev main_v419 : Ref sig .tc := ⟨.hbm, 719, rfl⟩
abbrev main_v420 : Ref sig .tc := ⟨.hbm, 720, rfl⟩
abbrev main_cst_150 : Ref sig .tc := ⟨.hbm, 721, rfl⟩
abbrev main_cst_151 : Ref sig .tc := ⟨.hbm, 722, rfl⟩
abbrev main_call57_v0 : Ref sig .tc := ⟨.hbm, 723, rfl⟩
abbrev main_call57_v1 : Ref sig .tc := ⟨.hbm, 724, rfl⟩
abbrev main_call57_v2 : Ref sig .tc := ⟨.hbm, 725, rfl⟩
abbrev main_call57_v3 : Ref sig .tc := ⟨.hbm, 726, rfl⟩
abbrev main_call57_v4 : Ref sig .tc := ⟨.hbm, 727, rfl⟩
abbrev main_v421 : Ref sig .tc := ⟨.hbm, 728, rfl⟩
abbrev main_v422 : Ref sig .tc := ⟨.hbm, 729, rfl⟩
abbrev main_v423 : Ref sig .tc := ⟨.hbm, 730, rfl⟩
abbrev main_v424 : Ref sig .tc := ⟨.hbm, 731, rfl⟩
abbrev main_v425 : Ref sig .tc := ⟨.hbm, 732, rfl⟩
abbrev main_v426 : Ref sig .tc := ⟨.hbm, 733, rfl⟩
abbrev main_v427 : Ref sig .tc := ⟨.hbm, 734, rfl⟩
abbrev main_v428 : Ref sig .tc := ⟨.hbm, 735, rfl⟩
abbrev main_v429 : Ref sig .tc := ⟨.hbm, 736, rfl⟩
abbrev main_cst_152 : Ref sig .tc := ⟨.hbm, 737, rfl⟩
abbrev main_v430 : Ref sig .tc := ⟨.hbm, 738, rfl⟩
abbrev main_cst_153 : Ref sig .tc := ⟨.hbm, 739, rfl⟩
abbrev main_v431 : Ref sig .tc := ⟨.hbm, 740, rfl⟩
abbrev main_cst_154 : Ref sig .tc := ⟨.hbm, 741, rfl⟩
abbrev main_v432 : Ref sig .tc := ⟨.hbm, 742, rfl⟩
abbrev main_v433 : Ref sig .tc := ⟨.hbm, 743, rfl⟩
abbrev main_v434 : Ref sig .tc := ⟨.hbm, 744, rfl⟩
abbrev main_v435 : Ref sig .tc := ⟨.hbm, 745, rfl⟩
abbrev main_cst_155 : Ref sig .tc := ⟨.hbm, 746, rfl⟩
abbrev main_cst_156 : Ref sig .tc := ⟨.hbm, 747, rfl⟩
abbrev main_call59_v0 : Ref sig .tc := ⟨.hbm, 748, rfl⟩
abbrev main_call59_v1 : Ref sig .tc := ⟨.hbm, 749, rfl⟩
abbrev main_call59_v2 : Ref sig .tc := ⟨.hbm, 750, rfl⟩
abbrev main_call59_v3 : Ref sig .tc := ⟨.hbm, 751, rfl⟩
abbrev main_call59_v4 : Ref sig .tc := ⟨.hbm, 752, rfl⟩
abbrev main_v436 : Ref sig .tc := ⟨.hbm, 753, rfl⟩
abbrev main_v437 : Ref sig .tc := ⟨.hbm, 754, rfl⟩
abbrev main_v438 : Ref sig .tc := ⟨.hbm, 755, rfl⟩
abbrev main_v439 : Ref sig .tc := ⟨.hbm, 756, rfl⟩
abbrev main_v440 : Ref sig .tc := ⟨.hbm, 757, rfl⟩
abbrev main_v441 : Ref sig .tc := ⟨.hbm, 758, rfl⟩
abbrev main_v442 : Ref sig .tc := ⟨.hbm, 759, rfl⟩
abbrev main_v443 : Ref sig .tc := ⟨.hbm, 760, rfl⟩
abbrev main_cst_157 : Ref sig .tc := ⟨.hbm, 761, rfl⟩
abbrev main_v444 : Ref sig .tc := ⟨.hbm, 762, rfl⟩
abbrev main_cst_158 : Ref sig .tc := ⟨.hbm, 763, rfl⟩
abbrev main_v445 : Ref sig .tc := ⟨.hbm, 764, rfl⟩
abbrev main_cst_159 : Ref sig .tc := ⟨.hbm, 765, rfl⟩
abbrev main_v446 : Ref sig .tc := ⟨.hbm, 766, rfl⟩
abbrev main_v447 : Ref sig .tc := ⟨.hbm, 767, rfl⟩
abbrev main_v448 : Ref sig .tc := ⟨.hbm, 768, rfl⟩
abbrev main_v449 : Ref sig .tc := ⟨.hbm, 769, rfl⟩
abbrev main_cst_160 : Ref sig .tc := ⟨.hbm, 770, rfl⟩
abbrev main_cst_161 : Ref sig .tc := ⟨.hbm, 771, rfl⟩
abbrev main_call61_v0 : Ref sig .tc := ⟨.hbm, 772, rfl⟩
abbrev main_call61_v1 : Ref sig .tc := ⟨.hbm, 773, rfl⟩
abbrev main_call61_v2 : Ref sig .tc := ⟨.hbm, 774, rfl⟩
abbrev main_call61_v3 : Ref sig .tc := ⟨.hbm, 775, rfl⟩
abbrev main_call61_v4 : Ref sig .tc := ⟨.hbm, 776, rfl⟩
abbrev main_v450 : Ref sig .tc := ⟨.hbm, 777, rfl⟩
abbrev main_v451 : Ref sig .tc := ⟨.hbm, 778, rfl⟩
abbrev main_v452 : Ref sig .tc := ⟨.hbm, 779, rfl⟩
abbrev main_v453 : Ref sig .tc := ⟨.hbm, 780, rfl⟩
abbrev main_v454 : Ref sig .tc := ⟨.hbm, 781, rfl⟩
abbrev main_v455 : Ref sig .tc := ⟨.hbm, 782, rfl⟩
abbrev main_v456 : Ref sig .tc := ⟨.hbm, 783, rfl⟩
abbrev main_v457 : Ref sig .tc := ⟨.hbm, 784, rfl⟩
abbrev main_v458 : Ref sig .tc := ⟨.hbm, 785, rfl⟩
abbrev main_cst_162 : Ref sig .tc := ⟨.hbm, 786, rfl⟩
abbrev main_v459 : Ref sig .tc := ⟨.hbm, 787, rfl⟩
abbrev main_cst_163 : Ref sig .tc := ⟨.hbm, 788, rfl⟩
abbrev main_v460 : Ref sig .tc := ⟨.hbm, 789, rfl⟩
abbrev main_cst_164 : Ref sig .tc := ⟨.hbm, 790, rfl⟩
abbrev main_v461 : Ref sig .tc := ⟨.hbm, 791, rfl⟩
abbrev main_v462 : Ref sig .tc := ⟨.hbm, 792, rfl⟩
abbrev main_v463 : Ref sig .tc := ⟨.hbm, 793, rfl⟩
abbrev main_v464 : Ref sig .tc := ⟨.hbm, 794, rfl⟩
abbrev main_cst_165 : Ref sig .tc := ⟨.hbm, 795, rfl⟩
abbrev main_cst_166 : Ref sig .tc := ⟨.hbm, 796, rfl⟩
abbrev main_call63_v0 : Ref sig .tc := ⟨.hbm, 797, rfl⟩
abbrev main_call63_v1 : Ref sig .tc := ⟨.hbm, 798, rfl⟩
abbrev main_call63_v2 : Ref sig .tc := ⟨.hbm, 799, rfl⟩
abbrev main_call63_v3 : Ref sig .tc := ⟨.hbm, 800, rfl⟩
abbrev main_call63_v4 : Ref sig .tc := ⟨.hbm, 801, rfl⟩
abbrev main_v465 : Ref sig .tc := ⟨.hbm, 802, rfl⟩
abbrev main_v466 : Ref sig .tc := ⟨.hbm, 803, rfl⟩
abbrev main_v467 : Ref sig .tc := ⟨.hbm, 804, rfl⟩
abbrev main_v468 : Ref sig .tc := ⟨.hbm, 805, rfl⟩
abbrev main_v469 : Ref sig .tc := ⟨.hbm, 806, rfl⟩

abbrev nD : Nat := 1
abbrev τ : Topo := Topo.v7x

variable {F : FTy → Type} [FloatOps F]
-- ==== Proof.RefFrame.lean ====
/- The reference's frame: every run ends, the arguments are unchanged and every semaphore counter reads zero. -/
module

public import proofs.«01_k».proof.Proof.Gen.ReferenceIdeal
public import proofs.«01_k».proof.Proof.Gen.ReferenceIdeal.Run

@[expose] public section

noncomputable section

namespace Cert.ReferenceIdeal.Value

open Idealize.ShloMosaic Idealize.SL.Sem Cert.ReferenceIdeal.Gen

/-- The reference is host operations only: its signature holds no semaphore at all. -/
theorem no_sems : ∀ _ : SemLoc sig, False := by decide

/-- So any two settings of its counters are the same. -/
theorem sems_zero {nD : Nat} (f : GSem nD τ sig → Int) : f = fun _ => 0 :=
  funext fun g => (no_sems g.2).elim

end Cert.ReferenceIdeal.Value

end
-- ==== Proof.Quant.lean ====
/-
  The quantiser over the extended reals: its scale, the quantised value, and what the two layers need of them.
  Nothing here mentions a program.
-/
module

public import Idealize.ShloMosaic.PureOps.Ideal
public import Idealize.ShloMosaic.Lib.IdealHost

@[expose] public section

noncomputable section

namespace Cert.Attn

open Idealize.ShloMosaic

/-- The absolute value of an extended real. -/
def mag (x : EReal) : EReal := max x (-x)

/-- The largest level, `7`. -/
def seven : EReal := Ideal.ofBits .f32 0x40E00000#32

/-- The lowest level of an activation, `-8`. -/
def lowA : EReal := Ideal.ofBits .f32 0xC1000000#32

/-- The lowest level of a weight or a bias, `-7`. -/
def lowW : EReal := Ideal.ofBits .f32 0xC0E00000#32

/-- The least scale, the float next to `1e-8`. -/
def tiny : EReal := Ideal.ofBits .f32 0x322BCC77#32

/-- Rounding to the nearest integer, ties to even, fixing the infinities. -/
def rnd (x : EReal) : EReal := Ideal.liftRound Ideal.roundHalfEven x

/-- The scale of an array whose largest magnitude is `m`. -/
def scl (m : EReal) : EReal := max (Ideal.div m seven) tiny

/-- `x` quantised at scale `s` with lowest level `lo`. -/
def quant (lo s x : EReal) : EReal := min seven (max lo (rnd (Ideal.div x s))) * s

/-- `x` is neither infinity. -/
def IsFin (x : EReal) : Prop := ∃ r : ℝ, x = (r : EReal)

/-- `7` as a real. -/
theorem seven_eq : seven = ((7 : ℝ) : EReal) := by
  unfold seven; simp [Ideal.ofBits, Ideal.ieee, -EReal.coe_mul]; norm_num

/-- `-8` as a real. -/
theorem lowA_eq : lowA = ((-8 : ℝ) : EReal) := by
  unfold lowA; simp [Ideal.ofBits, Ideal.ieee, -EReal.coe_mul, -EReal.coe_neg]; norm_num

/-- `-7` as a real. -/
theorem lowW_eq : lowW = ((-7 : ℝ) : EReal) := by
  unfold lowW; simp [Ideal.ofBits, Ideal.ieee, -EReal.coe_mul, -EReal.coe_neg]; norm_num

/-- The least scale is a positive real. -/
theorem tiny_pos : ∃ r : ℝ, 0 < r ∧ tiny = (r : EReal) := by
  refine ⟨11258999 * (2 : ℝ) ^ (-50 : ℤ), by positivity, ?_⟩
  unfold tiny; simp [Ideal.ofBits, Ideal.ieee, -EReal.coe_mul]

/-- The larger of two reals, as an extended real. -/
theorem coe_max' (a b : ℝ) : ((max a b : ℝ) : EReal) = max (a : EReal) (b : EReal) :=
  EReal.coe_strictMono.monotone.map_max

/-- The absolute value of a real. -/
theorem mag_coe (r : ℝ) : mag (r : EReal) = ((|r| : ℝ) : EReal) := by
  rw [mag, ← EReal.coe_neg, ← coe_max']; rfl

/-- An absolute value is at least zero. -/
theorem mag_nonneg (x : EReal) : 0 ≤ mag x := by
  induction x with
  | bot => simp [mag]
  | top => simp [mag]
  | coe r => rw [mag_coe]; exact_mod_cast abs_nonneg r

/-- The absolute value of a value of at least zero is the value. -/
theorem mag_of_nonneg {x : EReal} (h : 0 ≤ x) : mag x = x := by
  rw [mag]; exact max_eq_left (le_trans (EReal.neg_le_zero.mpr h) h)

/-- Rounding moves a real at most to one of the two integers around it. -/
theorem floor_le_round (r : ℝ) : ⌊r⌋ ≤ Ideal.roundHalfEven r ∧ Ideal.roundHalfEven r ≤ ⌈r⌉ := by
  have hfc : ⌊r⌋ ≤ ⌈r⌉ := Int.floor_le_ceil r
  unfold Ideal.roundHalfEven
  dsimp only
  by_cases h0 : r - ⌊r⌋ < 1 / 2
  · rw [if_pos h0]; exact ⟨le_refl _, hfc⟩
  · have : ⌊r⌋ + 1 ≤ ⌈r⌉ := by
      rw [Int.add_one_le_iff, Int.lt_ceil]; push Not at h0; linarith
    rw [if_neg h0]
    split_ifs <;> constructor <;> omega

/-- Rounding fixes the integers. -/
theorem round_int (n : ℤ) : Ideal.roundHalfEven (n : ℝ) = n := by
  have h := floor_le_round (n : ℝ)
  rw [Int.floor_intCast, Int.ceil_intCast] at h; omega

/-- Division of reals. -/
theorem div_real {x y : ℝ} (hy : y ≠ 0) : Ideal.div (x : EReal) (y : EReal) = ((x / y : ℝ) : EReal) := by
  rw [Ideal.div_coe hy, ← EReal.coe_mul]; congr 1; ring

/-- The scale of a finite, nonnegative magnitude is a positive real. -/
theorem scl_real {m : ℝ} : ∃ s : ℝ, 0 < s ∧ scl (m : EReal) = (s : EReal) ∧ m / 7 ≤ s
    ∧ ∃ t : ℝ, 0 < t ∧ tiny = (t : EReal) ∧ s = max (m / 7) t := by
  obtain ⟨t, ht, e⟩ := tiny_pos
  refine ⟨max (m / 7) t, lt_max_of_lt_right ht, ?_, le_max_left _ _, t, ht, e, rfl⟩
  rw [scl, seven_eq, e, div_real (by norm_num), coe_max']

/-- A real is finite. -/
theorem IsFin.coe (r : ℝ) : IsFin (r : EReal) := ⟨r, rfl⟩

/-- A sum of two finite values is finite. -/
theorem IsFin.add {x y : EReal} (hx : IsFin x) (hy : IsFin y) : IsFin (x + y) := by
  obtain ⟨a, rfl⟩ := hx; obtain ⟨b, rfl⟩ := hy; exact ⟨a + b, (EReal.coe_add a b).symm⟩
/-- A product of finite values is finite. -/
theorem IsFin.mul {x y : EReal} (hx : IsFin x) (hy : IsFin y) : IsFin (x * y) := by
  obtain ⟨a, rfl⟩ := hx; obtain ⟨b, rfl⟩ := hy; exact ⟨a * b, (EReal.coe_mul a b).symm⟩
/-- Zero is finite. -/
theorem IsFin.zero : IsFin 0 := ⟨0, rfl⟩

/-- A finite sum of finite values is finite. -/
theorem IsFin.sum {ι : Type} (s : Finset ι) {f : ι → EReal} (h : ∀ i, IsFin (f i)) : IsFin (∑ i ∈ s, f i) :=
  Finset.sum_induction f IsFin (fun _ _ => IsFin.add) IsFin.zero fun i _ => h i
/-- The absolute value of a finite value is finite. -/
theorem IsFin.mag {x : EReal} (hx : IsFin x) : IsFin (mag x) := by
  obtain ⟨a, rfl⟩ := hx; exact ⟨_, mag_coe a⟩
/-- What is neither infinity is finite. -/
theorem fin_of_ne {x : EReal} (h : x ≠ ⊥) (h' : x ≠ ⊤) : IsFin x := ⟨x.toReal, (EReal.coe_toReal h' h).symm⟩

/-- The largest of finitely many finite values is finite, and attained. -/
theorem exists_iSup {ι : Type} [Finite ι] [Nonempty ι] (f : ι → EReal) : ∃ i, f i = ⨆ j, f j :=
  exists_eq_ciSup_of_finite

/-- The supremum of finitely many finite values is finite. -/
theorem IsFin.iSup {ι : Type} [Finite ι] [Nonempty ι] {f : ι → EReal} (h : ∀ i, IsFin (f i)) : IsFin (⨆ i, f i) := by
  obtain ⟨i, e⟩ := exists_iSup f; rw [← e]; exact h i

/-- The scale of a finite magnitude is finite. -/
theorem IsFin.scl {m : EReal} (h : IsFin m) : IsFin (scl m) := by
  obtain ⟨r, rfl⟩ := h; obtain ⟨s, _, e, _⟩ := scl_real (m := r); exact ⟨s, e⟩

/-- The quotient of a real by a real other than zero is a real. -/
theorem IsFin.div {x y : EReal} (hx : IsFin x) (hy : IsFin y) (h : 0 < y) : IsFin (Ideal.div x y) := by
  obtain ⟨a, rfl⟩ := hx; obtain ⟨b, rfl⟩ := hy
  exact ⟨_, div_real (ne_of_gt (by exact_mod_cast h))⟩

/-- A clipped value is finite, whatever was clipped. -/
theorem clip_fin {lo : EReal} (hlo : IsFin lo) (z : EReal) : IsFin (min seven (max lo z)) := by
  obtain ⟨l, rfl⟩ := hlo; rw [seven_eq]
  refine fin_of_ne ?_ ?_
  · intro h
    rw [min_eq_bot] at h
    rcases h with h | h
    · exact EReal.coe_ne_bot _ h
    · exact EReal.coe_ne_bot _ (max_eq_bot.mp h).1
  · intro h
    exact EReal.coe_ne_top _ (min_eq_top.mp h).1

/-- A quantised value is finite, whatever was quantised. -/
theorem IsFin.quant {lo s : EReal} (hlo : IsFin lo) (hs : IsFin s) (x : EReal) : IsFin (quant lo s x) :=
  (clip_fin hlo _).mul hs

/-- `-8` is finite. -/
theorem lowA_fin : IsFin lowA := ⟨_, lowA_eq⟩

/-- `-7` is finite. -/
theorem lowW_fin : IsFin lowW := ⟨_, lowW_eq⟩

/-- The straight-through form gives back the quantised value where nothing is infinite. -/
theorem ste {x q : EReal} (hx : IsFin x) (hq : IsFin q) : x + (q - x) = q := by
  obtain ⟨a, rfl⟩ := hx; obtain ⟨b, rfl⟩ := hq
  rw [← EReal.coe_sub, ← EReal.coe_add]; congr 1; ring

/-- At a scale that is large enough, a finite value is sent to an integer multiple of the scale, of at most seven. -/
theorem quant_int {x s : ℝ} (hs : 0 < s) (h : |x| ≤ 7 * s) : ∃ n : ℤ, |n| ≤ 7 ∧ n = Ideal.roundHalfEven (x / s) ∧
    quant lowA (s : EReal) (x : EReal) = (((n : ℝ) * s : ℝ) : EReal) := by
  have h7 : |x / s| ≤ 7 := by rw [abs_div, abs_of_pos hs, div_le_iff₀ hs]; exact h
  have hb := abs_le.mp h7
  obtain ⟨h1, h2⟩ := floor_le_round (x / s)
  have h3 : -7 ≤ ⌊x / s⌋ := by rw [Int.le_floor]; push_cast; exact hb.1
  have h4 : ⌈x / s⌉ ≤ 7 := by rw [Int.ceil_le]; push_cast; exact hb.2
  refine ⟨Ideal.roundHalfEven (x / s), abs_le.mpr ⟨by omega, by omega⟩, rfl, ?_⟩
  rw [quant, div_real hs.ne', rnd, Ideal.liftRound_coe, seven_eq, lowA_eq, EReal.coe_mul]
  congr 1
  rw [max_eq_right, min_eq_right]
  · have : ((Ideal.roundHalfEven (x / s) : ℤ) : ℝ) ≤ 7 := by exact_mod_cast h2.trans h4
    exact_mod_cast this
  · have : (-8 : ℝ) ≤ ((Ideal.roundHalfEven (x / s) : ℤ) : ℝ) := by
      have : -8 ≤ Ideal.roundHalfEven (x / s) := by omega
      exact_mod_cast this
    exact EReal.coe_le_coe_iff.mpr this

section Idem
variable {ι : Type} [Finite ι] [Nonempty ι] (x : ι → EReal) (hx : ∀ i, IsFin (x i))
include hx

/-- The common scale, with the bound that puts every value within seven levels of it. -/
theorem scale_facts : ∃ (s : ℝ), 0 < s ∧ scl (⨆ i, mag (x i)) = (s : EReal) ∧ (∀ i, ∃ r : ℝ, x i = r ∧ |r| ≤ 7 * s)
    ∧ ∃ t : ℝ, 0 < t ∧ tiny = (t : EReal) ∧ (s = t ∨ (t ≤ s ∧ ∃ i, ∃ r : ℝ, x i = r ∧ |r| = 7 * s)) := by
  obtain ⟨i0, e0⟩ := exists_iSup fun i => mag (x i)
  obtain ⟨r0, hr0⟩ := hx i0
  have e1 : (⨆ i, mag (x i)) = ((|r0| : ℝ) : EReal) := by rw [← e0, hr0, mag_coe]
  obtain ⟨s, hs, es, hle, t, ht, et, est⟩ := scl_real (m := |r0|)
  refine ⟨s, hs, by rw [e1, es], fun i => ?_, t, ht, et, ?_⟩
  · obtain ⟨r, hr⟩ := hx i
    refine ⟨r, hr, ?_⟩
    have : mag (x i) ≤ ⨆ i, mag (x i) := le_iSup (fun i => mag (x i)) i
    rw [hr, mag_coe, e1] at this
    have : |r| ≤ |r0| := by exact_mod_cast this
    linarith
  · rcases le_total (|r0| / 7) t with h | h
    · left; rw [est, max_eq_right h]
    · right; rw [max_eq_left h] at est
      exact ⟨by rw [est]; exact h, i0, r0, hr0, by rw [est]; ring⟩

/-- Quantising twice is quantising once: the second scale is the first. -/
theorem scale_quant : scl (⨆ i, mag (quant lowA (scl (⨆ i, mag (x i))) (x i))) = scl (⨆ i, mag (x i)) := by
  obtain ⟨s, hs, es, hb, t, ht, et, hd⟩ := scale_facts x hx
  rw [es]
  have hq : ∀ i, mag (quant lowA (s : EReal) (x i)) ≤ ((7 * s : ℝ) : EReal) := fun i => by
    obtain ⟨r, hr, hrs⟩ := hb i
    obtain ⟨n, hn, _, e⟩ := quant_int hs hrs
    rw [hr, e, mag_coe, abs_mul, abs_of_pos hs]
    have : |(n : ℝ)| ≤ 7 := by exact_mod_cast hn
    exact_mod_cast mul_le_mul_of_nonneg_right this hs.le
  obtain ⟨i1, e1⟩ := exists_iSup fun i => mag (quant lowA (s : EReal) (x i))
  obtain ⟨r1, hr1⟩ : IsFin (⨆ i, mag (quant lowA (s : EReal) (x i))) :=
    IsFin.iSup fun i => (IsFin.quant lowA_fin ⟨s, rfl⟩ _).mag
  have hle : r1 ≤ 7 * s := by have := hq i1; rw [e1, hr1] at this; exact_mod_cast this
  rw [hr1]
  obtain ⟨s', hs', es', _, t', ht', et', est'⟩ := scl_real (m := r1)
  have htt : t' = t := by rw [et] at et'; exact_mod_cast et'.symm
  subst htt
  rw [es', est']
  congr 1
  rcases hd with h | ⟨hts, i, r, hr, hrs⟩
  · rw [max_eq_right (by linarith), h]
  · obtain ⟨n, hn, hne, e⟩ := quant_int (x := r) hs hrs.le
    have hn7 : |(n : ℝ)| = 7 := by
      rcases abs_choice r with h | h <;> rw [h] at hrs
      · have : r / s = ((7 : ℤ) : ℝ) := by rw [hrs]; field_simp; norm_num
        rw [this, round_int] at hne; rw [hne]; norm_num
      · have : r / s = ((-7 : ℤ) : ℝ) := by
          rw [show r = -(7 * s) by linarith]; field_simp; norm_num
        rw [this, round_int] at hne; rw [hne]; norm_num
    have h1 : mag (quant lowA (s : EReal) (x i)) ≤ (r1 : EReal) := by
      rw [← hr1]; exact le_iSup (fun i => mag (quant lowA (s : EReal) (x i))) i
    rw [hr, e, mag_coe, abs_mul, hn7, abs_of_pos hs] at h1
    have h2 : 7 * s ≤ r1 := by exact_mod_cast h1
    have h3 : r1 / 7 = s := by rw [le_antisymm hle h2]; field_simp
    rw [h3, max_eq_left hts]

/-- Quantising twice is quantising once: the values. -/
theorem quant_quant (i : ι) : quant lowA (scl (⨆ i, mag (x i))) (quant lowA (scl (⨆ i, mag (x i))) (x i))
    = quant lowA (scl (⨆ i, mag (x i))) (x i) := by
  obtain ⟨s, hs, es, hb, _⟩ := scale_facts x hx
  rw [es]
  obtain ⟨r, hr, hrs⟩ := hb i
  obtain ⟨n, hn, _, e⟩ := quant_int hs hrs
  rw [hr, e]
  have hb2 : |(n : ℝ) * s| ≤ 7 * s := by
    rw [abs_mul, abs_of_pos hs]
    have : |(n : ℝ)| ≤ 7 := by exact_mod_cast hn
    exact mul_le_mul_of_nonneg_right this hs.le
  obtain ⟨n', _, hne', e'⟩ := quant_int hs hb2
  rw [e', hne', mul_div_assoc, div_self hs.ne', mul_one, round_int]

end Idem

end Cert.Attn

end
-- ==== Proof.Folds.lean ====
/-
  Folds of a largest or a smallest element, as suprema and infima over the extended reals.
-/
module

public import Idealize.ShloMosaic.Lib.Pointwise
public import proofs.«01_k».proof.Proof.Quant

@[expose] public section

noncomputable section

namespace Cert.Attn

open Idealize.ShloMosaic

/-- The pattern a largest element starts from is `-∞`. -/
theorem neg_inf : Ideal.ofBits .f32 0xFF800000#32 = ⊥ := by
  simp [Ideal.ofBits, Ideal.ieee]

/-- The pattern a smallest element starts from is `+∞`. -/
theorem pos_inf : Ideal.ofBits .f32 0x7F800000#32 = ⊤ := by
  simp [Ideal.ofBits, Ideal.ieee]

/-- A fold of the largest element from `-∞` is the supremum. -/
theorem fold_max {ι : Type} [Fintype ι] (f : ι → EReal) :
    (Finset.univ : Finset ι).fold max (Ideal.ofBits .f32 0xFF800000#32) f = ⨆ i, f i := by
  rw [neg_inf, ← Finset.sup_univ_eq_iSup]; rfl

/-- A fold of the smallest element from `+∞` is the infimum. -/
theorem fold_min {ι : Type} [Fintype ι] (f : ι → EReal) :
    (Finset.univ : Finset ι).fold min (Ideal.ofBits .f32 0x7F800000#32) f = ⨅ i, f i := by
  rw [pos_inf, ← Finset.inf_univ_eq_iInf]; rfl

/-- The absolute value the programs take. -/
theorem absf_mag (x : Ideal .f32) : FloatOps.absf x = mag x := rfl

/-- A largest element over every axis, from `-∞`: the supremum over all indices. -/
theorem reduce_all {s t u : Shape} {axes : List (Fin s.rank)} (x : FVec Ideal s .f32) (h : s.ReducesTo axes t)
    (hu : 0 < u.numel) (ht : t.rank = 0) (j : t.Idx) :
    Host.reduce FloatOps.maximumf x (constant u .f32 0xFF800000#32) h hu j = ⨆ i, x i := by
  have hs : ∀ i, h.drop i = j := fun i => by
    funext a; exact absurd a.isLt (by omega)
  rw [Host.reduce_eq_fold]
  simp only [hs, Finset.filter_true]
  exact fold_max x

/-- A supremum over `n + 1` places: the first `n`, then the last. -/
theorem iSup_castSucc {n : ℕ} (f : Fin (n + 1) → EReal) : ⨆ i, f i = max (⨆ i : Fin n, f i.castSucc) (f (Fin.last n)) :=
  le_antisymm (iSup_le fun i => Fin.lastCases (le_max_right _ _) (fun j => (le_iSup (fun j : Fin n => f j.castSucc) j).trans (le_max_left _ _)) i)
    (max_le (iSup_le fun j => le_iSup f j.castSucc) (le_iSup f (Fin.last n)))

/-- An infimum over `n + 1` places: the first `n`, then the last. -/
theorem iInf_castSucc {n : ℕ} (f : Fin (n + 1) → EReal) : ⨅ i, f i = min (⨅ i : Fin n, f i.castSucc) (f (Fin.last n)) :=
  le_antisymm (le_min (le_iInf fun j => iInf_le f j.castSucc) (iInf_le f (Fin.last n)))
    (le_iInf fun i => Fin.lastCases (min_le_right _ _) (fun j => (min_le_left _ _).trans (iInf_le (fun j : Fin n => f j.castSucc) j)) i)

/-- A largest value run over the sixteen heads from zero. -/
def run16 (f : ℕ → EReal) : ℕ → EReal
  | 0 => 0
  | n + 1 => max (run16 f n) (f (64 * n))

/-- A smallest value run over the sixteen heads from `+∞`. -/
def runMin16 (f : ℕ → EReal) : ℕ → EReal
  | 0 => ⊤
  | n + 1 => min (runMin16 f n) (f (64 * n))

/-- The running largest value is the supremum over the heads. -/
theorem run16_eq (f : ℕ → EReal) (h0 : ∀ o, 0 ≤ f o) (n : ℕ) : run16 f (n + 1) = ⨆ h : Fin (n + 1), f (64 * h.val) := by
  induction n with
  | zero => rw [iSup_castSucc]; simp [run16, h0]
  | succ n ih => rw [iSup_castSucc, run16, ih]; rfl

/-- The running smallest value is the infimum over the heads. -/
theorem runMin16_eq (f : ℕ → EReal) (n : ℕ) : runMin16 f n = ⨅ h : Fin n, f (64 * h.val) := by
  induction n with
  | zero => exact (le_antisymm le_top (le_iInf fun h : Fin 0 => h.elim0)).symm
  | succ n ih => rw [iInf_castSucc, runMin16, ih]; rfl

/-- A supremum of magnitudes over a nonempty type is at least zero. -/
theorem iSup_mag_nonneg {ι : Type} [Nonempty ι] (f : ι → EReal) : 0 ≤ ⨆ i, mag (f i) :=
  (mag_nonneg (f (Classical.arbitrary ι))).trans (le_iSup (fun i => mag (f i)) _)

end Cert.Attn

end
-- ==== Proof.Spec.lean ====
/-
  The stages of one attention layer with four-bit fake quantisation, as functions of coordinates over the extended
  reals: batch `b`, position `s` or `t`, feature `e`, head `h`, feature `d` of a head.
-/
module

public import proofs.«01_k».proof.Proof.Quant

@[expose] public section

noncomputable section

namespace Cert.Attn

open Idealize.ShloMosaic

/-- Activations: batch, position, feature. -/
abbrev Act := Fin 8 → Fin 512 → Fin 1024 → EReal
/-- Scores or probabilities: batch, head, position, position. -/
abbrev Sco := Fin 8 → Fin 16 → Fin 512 → Fin 512 → EReal
/-- Weights: output feature, input feature. -/
abbrev Wgt := Fin 1024 → Fin 1024 → EReal
/-- A bias. -/
abbrev Bia := Fin 1024 → EReal

/-- Feature `d` of the head whose features start at `o`. -/
def cl (o : ℕ) (d : Fin 64) : Fin 1024 := ⟨(o + d.val) % 1024, Nat.mod_lt _ (by decide)⟩

/-- The head of a feature. -/
def hd (e : Fin 1024) : Fin 16 := ⟨e.val / 64, by omega⟩

/-- The largest magnitude of the activations. -/
def amax (x : Act) : EReal := ⨆ b, ⨆ s, ⨆ e, mag (x b s e)

/-- The largest magnitude of the scores. -/
def smax (x : Sco) : EReal := ⨆ b, ⨆ h, ⨆ s, ⨆ t, mag (x b h s t)

/-- Quantised activations. -/
def qz (s : EReal) (x : Act) : Act := fun b i e => quant lowA s (x b i e)

/-- Quantised scores. -/
def qzS (s : EReal) (x : Sco) : Sco := fun b h i t => quant lowA s (x b h i t)

/-- Activations quantised with their own scale. -/
def fq (x : Act) : Act := qz (scl (amax x)) x

/-- Weights quantised with their own scale, to the narrow range. -/
def fqW (w : Wgt) : Wgt := fun e c => quant lowW (scl (⨆ i, ⨆ j, mag (w i j))) (w e c)

/-- A bias quantised with its own scale, to the narrow range. -/
def fqB (β : Bia) : Bia := fun e => quant lowW (scl (⨆ i, mag (β i))) (β e)

/-- `x wᵀ + β`. -/
def lin (x : Act) (w : Wgt) (β : Bia) : Act := fun b s e => (∑ c : Fin 1024, x b s c * w e c) + β e

/-- Scores of head `h`: the products of query rows and key rows. -/
def scr (q k : Act) : Sco := fun b h s t => ∑ d : Fin 64, q b s (cl (64 * h.val) d) * k b t (cl (64 * h.val) d)

/-- Exponentials of scores, less the largest of their row. -/
def ex (S : Sco) : Sco := fun b h s t => Ideal.exp (S b h s t - ⨆ t', S b h s t')

/-- Row sums. -/
def zs (E : Sco) : Fin 8 → Fin 16 → Fin 512 → EReal := fun b h s => ∑ t : Fin 512, E b h s t

/-- Softmax from exponentials. -/
def prob (E : Sco) : Sco := fun b h s t => Ideal.div (E b h s t) (zs E b h s)

/-- Probabilities times values, the heads side by side. -/
def att (p : Sco) (v : Act) : Act := fun b s e => ∑ t : Fin 512, p b (hd e) s t * v b t e

/-- An eighth. -/
def eighth : EReal := Ideal.ofBits .f32 0x3E000000#32

/-- One. -/
def one : EReal := Ideal.ofBits .f32 0x3F800000#32

/-- The scaled queries. -/
def scaled (x : Act) : Act := fun b s e => x b s e * eighth

/-- One layer before its output is quantised, from quantised input `x`, quantised weights and biases:
    the largest probability read as `P`. -/
def layerWith (P : Sco → EReal) (x : Act) (wq wk wv wo : Wgt) (βq βk βv βo : Bia) : Act :=
  let q := fq (scaled (lin x wq βq))
  let k := fq (lin x wk βk)
  let v := fq (lin x wv βv)
  let S := scr q k
  let E := ex (qzS (scl (smax S)) S)
  let p := qzS (scl (P E)) (prob E)
  lin (fq (att p v)) wo βo

end Cert.Attn

end
-- ==== Proof.Block.lean ====
/-
  What the bodies' parts compute, one block at a time, as functions of the block's coordinates.
-/
module

public import proofs.«01_k».proof.Proof.Gen.KernelIdeal.Skeleton
public import Idealize.ShloMosaic.Lib.Pointwise
public import Idealize.ShloMosaic.Lib.Pipeline.ValueKit
public import Idealize.ShloMosaic.Lib.Pipeline.Covers
public import Idealize.ShloMosaic.Lib.Pipeline.ReadBack
public import proofs.«01_k».proof.Proof.Folds
public import proofs.«01_k».proof.Proof.Spec

@[expose] public section

set_option maxRecDepth 16384

noncomputable section

namespace Cert.KernelIdeal.Gen

open Idealize.ShloMosaic Idealize.ShloMosaic.TcCoe Cert.Attn

/-- A block of activations quantised. -/
theorem quant_apply (x : Vec Ideal S1x512x1024 .f32) (s : EReal) (i : S512x1024.Idx) :
    k2_pay6 (F := Ideal) x s i = quant lowA s (x (ix3 0 (i 0) (i 1))) := by
  pointwise [k2_pay6]
  rfl

/-- An array of activations by its coordinates. -/
def cur (A : Vec Ideal S8x512x1024 .f32) : Act := fun b s e => A (ix3 b s e)

/-- The block of batch `b`, as it is staged. -/
def bAct (A : Act) (b : Fin 8) : Vec Ideal S1x512x1024 .f32 := fun i => A b (i 1) (i 2)

/-- The block of batch `b`, as rows and columns. -/
def bRow (A : Act) (b : Fin 8) : FVec Ideal S512x1024 .f32 := fun i => A b (i 0) (i 1)

/-- The batch a grid point works on. -/
def bt (i : Fin 2) (j : Fin 4) : Fin 8 := ⟨4 * i.val + j.val, by omega⟩

/-- The batch a grid point works on, from its coordinates. -/
def btc (g : grid1.Coords) : Fin 8 := bt (g 0) (g 1)

/-- One scalar, two scalars, three scalars: an array's contents. -/
def as1 (x : Vec Ideal S1 .f32) : Vec Ideal S1 .f32 := x

/-- The same, of two values. -/
def as2 (x : Vec Ideal S2 .f32) : Vec Ideal S2 .f32 := x

/-- The same, of three values. -/
def as3 (x : Vec Ideal S3 .f32) : Vec Ideal S3 .f32 := x

/-- A block of activations quantised is the block of the quantised activations. -/
theorem quant_blk (A : Act) (b : Fin 8) (s : EReal) : k2_pay6 (F := Ideal) (bAct A b) s = bRow (qz s A) b := by
  funext i
  rw [quant_apply]
  rfl

/-- Weight `n` of the four stacked weights. -/
def wAt (A : Vec Ideal S4x1024x1024 .f32) (n : Fin 4) : Wgt := fun e c => A (ix3 n e c)

/-- Bias `n` of the four stacked biases. -/
def bAt (A : Vec Ideal S4x1x1024 .f32) (n : Fin 4) : Bia := fun e => A (ix3 n 0 e)

/-- A weight, as it is staged. -/
def bWgt (w : Wgt) : Vec Ideal S1x1024x1024 .f32 := fun i => w (i 1) (i 2)

/-- A bias, as it is loaded. -/
def bBia (β : Bia) : Vec Ideal S1x1x1024 .f32 := fun i => β (i 2)

/-- One of two scalars, loaded. -/
theorem ld_scalar2 (o : ℕ) (k : Fin 2) (hk : k.val = o) (x : Vec Ideal S2 .f32)
    (h : ∀ a, (![o] : Fin 1 → ℕ) a + (![1] : Fin 1 → ℕ) a ≤ S2.size a) (i) :
    View.ld x (Rect.unit ![o] ![1] h) i = x (ix1 k) := by
  subst hk
  unfold View.ld
  congr 1
  ext a
  fin_cases a
  simp

/-- One of three scalars, loaded. -/
theorem ld_scalar3 (o : ℕ) (k : Fin 3) (hk : k.val = o) (x : Vec Ideal S3 .f32)
    (h : ∀ a, (![o] : Fin 1 → ℕ) a + (![1] : Fin 1 → ℕ) a ≤ S3.size a) (i) :
    View.ld x (Rect.unit ![o] ![1] h) i = x (ix1 k) := by
  subst hk
  unfold View.ld
  congr 1
  ext a
  fin_cases a
  simp

/-- The one scalar, loaded. -/
theorem ld_scalar1 (x : Vec Ideal S1 .f32)
    (h : ∀ a, (![0] : Fin 1 → ℕ) a + (![1] : Fin 1 → ℕ) a ≤ S1.size a) (i) :
    View.ld x (Rect.unit ![0] ![1] h) i = x (ix1 0) := by
  unfold View.ld
  congr 1
  ext a
  fin_cases a
  simp

/-- One of the four biases, loaded. -/
theorem ld_bias (n : ℕ) (hn : n < 4) (x : Vec Ideal S4x1x1024 .f32)
    (h : ∀ a, (![n, 0, 0] : Fin 3 → ℕ) a + (![1, 1, 1024] : Fin 3 → ℕ) a ≤ S4x1x1024.size a) :
    View.ld x (Rect.unit ![n, 0, 0] ![1, 1, 1024] h) = bBia (bAt x ⟨n, hn⟩) := by
  funext i
  unfold View.ld bBia bAt
  congr 1
  have h0 : (i 0).val < 1 := (i 0).isLt
  have h1 : (i 1).val < 1 := (i 1).isLt
  ext a
  fin_cases a <;> simp <;> omega

/-- A head's columns lie inside the row. -/
theorem head_fits {o : ℕ} (hs : S512x1024.Slices ![0, o] S512x64) : o + 64 ≤ 1024 := by
  simpa using hs.2 1

/-- A column of a slice, by its place in the whole. -/
theorem col_eq {o : ℕ} (hs : S512x1024.Slices ![0, o] S512x64) (d : Fin 64) (h : o + d.val < 1024) :
    (⟨o + d.val, h⟩ : Fin 1024) = cl o d := Fin.ext (Nat.mod_eq_of_lt h).symm

/-- Scores of the head whose columns start at `o`. -/
def hScore (o : ℕ) (a b : FVec Ideal S512x1024 .f32) : FVec Ideal S512x512 .f32 := fun i =>
  ∑ d : Fin 64, (a (ix2 (i 0) (cl o d)) * b (ix2 (i 1) (cl o d)) : EReal)

/-- The product of two column slices is the head's scores. -/
theorem score_head (o : ℕ) (a b : FVec Ideal S512x1024 .f32) (hs hs' : S512x1024.Slices ![0, o] S512x64) :
    matmul dot_S512x64_S512x64_S512x512_1_1_0_0_n_n none (extractStridedSlice S512x64 ![0, o] a hs)
      (extractStridedSlice S512x64 ![0, o] b hs') (constant S512x512 .f32 0x00000000#32) = hScore o a b := by
  funext i
  pointwise []
  simp only [col_eq hs]
  rfl

/-- What `score_max` leaves for a block: the largest score magnitude over the heads, on every lane. -/
theorem score_max_val (x0 x1 : Vec Ideal S1x512x1024 .f32) (s0 s1 : EReal) (y : S1x1x128.Idx) :
    k3_pay1 (F := Ideal) (k3_pay2 x0 s0) (k3_pay3 x1 s1)
      (k3_pay8 (k3_pay2 x0 s0) (k3_pay3 x1 s1) (k3_pay6 (k3_pay2 x0 s0) (k3_pay3 x1 s1) (k3_pay4 x0 s0 x1 s1) (k3_pay5 x0 s0 x1 s1)) (k3_pay7 (k3_pay2 x0 s0) (k3_pay3 x1 s1)))
      (k3_pay9 (k3_pay2 x0 s0) (k3_pay3 x1 s1)) y
      = ⨆ h : Fin 16, ⨆ p : Fin 512 × Fin 512, mag (hScore (64 * h.val) (k2_pay6 x0 s0) (k2_pay6 x1 s1) (ix2 p.1 p.2)) := by
  have e0 : k3_pay2 (F := Ideal) x0 s0 = k2_pay6 x0 s0 := rfl
  have e1 : k3_pay3 (F := Ideal) x1 s1 = k2_pay6 x1 s1 := rfl
  simp only [k3_pay4, k3_pay5, e0, e1]
  generalize k2_pay6 (F := Ideal) x0 s0 = a
  generalize k2_pay6 (F := Ideal) x1 s1 = b
  simp only [k3_pay1, k3_pay6, k3_pay7, k3_pay8, k3_pay9, score_head]
  pointwise []
  simp only [fold_max, absf_mag]
  refine Eq.trans ?_ (run16_eq (fun o => ⨆ p : Fin 512 × Fin 512, mag (hScore o a b (ix2 p.1 p.2))) (fun o => iSup_mag_nonneg _) 15)
  simp only [run16]

/-- What `score_max` leaves for a block of queries and a block of keys. -/
theorem sm_out (A B : Act) (b : Fin 8) (s0 s1 : EReal) (y : S1x1x128.Idx) :
    k3_pay1 (F := Ideal) (k3_pay2 (bAct A b) s0) (k3_pay3 (bAct B b) s1)
      (k3_pay8 (k3_pay2 (bAct A b) s0) (k3_pay3 (bAct B b) s1)
        (k3_pay6 (k3_pay2 (bAct A b) s0) (k3_pay3 (bAct B b) s1) (k3_pay4 (bAct A b) s0 (bAct B b) s1) (k3_pay5 (bAct A b) s0 (bAct B b) s1))
        (k3_pay7 (k3_pay2 (bAct A b) s0) (k3_pay3 (bAct B b) s1)))
      (k3_pay9 (k3_pay2 (bAct A b) s0) (k3_pay3 (bAct B b) s1)) y
      = ⨆ h : Fin 16, ⨆ p : Fin 512 × Fin 512, mag (scr (qz s0 A) (qz s1 B) b h p.1 p.2) := by
  refine (score_max_val _ _ _ _ y).trans ?_
  simp only [quant_blk]
  rfl

/-- A projection of a block: the products with the weight's rows, plus the bias. -/
def bLin (a : FVec Ideal S512x1024 .f32) (w : Vec Ideal S1x1024x1024 .f32) (β : Vec Ideal S1x1x1024 .f32) (i : S512x1024.Idx) : EReal :=
  (∑ c : Fin 1024, (a (ix2 (i 0) c) * w (ix3 0 (i 1) c) : EReal)) + β (ix3 0 0 (i 1))

/-- The queries a grid point computes. -/
theorem q_apply (x : Vec Ideal S1x512x1024 .f32) (s : EReal) (w : Vec Ideal S1x1024x1024 .f32) (β : Vec Ideal S1x1x1024 .f32) (i : S512x1024.Idx) :
    k2_pay7 (F := Ideal) x s w β i = bLin (k2_pay6 x s) w β i * eighth := by
  unfold k2_pay7
  generalize k2_pay6 (F := Ideal) x s = a
  pointwise []
  rfl

/-- The keys a grid point computes. -/
theorem k_apply (x : Vec Ideal S1x512x1024 .f32) (s : EReal) (w : Vec Ideal S1x1024x1024 .f32) (β : Vec Ideal S1x1x1024 .f32) (i : S512x1024.Idx) :
    k2_pay8 (F := Ideal) x s w β i = bLin (k2_pay6 x s) w β i := by
  unfold k2_pay8
  generalize k2_pay6 (F := Ideal) x s = a
  pointwise []
  rfl

/-- The values a grid point computes. -/
theorem v_apply (x : Vec Ideal S1x512x1024 .f32) (s : EReal) (w : Vec Ideal S1x1024x1024 .f32) (β : Vec Ideal S1x1x1024 .f32) (i : S512x1024.Idx) :
    k2_pay1 (F := Ideal) (k2_pay9 x s w) β i = bLin (k2_pay6 x s) w β i := by
  unfold k2_pay1 k2_pay9
  generalize k2_pay6 (F := Ideal) x s = a
  pointwise []
  rfl

/-- The output projection a grid point computes. -/
theorem out_apply (x : Vec Ideal S1x512x1024 .f32) (s : EReal) (w : Vec Ideal S1x1024x1024 .f32) (β : Vec Ideal S1x1x1024 .f32) (i : S512x1024.Idx) :
    k6_pay1 (F := Ideal) x s w β i = bLin (k2_pay6 x s) w β i := by
  have e : k6_pay1 (F := Ideal) x s w β i = k2_pay8 x s w β i := rfl
  rw [e, k_apply]

/-- The three rows of largest magnitudes that `qkv_proj` leaves for a block. -/
theorem pm_val (q k a : FVec Ideal S512x1024 .f32) (β : Vec Ideal S1x1x1024 .f32) (y : S1x3x128.Idx) :
    k2_pay5 (F := Ideal) q k a β y
      = ![⨆ p : Fin 512 × Fin 1024, mag (q (ix2 p.1 p.2)), ⨆ p : Fin 512 × Fin 1024, mag (k (ix2 p.1 p.2)),
          ⨆ p : Fin 512 × Fin 1024, mag (k2_pay1 a β (ix2 p.1 p.2))] (y 1) := by
  unfold k2_pay5
  generalize k2_pay1 (F := Ideal) a β = v
  pointwise []
  simp only [fold_max, absf_mag]
  generalize y 1 = r
  fin_cases r <;> rfl

/-- What `qkv_proj` leaves for a block: the scaled queries, the keys, the values. -/
theorem q_out (A : Act) (b : Fin 8) (s : EReal) (w : Wgt) (β : Bia) (y : S1x512x1024.Idx) :
    k2_pay2 (F := Ideal) (k2_pay7 (bAct A b) s (bWgt w) (bBia β)) y = scaled (lin (qz s A) w β) b (y 1) (y 2) := by
  have e : k2_pay2 (F := Ideal) (k2_pay7 (bAct A b) s (bWgt w) (bBia β)) y = k2_pay7 (bAct A b) s (bWgt w) (bBia β) (ix2 (y 1) (y 2)) := by
    unfold k2_pay2
    generalize k2_pay7 (F := Ideal) (bAct A b) s (bWgt w) (bBia β) = a
    pointwise []
  rw [e, q_apply, quant_blk]
  rfl

/-- The keys, as they are written. -/
theorem k_out (A : Act) (b : Fin 8) (s : EReal) (w : Wgt) (β : Bia) (y : S1x512x1024.Idx) :
    k2_pay3 (F := Ideal) (k2_pay8 (bAct A b) s (bWgt w) (bBia β)) y = lin (qz s A) w β b (y 1) (y 2) := by
  have e : k2_pay3 (F := Ideal) (k2_pay8 (bAct A b) s (bWgt w) (bBia β)) y = k2_pay8 (bAct A b) s (bWgt w) (bBia β) (ix2 (y 1) (y 2)) := by
    unfold k2_pay3
    generalize k2_pay8 (F := Ideal) (bAct A b) s (bWgt w) (bBia β) = a
    pointwise []
  rw [e, k_apply, quant_blk]
  rfl

/-- The values, as they are written. -/
theorem v_out (A : Act) (b : Fin 8) (s : EReal) (w : Wgt) (β : Bia) (y : S1x512x1024.Idx) :
    k2_pay4 (F := Ideal) (k2_pay9 (bAct A b) s (bWgt w)) (bBia β) y = lin (qz s A) w β b (y 1) (y 2) := by
  have e : k2_pay4 (F := Ideal) (k2_pay9 (bAct A b) s (bWgt w)) (bBia β) y
      = k2_pay1 (k2_pay9 (bAct A b) s (bWgt w)) (bBia β) (ix2 (y 1) (y 2)) := by
    unfold k2_pay4
    generalize k2_pay1 (F := Ideal) (k2_pay9 (bAct A b) s (bWgt w)) (bBia β) = a
    pointwise []
  rw [e, v_apply, quant_blk]
  rfl

/-- The largest magnitude in one batch. -/
def rowMax (A : Act) (b : Fin 8) : EReal := ⨆ p : Fin 512 × Fin 1024, mag (A b p.1 p.2)

/-- The three largest magnitudes, as they are written. -/
theorem pm_out (A : Act) (b : Fin 8) (s : EReal) (w w' w'' : Wgt) (β β' β'' : Bia) (y : S1x3x128.Idx) :
    k2_pay5 (F := Ideal) (k2_pay7 (bAct A b) s (bWgt w) (bBia β)) (k2_pay8 (bAct A b) s (bWgt w') (bBia β'))
        (k2_pay9 (bAct A b) s (bWgt w'')) (bBia β'') y
      = ![rowMax (scaled (lin (qz s A) w β)) b, rowMax (lin (qz s A) w' β') b, rowMax (lin (qz s A) w'' β'') b] (y 1) := by
  rw [pm_val]
  simp only [q_apply, k_apply, v_apply, quant_blk]
  rfl

/-- What `out_proj` leaves for a block: the projection and its largest magnitude. -/
theorem o_out (A : Act) (b : Fin 8) (s : EReal) (w : Wgt) (β : Bia) (y : S1x512x1024.Idx) :
    k6_pay2 (F := Ideal) (bAct A b) s (bWgt w) (bBia β) y = lin (qz s A) w β b (y 1) (y 2) := by
  have e : k6_pay2 (F := Ideal) (bAct A b) s (bWgt w) (bBia β) y = k6_pay1 (bAct A b) s (bWgt w) (bBia β) (ix2 (y 1) (y 2)) := by
    unfold k6_pay2
    generalize k6_pay1 (F := Ideal) (bAct A b) s (bWgt w) (bBia β) = a
    pointwise []
  rw [e, out_apply, quant_blk]
  rfl

/-- The largest magnitude of the output projection, as it is written. -/
theorem om_out (A : Act) (b : Fin 8) (s : EReal) (w : Wgt) (β : Bia) (y : S1x1x128.Idx) :
    k6_pay3 (F := Ideal) (bAct A b) s (bWgt w) (bBia β) y = rowMax (lin (qz s A) w β) b := by
  have e : ∀ a : FVec Ideal S512x1024 .f32, k6_pay1 (F := Ideal) (bAct A b) s (bWgt w) (bBia β) = a →
      k6_pay3 (F := Ideal) (bAct A b) s (bWgt w) (bBia β) y = ⨆ p : Fin 512 × Fin 1024, mag (a (ix2 p.1 p.2)) := by
    intro a ha
    unfold k6_pay3
    rw [ha]
    pointwise []
    simp only [fold_max, absf_mag]
  rw [e _ rfl]
  simp only [out_apply, quant_blk]
  rfl

/-- What `xabsmax` leaves for a block. -/
theorem xm_out (A : Act) (b : Fin 8) (y : S1x1x128.Idx) : k1_pay1 (F := Ideal) (bAct A b) y = rowMax A b := by
  pointwise [k1_pay1]
  simp only [fold_max, absf_mag]
  rfl

/-- What `final_quant` leaves for a block. -/
theorem fin_out (A : Act) (b : Fin 8) (s : EReal) (y : S1x512x1024.Idx) : k12_pay1 (F := Ideal) (bAct A b) s y = qz s A b (y 1) (y 2) := by
  pointwise [k12_pay1]
  rfl

/-- What `wprep` leaves: a weight and a bias quantised with their own scales. -/
theorem w_out (w : Wgt) (y : S1x1024x1024.Idx) : k0_pay2 (F := Ideal) (bWgt w) y = fqW w (y 1) (y 2) := by
  pointwise [k0_pay2]
  simp only [fold_max, absf_mag]
  have e : (⨆ p : Fin 1024 × Fin 1024, mag (w p.1 p.2)) = ⨆ i, ⨆ j, mag (w i j) := iSup_prod
  unfold fqW
  rw [← e]
  rfl

/-- The quantised bias, as it is written. -/
theorem b_out (β : Bia) (y : S1x1x1024.Idx) : k0_pay1 (F := Ideal) (k0_pay5 (bBia β)) (k0_pay6 (bBia β)) y = fqB β (y 2) := by
  pointwise [k0_pay1, k0_pay3, k0_pay4, k0_pay5, k0_pay6]
  simp only [fold_max, absf_mag]
  have e : (⨆ p : Fin 1 × Fin 1024, mag (β p.2)) = ⨆ i, mag (β i) :=
    (iSup_prod (f := fun p : Fin 1 × Fin 1024 => mag (β p.2))).trans (iSup_unique (f := fun _ : Fin 1 => ⨆ i, mag (β i)))
  unfold fqB
  rw [← e]
  rfl

end Cert.KernelIdeal.Gen

end
-- ==== Proof.Block4.lean ====
/-
  What `prob_max` computes for one head of one block: exponentials of quantised scores, and their row sums.
-/
module

public import proofs.«01_k».proof.Proof.Block

@[expose] public section

set_option maxRecDepth 16384

noncomputable section

namespace Cert.KernelIdeal.Gen

open Idealize.ShloMosaic Idealize.ShloMosaic.TcCoe Cert.Attn

/-- Exponentials of one head's quantised scores, less their row's largest. -/
def hExp (o : ℕ) (a b : FVec Ideal S512x1024 .f32) (s : EReal) : FVec Ideal S512x512 .f32 := fun i =>
  Ideal.exp (quant lowA s (hScore o a b i) - ⨆ t : Fin 512, quant lowA s (hScore o a b (ix2 (i 0) t)))

/-- The exponentials a grid point computes for one head. -/
theorem exp_head (o : ℕ) (a b : FVec Ideal S512x1024 .f32) (s : EReal) :
    k4_pay67 (F := Ideal) s (roundeven (divf (hScore o a b) (broadcast S512x512 s))) = hExp o a b s := by
  funext i
  unfold k4_pay67
  pointwise []
  simp only [fold_max]
  rfl

/-- One head's exponentials, as they are stored. -/
theorem exp_piece (o : ℕ) (a b : FVec Ideal S512x1024 .f32) (s : EReal) (y : S1x1x512x512.Idx) :
    k4_pay68 (F := Ideal) s (roundeven (divf (hScore o a b) (broadcast S512x512 s))) y = hExp o a b s (ix2 (y 2) (y 3)) := by
  unfold k4_pay68
  rw [exp_head]
  generalize hExp o a b s = e
  pointwise []

/-- One head's row sums, as they are stored. -/
theorem sum_piece (o : ℕ) (a b : FVec Ideal S512x1024 .f32) (s : EReal) (y : S1x1x512x1.Idx) :
    k4_pay70 (F := Ideal) s (roundeven (divf (hScore o a b) (broadcast S512x512 s))) y = ∑ t : Fin 512, hExp o a b s (ix2 (y 2) t) := by
  unfold k4_pay70 k4_pay69
  rw [exp_head]
  generalize hExp o a b s = e
  pointwise []

/-- The queries, quantised. -/
theorem q4_blk (A : Act) (b : Fin 8) (s : EReal) : k4_pay2 (F := Ideal) (bAct A b) s = bRow (qz s A) b := quant_blk A b s

/-- The keys, quantised. -/
theorem k4_blk (A : Act) (b : Fin 8) (s : EReal) : k4_pay3 (F := Ideal) (bAct A b) s = bRow (qz s A) b := quant_blk A b s

/-- One head's exponentials are the layer's, at that head. -/
theorem ex_at (A B : Act) (b : Fin 8) (s : EReal) {o : ℕ} {h : Fin 16} {i i' j j' : Fin 512} (ho : o = 64 * h.val) (hi : i.val = i'.val) (hj : j.val = j'.val) :
    hExp o (bRow A b) (bRow B b) s (ix2 i j) = ex (qzS s (scr A B)) b h i' j' := by
  cases Fin.ext hi
  cases Fin.ext hj
  subst ho
  rfl

/-- One head's row sums are the layer's, at that head. -/
theorem zs_at (A B : Act) (b : Fin 8) (s : EReal) {o : ℕ} {h : Fin 16} {i i' : Fin 512} (ho : o = 64 * h.val) (hi : i.val = i'.val) :
    (∑ t : Fin 512, hExp o (bRow A b) (bRow B b) s (ix2 i t)) = zs (ex (qzS s (scr A B))) b h i' :=
  Finset.sum_congr rfl fun t _ => ex_at A B b s ho hi rfl

/-- Head `k` of the four heads of quarter `n`. -/
def hq (n k : Fin 4) : Fin 16 := ⟨4 * n.val + k.val, by omega⟩

/-- The smallest row sum, run over the sixteen heads. -/
theorem min_heads (A B : Act) (b : Fin 8) (s : EReal) :
    Ideal.div 1 (runMin16 (fun o => ⨅ x : Fin 512 × Fin 1, ∑ t : Fin 512, hExp o (bRow A b) (bRow B b) s (ix2 x.1 t)) 16)
      = Ideal.div 1 (⨅ h : Fin 16, ⨅ i, zs (ex (qzS s (scr A B))) b h i) := by
  rw [runMin16_eq]
  congr 1
  refine iInf_congr fun h => ?_
  refine (iInf_prod (f := fun x : Fin 512 × Fin 1 => ∑ t : Fin 512, hExp (64 * h.val) (bRow A b) (bRow B b) s (ix2 x.1 t))).trans ?_
  exact iInf_congr fun i => iInf_const.trans (zs_at A B b s rfl rfl)

end Cert.KernelIdeal.Gen

end
-- ==== Proof.Block5.lean ====
/-
  What `attn_out` computes for one head of one block: quantised probabilities times values.
-/
module

public import proofs.«01_k».proof.Proof.Block4

@[expose] public section

set_option maxRecDepth 16384

noncomputable section

namespace Cert.KernelIdeal.Gen

open Idealize.ShloMosaic Idealize.ShloMosaic.TcCoe Cert.Attn

/-- Exponentials of one quarter of the heads, by coordinates. -/
abbrev Quart := Fin 8 → Fin 4 → Fin 512 → Fin 512 → EReal

/-- An array of exponentials by its coordinates. -/
def curE (A : Vec Ideal S8x4x512x512 .f32) : Quart := fun b k s t => A (ix4 b k s t)

/-- An array of row sums by its coordinates. -/
def curZ (A : Vec Ideal S8x16x512x1 .f32) : Fin 8 → Fin 16 → Fin 512 → EReal := fun b h s => A (ix4 b h s 0)

/-- The block of batch `b`, as it is staged. -/
def bExp (E : Quart) (b : Fin 8) : Vec Ideal S1x4x512x512 .f32 := fun i => E b (i 1) (i 2) (i 3)

/-- The row sums of a batch, as they are staged. -/
def bSum (Z : Fin 8 → Fin 16 → Fin 512 → EReal) (b : Fin 8) : Vec Ideal S1x16x512x1 .f32 := fun i => Z b (i 1) (i 2)

/-- One head's exponentials and row sums, as they are loaded. -/
def hE (m : Fin 512 → Fin 512 → EReal) : Vec Ideal S1x1x512x512 .f32 := fun i => m (i 2) (i 3)

/-- One head's row sums, as they are loaded. -/
def hZ (r : Fin 512 → EReal) : Vec Ideal S1x1x512x1 .f32 := fun i => r (i 2)

/-- Place `n` of four, and of sixteen. -/
def at4 (n : ℕ) : Fin 4 := ⟨n % 4, Nat.mod_lt _ (by decide)⟩

/-- Place `n` of sixteen. -/
def at16 (n : ℕ) : Fin 16 := ⟨n % 16, Nat.mod_lt _ (by decide)⟩

/-- A head's exponentials, loaded from their block. -/
theorem ld_exp (n : ℕ) (E : Quart) (b : Fin 8)
    (h : ∀ a, (![0, n, 0, 0] : Fin 4 → ℕ) a + (![1, 1, 512, 512] : Fin 4 → ℕ) a ≤ S1x4x512x512.size a) :
    View.ld (bExp E b) (Rect.unit ![0, n, 0, 0] ![1, 1, 512, 512] h) = hE (E b (at4 n)) := by
  have hn : n + 1 ≤ 4 := h 1
  funext i
  have h1 : (i 1).val < 1 := (i 1).isLt
  unfold View.ld bExp hE
  refine congr (congr (congrArg (E b) (Fin.ext ?_)) (Fin.ext ?_)) (Fin.ext ?_)
  · simp [at4]
    omega
  · simp
  · simp

/-- A head's row sums, loaded from their block. -/
theorem ld_sum (n : ℕ) (Z : Fin 8 → Fin 16 → Fin 512 → EReal) (b : Fin 8)
    (h : ∀ a, (![0, n, 0, 0] : Fin 4 → ℕ) a + (![1, 1, 512, 1] : Fin 4 → ℕ) a ≤ S1x16x512x1.size a) :
    View.ld (bSum Z b) (Rect.unit ![0, n, 0, 0] ![1, 1, 512, 1] h) = hZ (Z b (at16 n)) := by
  have hn : n + 1 ≤ 16 := h 1
  funext i
  have h1 : (i 1).val < 1 := (i 1).isLt
  unfold View.ld bSum hZ
  refine congr (congrArg (Z b) (Fin.ext ?_)) (Fin.ext ?_)
  · simp [at16]
    omega
  · simp

/-- One head's quantised probabilities. -/
def hProb (m : Fin 512 → Fin 512 → EReal) (r : Fin 512 → EReal) (s : EReal) : FVec Ideal S512x512 .f32 := fun i =>
  quant lowA s (Ideal.div (m (i 0) (i 1)) (r (i 0)))

/-- One head's probabilities times the values' columns from `o`. -/
def hAtt (o : ℕ) (p : FVec Ideal S512x512 .f32) (v : FVec Ideal S512x1024 .f32) : FVec Ideal S512x64 .f32 := fun i =>
  ∑ t : Fin 512, (p (ix2 (i 0) t) * v (ix2 t (cl o (i 1))) : EReal)

/-- The product with a column slice of the values is the head's output. -/
theorem att_head (o : ℕ) (p : FVec Ideal S512x512 .f32) (v : FVec Ideal S512x1024 .f32) (hs : S512x1024.Slices ![0, o] S512x64) :
    matmul dot_S512x512_S512x64_S512x64_1_0_0_1_n_n none p (extractStridedSlice S512x64 ![0, o] v hs)
      (constant S512x64 .f32 0x00000000#32) = hAtt o p v := by
  funext i
  pointwise []
  exact Finset.sum_congr rfl fun t _ => congrArg (fun j => (p (ix2 (i 0) t) * v (ix2 t j) : EReal)) (col_eq hs (i 1) _)

/-- A head's quantised probabilities. -/
theorem prob_head (m : Fin 512 → Fin 512 → EReal) (r : Fin 512 → EReal) (s : EReal) :
    mulf (minimumf (broadcast S512x512 (Scalar.ofBits (F := Ideal) .f32 0x40E00000#32))
        (maximumf (broadcast S512x512 (Scalar.ofBits (F := Ideal) .f32 0xC1000000#32))
          (roundeven (divf (divf (shapeCast S512x512 (hE m) shapeCasts_S1x1x512x512_S512x512)
            (broadcastTo S512x512 (shapeCast S512x1 (hZ r) shapeCasts_S1x1x512x1_S512x1) broadcasts_S512x1_S512x512))
            (broadcast S512x512 s)))))
      (broadcast S512x512 s) = hProb m r s := by
  funext i
  pointwise []
  rfl

/-- One head's outcome, as it is stored. -/
theorem att_piece (a : FVec Ideal S512x64 .f32) (y : S1x512x64.Idx) :
    shapeCast S1x512x64 a shapeCasts_S512x64_S1x512x64 y = a (ix2 (y 1) (y 2)) := by
  pointwise []

/-- The values, quantised. -/
theorem v5_blk (A : Act) (b : Fin 8) (s : EReal) : k5_pay4 (F := Ideal) (bAct A b) s = bRow (qz s A) b := quant_blk A b s

/-- The heads' quarters side by side. -/
def join4 (E0 E1 E2 E3 : Quart) : Sco := fun b h s t =>
  (![E0, E1, E2, E3] ⟨h.val / 4, by omega⟩) b ⟨h.val % 4, Nat.mod_lt _ (by decide)⟩ s t

/-- Probabilities from exponentials and row sums. -/
def divS (E : Sco) (Z : Fin 8 → Fin 16 → Fin 512 → EReal) : Sco := fun b h s t => Ideal.div (E b h s t) (Z b h s)

/-- One head's outcome is the layer's, at that head. -/
theorem att_at (E : Sco) (Z : Fin 8 → Fin 16 → Fin 512 → EReal) (V : Act) (b : Fin 8) (s : EReal) (h : Fin 16)
    {o : ℕ} {i i' : Fin 512} {d : Fin 64} {e : Fin 1024} (ho : o = 64 * h.val) (hi : i.val = i'.val) (he : e.val = o + d.val) :
    hAtt o (hProb (E b h) (Z b h) s) (bRow V b) (ix2 i d) = att (qzS s (divS E Z)) V b i' e := by
  cases Fin.ext hi
  subst ho
  have e1 : hd e = h := Fin.ext (by show e.val / 64 = h.val; omega)
  have e2 : cl (64 * h.val) d = e := Fin.ext (by show (64 * h.val + d.val) % 1024 = e.val; omega)
  show _ = ∑ t : Fin 512, qzS s (divS E Z) b (hd e) i t * V b t e
  rw [e1, ← e2]
  rfl

/-- The largest magnitude of the sixteen heads' outcomes is that of the batch. -/
theorem att_max (E : Sco) (Z : Fin 8 → Fin 16 → Fin 512 → EReal) (V : Act) (b : Fin 8) (s : EReal) :
    (⨆ h : Fin 16, ⨆ p : Fin 512 × Fin 64, mag (hAtt (64 * h.val) (hProb (E b h) (Z b h) s) (bRow V b) (ix2 p.1 p.2)))
      = rowMax (att (qzS s (divS E Z)) V) b := by
  apply le_antisymm
  · refine iSup_le fun h => iSup_le fun p => ?_
    have hp := p.2.isLt
    rw [att_at E Z V b s h (i' := p.1) (e := ⟨64 * h.val + p.2.val, by omega⟩) rfl rfl rfl]
    exact le_iSup (fun p : Fin 512 × Fin 1024 => mag (att (qzS s (divS E Z)) V b p.1 p.2)) (p.1, _)
  · refine iSup_le fun p => ?_
    have hp := p.2.isLt
    rw [← att_at E Z V b s (hd p.2) (i := p.1) (d := ⟨p.2.val % 64, Nat.mod_lt _ (by decide)⟩) rfl rfl
      (by show p.2.val = 64 * (p.2.val / 64) + p.2.val % 64; omega)]
    exact (le_iSup (fun q : Fin 512 × Fin 64 => mag (hAtt (64 * (hd p.2).val) (hProb (E b (hd p.2)) (Z b (hd p.2)) s) (bRow V b) (ix2 q.1 q.2)))
      (p.1, ⟨p.2.val % 64, Nat.mod_lt _ (by decide)⟩)).trans
      (le_iSup (fun h : Fin 16 => ⨆ q : Fin 512 × Fin 64, mag (hAtt (64 * h.val) (hProb (E b h) (Z b h) s) (bRow V b) (ix2 q.1 q.2))) (hd p.2))

/-- One head's stored outcome is the layer's. -/
theorem att_put (E : Sco) (Z : Fin 8 → Fin 16 → Fin 512 → EReal) (V : Act) (b : Fin 8) (s : EReal) (h : Fin 16) (m : Fin 512 → Fin 512 → EReal)
    (o : ℕ) (x : S1x512x64.Idx) (i : Fin 512) (e : Fin 1024) (hm : m = E b h) (ho : o = 64 * h.val) (hi : (x 1).val = i.val) (he : e.val = o + (x 2).val) :
    shapeCast S1x512x64 (hAtt o (hProb m (Z b h) s) (bRow V b)) shapeCasts_S512x64_S1x512x64 x = att (qzS s (divS E Z)) V b i e := by
  subst hm
  exact (att_piece _ x).trans (att_at E Z V b s h ho hi he)

/-- The largest magnitude run over the sixteen heads is that of the batch. -/
theorem att_run (E : Sco) (Z : Fin 8 → Fin 16 → Fin 512 → EReal) (V : Act) (b : Fin 8) (s : EReal) :
    run16 (fun o => ⨆ p : Fin 512 × Fin 64, mag (hAtt o (hProb (E b (at16 (o / 64))) (Z b (at16 (o / 64))) s) (bRow V b) (ix2 p.1 p.2))) 16
      = rowMax (att (qzS s (divS E Z)) V) b := by
  rw [run16_eq _ (fun o => iSup_mag_nonneg _) 15, ← att_max]
  refine iSup_congr fun h => ?_
  have e : at16 (64 * h.val / 64) = h := Fin.ext (by show 64 * h.val / 64 % 16 = h.val; omega)
  rw [e]

end Cert.KernelIdeal.Gen

end
-- ==== Proof.HostScale.lean ====
/-
  Scales from arrays of largest magnitudes.
-/
module

public import proofs.«01_k».proof.Proof.Block5

@[expose] public section

set_option maxRecDepth 16384

noncomputable section

namespace Cert.KernelIdeal.Gen

open Idealize.ShloMosaic Idealize.ShloMosaic.TcCoe Cert.Attn

/-- The scale from an array of largest magnitudes. -/
theorem scale_of {s : Shape} {axes : List (Fin s.rank)} (x : FVec Ideal s .f32) (h : s.ReducesTo axes S_) (j : S_.Idx) :
    maximumf (Host.divf (Host.reduce FloatOps.maximumf x (constant S_ .f32 0xFF800000#32) h h_S_) (constant S_ .f32 0x40E00000#32))
      (constant S_ .f32 0x322BCC77#32) j = scl (⨆ i, x i) := by
  exact congrArg scl (reduce_all x h h_S_ rfl j)

/-- A supremum over an array that depends on its first coordinate alone. -/
theorem sup_lane (f : Fin 8 → EReal) : (⨆ i : S8x1x128.Idx, f (i 0)) = ⨆ b, f b :=
  le_antisymm (iSup_le fun i => le_iSup f (i 0)) (iSup_le fun b => le_iSup (fun i : S8x1x128.Idx => f (i 0)) (ix3 b 0 0))

/-- The same, over an array of two axes. -/
theorem sup_lane2 (f : Fin 8 → EReal) : (⨆ i : S8x128.Idx, f (i 0)) = ⨆ b, f b :=
  le_antisymm (iSup_le fun i => le_iSup f (i 0)) (iSup_le fun b => le_iSup (fun i : S8x128.Idx => f (i 0)) (ix2 b 0))

/-- The scale from an array that depends on its first coordinate alone. -/
theorem scale_lane (x : FVec Ideal S8x1x128 .f32) (f : Fin 8 → EReal) (hx : x = fun y => f (y 0)) (h : S8x1x128.ReducesTo [0, 1, 2] S_) (j : S_.Idx) :
    maximumf (Host.divf (Host.reduce FloatOps.maximumf x (constant S_ .f32 0xFF800000#32) h h_S_)
      (constant S_ .f32 0x40E00000#32)) (constant S_ .f32 0x322BCC77#32) j = scl (⨆ b, f b) := by
  subst hx
  exact (scale_of _ h j).trans (congrArg scl (sup_lane f))

/-- The scale from one of three rows. -/
theorem scale_row (x : FVec Ideal S8x3x128 .f32) (f : Fin 3 → Fin 8 → EReal) (hx : x = fun y => f (y 1) (y 0)) (n : ℕ) (hn : n < 3)
    (hs : S8x3x128.Slices ![0, n, 0] S8x1x128) (h : S8x128.ReducesTo [0, 1] S_) (j : S_.Idx) :
    maximumf (Host.divf (Host.reduce FloatOps.maximumf (shapeCast S8x128
        (extractStridedSlice S8x1x128 ![0, n, 0] x hs) shapeCasts_S8x1x128_S8x128)
      (constant S_ .f32 0xFF800000#32) h h_S_) (constant S_ .f32 0x40E00000#32)) (constant S_ .f32 0x322BCC77#32) j = scl (⨆ b, f ⟨n, hn⟩ b) := by
  subst hx
  refine (scale_of _ h j).trans (congrArg scl ((iSup_congr fun i => ?_).trans (sup_lane2 (f ⟨n, hn⟩))))
  pointwise []

/-- The first of three values put together. -/
theorem cat3_0 (a b c : Vec Ideal S1 .f32) :
    concatenate S3 0 [⟨S1, a⟩, ⟨S1, b⟩, ⟨S1, c⟩] concatenates_S1_S1_S1_S3_d0 (ix1 0) = a (ix1 0) := by
  pointwise [] <;> rfl

/-- The second of three values put together. -/
theorem cat3_1 (a b c : Vec Ideal S1 .f32) :
    concatenate S3 0 [⟨S1, a⟩, ⟨S1, b⟩, ⟨S1, c⟩] concatenates_S1_S1_S1_S3_d0 (ix1 1) = b (ix1 0) := by
  pointwise [] <;> rfl

/-- The third of three values put together. -/
theorem cat3_2 (a b c : Vec Ideal S1 .f32) :
    concatenate S3 0 [⟨S1, a⟩, ⟨S1, b⟩, ⟨S1, c⟩] concatenates_S1_S1_S1_S3_d0 (ix1 2) = c (ix1 0) := by
  pointwise [] <;> rfl

end Cert.KernelIdeal.Gen

end
-- ==== Proof.Hosts.lean ====
/-
  The scales the host works out between the calls.
-/
module

public import proofs.«01_k».proof.Proof.Gen.KernelIdeal.Launch
public import Idealize.ShloMosaic.Lib.StableHlo.RunRead
public import proofs.«01_k».proof.Proof.HostScale

@[expose] public section

set_option maxRecDepth 16384

noncomputable section

namespace Cert.KernelIdeal.Gen

open Idealize.ShloMosaic Idealize.ShloMosaic.TcCoe Cert.Attn

variable (U : Valuation τ sig (Elt Ideal))

/-- A weight by its coordinates. -/
def curW (A : Vec Ideal S1024x1024 .f32) : Wgt := fun e c => A (ix2 e c)

/-- A bias by its coordinate. -/
def curB (A : Vec Ideal S1024 .f32) : Bia := fun e => A (ix1 e)

/-- The scale of the input. -/
theorem host2 (f : Fin 8 → EReal) (h : U (Proc.devRef .tc main_v12) = fun y : S8x1x128.Idx => f (y 0)) :
    as1 (StableHlo.after hostOps2 U (Proc.devRef .tc main_v16)) (ix1 0) = scl (⨆ b, f b) := by
  unfold as1
  after_results
  exact scale_lane _ f h _ _

/-- The scale of the first layer's heads' outputs. -/
theorem host6 (f : Fin 8 → EReal) (h : U (Proc.devRef .tc main_v51_1) = fun y : S8x1x128.Idx => f (y 0)) :
    as1 (StableHlo.after hostOps6 U (Proc.devRef .tc main_v55)) (ix1 0) = scl (⨆ b, f b) := by
  unfold as1
  after_results
  exact scale_lane _ f h _ _

/-- The scale of the first layer's outcome. -/
theorem host7 (f : Fin 8 → EReal) (h : U (Proc.devRef .tc main_v56_1) = fun y : S8x1x128.Idx => f (y 0)) :
    as1 (StableHlo.after hostOps7 U (Proc.devRef .tc main_v60)) (ix1 0) = scl (⨆ b, f b) := by
  unfold as1
  after_results
  exact scale_lane _ f h _ _

/-- The scale of the second layer's heads' outputs. -/
theorem host11 (f : Fin 8 → EReal) (h : U (Proc.devRef .tc main_v95_1) = fun y : S8x1x128.Idx => f (y 0)) :
    as1 (StableHlo.after hostOps11 U (Proc.devRef .tc main_v99)) (ix1 0) = scl (⨆ b, f b) := by
  unfold as1
  after_results
  exact scale_lane _ f h _ _

/-- The scale of the second layer's outcome. -/
theorem host12 (f : Fin 8 → EReal) (h : U (Proc.devRef .tc main_v100_1) = fun y : S8x1x128.Idx => f (y 0)) :
    as1 (StableHlo.after hostOps12 U (Proc.devRef .tc main_v104)) (ix1 0) = scl (⨆ b, f b) := by
  unfold as1
  after_results
  exact scale_lane _ f h _ _

/-- The scale of the queries. -/
theorem host3_0 (f : Fin 3 → Fin 8 → EReal) (h : U (Proc.devRef .tc main_v17_3) = fun y : S8x3x128.Idx => f (y 1) (y 0)) :
    StableHlo.after hostOps3 U (Proc.devRef .tc main_v22) = fun _ => scl (⨆ b, f 0 b) := by
  after_results
  funext i
  exact scale_row _ f h 0 (by decide) _ _ _

/-- The scale of the keys. -/
theorem host3_1 (f : Fin 3 → Fin 8 → EReal) (h : U (Proc.devRef .tc main_v17_3) = fun y : S8x3x128.Idx => f (y 1) (y 0)) :
    StableHlo.after hostOps3 U (Proc.devRef .tc main_v27) = fun _ => scl (⨆ b, f 1 b) := by
  after_results
  funext i
  exact scale_row _ f h 1 (by decide) _ _ _

/-- The scale of the values. -/
theorem host3_2 (f : Fin 3 → Fin 8 → EReal) (h : U (Proc.devRef .tc main_v17_3) = fun y : S8x3x128.Idx => f (y 1) (y 0)) :
    StableHlo.after hostOps3 U (Proc.devRef .tc main_v32) = fun _ => scl (⨆ b, f 2 b) := by
  after_results
  funext i
  exact scale_row _ f h 2 (by decide) _ _ _

/-- The first scale passed to the scores: that of the queries. -/
theorem host3_c0 (f : Fin 3 → Fin 8 → EReal) (h : U (Proc.devRef .tc main_v17_3) = fun y : S8x3x128.Idx => f (y 1) (y 0)) :
    as2 (StableHlo.after hostOps3 U (Proc.devRef .tc main_v35)) (ix1 0) = scl (⨆ b, f 0 b) := by
  unfold as2
  after_results
  exact scale_row _ f h 0 (by decide) _ _ _

/-- The second: that of the keys. -/
theorem host3_c1 (f : Fin 3 → Fin 8 → EReal) (h : U (Proc.devRef .tc main_v17_3) = fun y : S8x3x128.Idx => f (y 1) (y 0)) :
    as2 (StableHlo.after hostOps3 U (Proc.devRef .tc main_v35)) (ix1 1) = scl (⨆ b, f 1 b) := by
  unfold as2
  after_results
  exact scale_row _ f h 1 (by decide) _ _ _

/-- The scale of the queries. -/
theorem host8_0 (f : Fin 3 → Fin 8 → EReal) (h : U (Proc.devRef .tc main_v61_3) = fun y : S8x3x128.Idx => f (y 1) (y 0)) :
    StableHlo.after hostOps8 U (Proc.devRef .tc main_v66) = fun _ => scl (⨆ b, f 0 b) := by
  after_results
  funext i
  exact scale_row _ f h 0 (by decide) _ _ _

/-- The scale of the keys. -/
theorem host8_1 (f : Fin 3 → Fin 8 → EReal) (h : U (Proc.devRef .tc main_v61_3) = fun y : S8x3x128.Idx => f (y 1) (y 0)) :
    StableHlo.after hostOps8 U (Proc.devRef .tc main_v71) = fun _ => scl (⨆ b, f 1 b) := by
  after_results
  funext i
  exact scale_row _ f h 1 (by decide) _ _ _

/-- The scale of the values. -/
theorem host8_2 (f : Fin 3 → Fin 8 → EReal) (h : U (Proc.devRef .tc main_v61_3) = fun y : S8x3x128.Idx => f (y 1) (y 0)) :
    StableHlo.after hostOps8 U (Proc.devRef .tc main_v76) = fun _ => scl (⨆ b, f 2 b) := by
  after_results
  funext i
  exact scale_row _ f h 2 (by decide) _ _ _

/-- The first scale passed to the scores: that of the queries. -/
theorem host8_c0 (f : Fin 3 → Fin 8 → EReal) (h : U (Proc.devRef .tc main_v61_3) = fun y : S8x3x128.Idx => f (y 1) (y 0)) :
    as2 (StableHlo.after hostOps8 U (Proc.devRef .tc main_v79)) (ix1 0) = scl (⨆ b, f 0 b) := by
  unfold as2
  after_results
  exact scale_row _ f h 0 (by decide) _ _ _

/-- The second: that of the keys. -/
theorem host8_c1 (f : Fin 3 → Fin 8 → EReal) (h : U (Proc.devRef .tc main_v61_3) = fun y : S8x3x128.Idx => f (y 1) (y 0)) :
    as2 (StableHlo.after hostOps8 U (Proc.devRef .tc main_v79)) (ix1 1) = scl (⨆ b, f 1 b) := by
  unfold as2
  after_results
  exact scale_row _ f h 1 (by decide) _ _ _

/-- The three scales put together. -/
theorem host4_cat : as3 (StableHlo.after hostOps4 U (Proc.devRef .tc main_v43)) = concatenate S3 0
    [⟨S1, as1 (StableHlo.after (hostOps4.take 9) U (Proc.devRef .tc main_v40))⟩, ⟨S1, as1 (StableHlo.after (hostOps4.take 9) U (Proc.devRef .tc main_v41))⟩,
      ⟨S1, as1 (StableHlo.after (hostOps4.take 9) U (Proc.devRef .tc main_v42))⟩] concatenates_S1_S1_S1_S3_d0 := by
  unfold as3
  after_results
  rfl

/-- The scale of the queries, as it is passed on. -/
theorem host4_q (x : EReal) (h : U (Proc.devRef .tc main_v22) = fun _ => x) : as3 (StableHlo.after hostOps4 U (Proc.devRef .tc main_v43)) (ix1 0) = x := by
  rw [host4_cat, cat3_0]
  show as1 (StableHlo.after (hostOps4.take 9) U (Proc.devRef .tc main_v40)) (ix1 0) = x
  unfold as1
  dsimp only [hostOps4, List.take]
  after_results
  rw [h]
  rfl

/-- The scale of the keys, as it is passed on. -/
theorem host4_k (x : EReal) (h : U (Proc.devRef .tc main_v27) = fun _ => x) : as3 (StableHlo.after hostOps4 U (Proc.devRef .tc main_v43)) (ix1 1) = x := by
  rw [host4_cat, cat3_1]
  show as1 (StableHlo.after (hostOps4.take 9) U (Proc.devRef .tc main_v41)) (ix1 0) = x
  unfold as1
  dsimp only [hostOps4, List.take]
  after_results
  rw [h]
  rfl

/-- The scale of the scores, as it is passed on. -/
theorem host4_s (f : Fin 8 → EReal) (h : U (Proc.devRef .tc main_v36) = fun y : S8x1x128.Idx => f (y 0)) :
    as3 (StableHlo.after hostOps4 U (Proc.devRef .tc main_v43)) (ix1 2) = scl (⨆ b, f b) := by
  rw [host4_cat, cat3_2]
  show as1 (StableHlo.after (hostOps4.take 9) U (Proc.devRef .tc main_v42)) (ix1 0) = _
  unfold as1
  dsimp only [hostOps4, List.take]
  after_results
  exact scale_lane _ f h _ _

/-- The three scales put together. -/
theorem host9_cat : as3 (StableHlo.after hostOps9 U (Proc.devRef .tc main_v87)) = concatenate S3 0
    [⟨S1, as1 (StableHlo.after (hostOps9.take 9) U (Proc.devRef .tc main_v84))⟩, ⟨S1, as1 (StableHlo.after (hostOps9.take 9) U (Proc.devRef .tc main_v85))⟩,
      ⟨S1, as1 (StableHlo.after (hostOps9.take 9) U (Proc.devRef .tc main_v86))⟩] concatenates_S1_S1_S1_S3_d0 := by
  unfold as3
  after_results
  rfl

/-- The scale of the queries, as it is passed on. -/
theorem host9_q (x : EReal) (h : U (Proc.devRef .tc main_v66) = fun _ => x) : as3 (StableHlo.after hostOps9 U (Proc.devRef .tc main_v87)) (ix1 0) = x := by
  rw [host9_cat, cat3_0]
  show as1 (StableHlo.after (hostOps9.take 9) U (Proc.devRef .tc main_v84)) (ix1 0) = x
  unfold as1
  dsimp only [hostOps9, List.take]
  after_results
  rw [h]
  rfl

/-- The scale of the keys, as it is passed on. -/
theorem host9_k (x : EReal) (h : U (Proc.devRef .tc main_v71) = fun _ => x) : as3 (StableHlo.after hostOps9 U (Proc.devRef .tc main_v87)) (ix1 1) = x := by
  rw [host9_cat, cat3_1]
  show as1 (StableHlo.after (hostOps9.take 9) U (Proc.devRef .tc main_v85)) (ix1 0) = x
  unfold as1
  dsimp only [hostOps9, List.take]
  after_results
  rw [h]
  rfl

/-- The scale of the scores, as it is passed on. -/
theorem host9_s (f : Fin 8 → EReal) (h : U (Proc.devRef .tc main_v80) = fun y : S8x1x128.Idx => f (y 0)) :
    as3 (StableHlo.after hostOps9 U (Proc.devRef .tc main_v87)) (ix1 2) = scl (⨆ b, f b) := by
  rw [host9_cat, cat3_2]
  show as1 (StableHlo.after (hostOps9.take 9) U (Proc.devRef .tc main_v86)) (ix1 0) = _
  unfold as1
  dsimp only [hostOps9, List.take]
  after_results
  exact scale_lane _ f h _ _

/-- The scale of the values, as it is passed on. -/
theorem host5_v (x : EReal) (h : U (Proc.devRef .tc main_v32) = fun _ => x) : as2 (StableHlo.after hostOps5 U (Proc.devRef .tc main_v50)) (ix1 0) = x := by
  unfold as2
  after_results
  rw [h]
  rfl

/-- The scale of the probabilities, as it is passed on. -/
theorem host5_p (f : Fin 8 → EReal) (h : U (Proc.devRef .tc main_v44_5) = fun y : S8x1x128.Idx => f (y 0)) :
    as2 (StableHlo.after hostOps5 U (Proc.devRef .tc main_v50)) (ix1 1) = scl (⨆ b, f b) := by
  unfold as2
  after_results
  exact scale_lane _ f h _ _

/-- The scale of the values, as it is passed on. -/
theorem host10_v (x : EReal) (h : U (Proc.devRef .tc main_v76) = fun _ => x) : as2 (StableHlo.after hostOps10 U (Proc.devRef .tc main_v94)) (ix1 0) = x := by
  unfold as2
  after_results
  rw [h]
  rfl

/-- The scale of the probabilities, as it is passed on. -/
theorem host10_p (f : Fin 8 → EReal) (h : U (Proc.devRef .tc main_v88_5) = fun y : S8x1x128.Idx => f (y 0)) :
    as2 (StableHlo.after hostOps10 U (Proc.devRef .tc main_v94)) (ix1 1) = scl (⨆ b, f b) := by
  unfold as2
  after_results
  exact scale_lane _ f h _ _

/-- The stacked weights. -/
theorem host0_w (n : Fin 4) : wAt (StableHlo.after hostOps0 U (Proc.devRef .tc main_v4)) n =
    ![curW (U (Proc.devRef .tc main_arg1)), curW (U (Proc.devRef .tc main_arg2)), curW (U (Proc.devRef .tc main_arg3)), curW (U (Proc.devRef .tc main_arg4))] n := by
  have e : StableHlo.after hostOps0 U (Proc.devRef .tc main_v4) = concatenate S4x1024x1024 0
      [⟨S1x1024x1024, broadcastInDim S1x1024x1024 ![1, 2] bcast_S1024x1024_S1x1024x1024_1_2 (U (Proc.devRef .tc main_arg1))⟩,
       ⟨S1x1024x1024, broadcastInDim S1x1024x1024 ![1, 2] bcast_S1024x1024_S1x1024x1024_1_2 (U (Proc.devRef .tc main_arg2))⟩,
       ⟨S1x1024x1024, broadcastInDim S1x1024x1024 ![1, 2] bcast_S1024x1024_S1x1024x1024_1_2 (U (Proc.devRef .tc main_arg3))⟩,
       ⟨S1x1024x1024, broadcastInDim S1x1024x1024 ![1, 2] bcast_S1024x1024_S1x1024x1024_1_2 (U (Proc.devRef .tc main_arg4))⟩]
      concatenates_S1x1024x1024_S1x1024x1024_S1x1024x1024_S1x1024x1024_S4x1024x1024_d0 := by
    after_results
    rfl
  rw [e]
  funext e c
  unfold wAt curW
  fin_cases n <;> pointwise [] <;> rfl

/-- The stacked biases. -/
theorem host0_b (n : Fin 4) : bAt (StableHlo.after hostOps0 U (Proc.devRef .tc main_v10)) n =
    ![curB (U (Proc.devRef .tc main_arg5)), curB (U (Proc.devRef .tc main_arg6)), curB (U (Proc.devRef .tc main_arg7)), curB (U (Proc.devRef .tc main_arg8))] n := by
  have e : StableHlo.after hostOps0 U (Proc.devRef .tc main_v10) = broadcastInDim S4x1x1024 ![0, 2] bcast_S4x1024_S4x1x1024_0_2 (concatenate S4x1024 0
      [⟨S1x1024, broadcastInDim S1x1024 ![1] bcast_S1024_S1x1024_1 (U (Proc.devRef .tc main_arg5))⟩,
       ⟨S1x1024, broadcastInDim S1x1024 ![1] bcast_S1024_S1x1024_1 (U (Proc.devRef .tc main_arg6))⟩,
       ⟨S1x1024, broadcastInDim S1x1024 ![1] bcast_S1024_S1x1024_1 (U (Proc.devRef .tc main_arg7))⟩,
       ⟨S1x1024, broadcastInDim S1x1024 ![1] bcast_S1024_S1x1024_1 (U (Proc.devRef .tc main_arg8))⟩]
      concatenates_S1x1024_S1x1024_S1x1024_S1x1024_S4x1024_d0) := by
    after_results
    rfl
  rw [e]
  funext e
  unfold bAt curB
  fin_cases n <;> pointwise [] <;> rfl

end Cert.KernelIdeal.Gen

end
-- ==== Proof.KLayer.lean ====
/-
  A layer as the kernel works it out, and suprema of largest magnitudes.
-/
module

public import proofs.«01_k».proof.Proof.Block5

@[expose] public section

set_option maxRecDepth 16384

noncomputable section

namespace Cert.KernelIdeal.Gen

open Idealize.ShloMosaic Idealize.ShloMosaic.TcCoe Cert.Attn

/-- The largest probability, read as the largest reciprocal of a row sum. -/
def kmax (E : Sco) : EReal := ⨆ b, Ideal.div 1 (⨅ h : Fin 16, ⨅ i, zs E b h i)

/-- A layer before its output is quantised, the largest probability read off the row sums. -/
def kLayer (x : Act) (w : Fin 4 → Wgt) (β : Fin 4 → Bia) : Act := layerWith kmax x (w 0) (w 1) (w 2) (w 3) (β 0) (β 1) (β 2) (β 3)

/-- The largest of the batches' largest magnitudes of activations. -/
theorem sup_rowMax (x : Act) : (⨆ b, rowMax x b) = amax x :=
  iSup_congr fun b => iSup_prod (f := fun p : Fin 512 × Fin 1024 => mag (x b p.1 p.2))

/-- The largest of the batches' largest magnitudes of scores. -/
theorem sup_scores (S : Sco) : (⨆ b, ⨆ h : Fin 16, ⨆ p : Fin 512 × Fin 512, mag (S b h p.1 p.2)) = smax S :=
  iSup_congr fun b => iSup_congr fun h => iSup_prod (f := fun p : Fin 512 × Fin 512 => mag (S b h p.1 p.2))

/-- The three rows of largest magnitudes by their row. -/
theorem rows_eq (q k v : Act) : (fun y : S8x3x128.Idx => (![rowMax q (y 0), rowMax k (y 0), rowMax v (y 0)] : Fin 3 → EReal) (y 1))
    = fun y : S8x3x128.Idx => (![rowMax q, rowMax k, rowMax v] : Fin 3 → Fin 8 → EReal) (y 1) (y 0) := by
  funext y
  generalize y 1 = r
  generalize y 0 = b
  fin_cases r <;> rfl

/-- The quarters of an array of scores, put together again. -/
theorem join4_self (E : Sco) : join4 (fun b k => E b (hq 0 k)) (fun b k => E b (hq 1 k)) (fun b k => E b (hq 2 k)) (fun b k => E b (hq 3 k)) = E := by
  funext b h
  fin_cases h <;> rfl

end Cert.KernelIdeal.Gen

end
-- ==== Proof.Reg2.lean ====
/-
  The arrays `qkv_proj` leaves.
-/
module

public import proofs.«01_k».proof.Proof.Gen.KernelIdeal.Frame.Region2
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx2_0 : ∀ t : Fin cfg2.N, win2_0.index t = ![0] := by decide +kernel

/-- The block window 1 takes at each grid point. -/
theorem idx2_1 : ∀ t : Fin cfg2.N, win2_1.index t = ![4 * (grid2.coords t 0).val + (grid2.coords t 1).val, 0, 0] := by decide +kernel

/-- The block window 2 takes at each grid point. -/
theorem idx2_2 : ∀ t : Fin cfg2.N, win2_2.index t = ![0, 0, 0] := by decide +kernel

/-- The block window 3 takes at each grid point. -/
theorem idx2_3 : ∀ t : Fin cfg2.N, win2_3.index t = ![1, 0, 0] := by decide +kernel

/-- The block window 4 takes at each grid point. -/
theorem idx2_4 : ∀ t : Fin cfg2.N, win2_4.index t = ![2, 0, 0] := by decide +kernel

/-- The block window 5 takes at each grid point. -/
theorem idx2_5 : ∀ t : Fin cfg2.N, win2_5.index t = ![0, 0, 0] := by decide +kernel

/-- The block window 6 takes at each grid point. -/
theorem idx2_6 : ∀ t : Fin cfg2.N, win2_6.index t = ![4 * (grid2.coords t 0).val + (grid2.coords t 1).val, 0, 0] := by decide +kernel

/-- The block window 7 takes at each grid point. -/
theorem idx2_7 : ∀ t : Fin cfg2.N, win2_7.index t = ![4 * (grid2.coords t 0).val + (grid2.coords t 1).val, 0, 0] := by decide +kernel

/-- The block window 8 takes at each grid point. -/
theorem idx2_8 : ∀ t : Fin cfg2.N, win2_8.index t = ![4 * (grid2.coords t 0).val + (grid2.coords t 1).val, 0, 0] := by decide +kernel

/-- The block window 9 takes at each grid point. -/
theorem idx2_9 : ∀ t : Fin cfg2.N, win2_9.index t = ![4 * (grid2.coords t 0).val + (grid2.coords t 1).val, 0, 0] := by decide +kernel

/-- What window 0 stages at a grid point. -/
theorem in2_0 (c : Dev nD) (t : Fin cfg2.N) : iblk2 V c 0 t = as1 (V c main_v16) := by
  funext i
  blk_ext! [iblk2, idx2_0 t, as1]

/-- What window 1 stages at a grid point. -/
theorem in2_1 (c : Dev nD) (t : Fin cfg2.N) : iblk2 V c 1 t = bAct (cur (V c main_arg0)) (btc (grid2.coords t)) := by
  funext i
  blk_ext! [iblk2, idx2_1 t, bAct, cur, btc, bt]

/-- What window 2 stages at a grid point. -/
theorem in2_2 (c : Dev nD) (t : Fin cfg2.N) : iblk2 V c 2 t = bWgt (wAt (V c main_v11_0) 0) := by
  funext i
  blk_ext! [iblk2, idx2_2 t, bWgt, wAt]

/-- What window 3 stages at a grid point. -/
theorem in2_3 (c : Dev nD) (t : Fin cfg2.N) : iblk2 V c 3 t = bWgt (wAt (V c main_v11_0) 1) := by
  funext i
  blk_ext! [iblk2, idx2_3 t, bWgt, wAt]

/-- What window 4 stages at a grid point. -/
theorem in2_4 (c : Dev nD) (t : Fin cfg2.N) : iblk2 V c 4 t = bWgt (wAt (V c main_v11_0) 2) := by
  funext i
  blk_ext! [iblk2, idx2_4 t, bWgt, wAt]

/-- What window 5 stages at a grid point. -/
theorem in2_5 (c : Dev nD) (t : Fin cfg2.N) : iblk2 V c 5 t = V c main_v11_1 := by
  funext i
  blk_ext! [iblk2, idx2_5 t]

/-- Where window 6 writes back at a grid point. -/
theorem emb2_6 (t : Fin cfg2.N) (y : S1x512x1024.Idx) :
    ((View.whole main_v17_0).slice (win2_6.rect t)).emb y = ix3 (btc (grid2.coords t)) (y 1) (y 2) := by
  ext a
  fin_cases a <;> blk_simp [idx2_6 t, btc, bt] <;> rfl

/-- Where window 7 writes back at a grid point. -/
theorem emb2_7 (t : Fin cfg2.N) (y : S1x512x1024.Idx) :
    ((View.whole main_v17_1).slice (win2_7.rect t)).emb y = ix3 (btc (grid2.coords t)) (y 1) (y 2) := by
  ext a
  fin_cases a <;> blk_simp [idx2_7 t, btc, bt] <;> rfl

/-- Where window 8 writes back at a grid point. -/
theorem emb2_8 (t : Fin cfg2.N) (y : S1x512x1024.Idx) :
    ((View.whole main_v17_2).slice (win2_8.rect t)).emb y = ix3 (btc (grid2.coords t)) (y 1) (y 2) := by
  ext a
  fin_cases a <;> blk_simp [idx2_8 t, btc, bt] <;> rfl

/-- Where window 9 writes back at a grid point. -/
theorem emb2_9 (t : Fin cfg2.N) (y : S1x3x128.Idx) :
    ((View.whole main_v17_3).slice (win2_9.rect t)).emb y = ix3 (btc (grid2.coords t)) (y 1) (y 2) := by
  ext a
  fin_cases a <;> blk_simp [idx2_9 t, btc, bt] <;> rfl

/-- The scaled queries. -/
theorem arr2_q (c : Dev nD) : (dat2 V c).arrAt 6 cfg2.N = fun y =>
    scaled (lin (qz (as1 (V c main_v16) (ix1 0)) (cur (V c main_arg0))) (wAt (V c main_v11_0) 0) (bAt (V c main_v11_1) 0)) (y 0) (y 1) (y 2) := by
  refine (dat2 V c).arrAt_eq_of_covers 6 _ (by decide +kernel) fun t hf y => ?_
  blk_simp
  rw [after2_6]
  unfold outsAt2
  dsimp only
  frame_out
  rw [emb2_6, in2_0, in2_1, in2_2, in2_5, ld_scalar1, ld_bias 0 (by decide)]
  exact q_out _ _ _ _ _ y

/-- The keys. -/
theorem arr2_k (c : Dev nD) : (dat2 V c).arrAt 7 cfg2.N = fun y =>
    lin (qz (as1 (V c main_v16) (ix1 0)) (cur (V c main_arg0))) (wAt (V c main_v11_0) 1) (bAt (V c main_v11_1) 1) (y 0) (y 1) (y 2) := by
  refine (dat2 V c).arrAt_eq_of_covers 7 _ (by decide +kernel) fun t hf y => ?_
  blk_simp
  rw [after2_7]
  unfold outsAt2
  dsimp only
  frame_out
  rw [emb2_7, in2_0, in2_1, in2_3, in2_5, ld_scalar1, ld_bias 1 (by decide)]
  exact k_out _ _ _ _ _ y

/-- The values. -/
theorem arr2_v (c : Dev nD) : (dat2 V c).arrAt 8 cfg2.N = fun y =>
    lin (qz (as1 (V c main_v16) (ix1 0)) (cur (V c main_arg0))) (wAt (V c main_v11_0) 2) (bAt (V c main_v11_1) 2) (y 0) (y 1) (y 2) := by
  refine (dat2 V c).arrAt_eq_of_covers 8 _ (by decide +kernel) fun t hf y => ?_
  blk_simp
  rw [after2_8]
  unfold outsAt2
  dsimp only
  frame_out
  rw [emb2_8, in2_0, in2_1, in2_4, in2_5, ld_scalar1, ld_bias 2 (by decide)]
  exact v_out _ _ _ _ _ y

/-- Their largest magnitudes in each batch. -/
theorem arr2_pm (c : Dev nD) : (dat2 V c).arrAt 9 cfg2.N = fun y =>
    ![rowMax (scaled (lin (qz (as1 (V c main_v16) (ix1 0)) (cur (V c main_arg0))) (wAt (V c main_v11_0) 0) (bAt (V c main_v11_1) 0))) (y 0),
      rowMax (lin (qz (as1 (V c main_v16) (ix1 0)) (cur (V c main_arg0))) (wAt (V c main_v11_0) 1) (bAt (V c main_v11_1) 1)) (y 0),
      rowMax (lin (qz (as1 (V c main_v16) (ix1 0)) (cur (V c main_arg0))) (wAt (V c main_v11_0) 2) (bAt (V c main_v11_1) 2)) (y 0)] (y 1) := by
  refine (dat2 V c).arrAt_eq_of_covers 9 _ (by decide +kernel) fun t hf y => ?_
  blk_simp
  rw [after2_9]
  unfold outsAt2
  dsimp only
  frame_out
  rw [emb2_9, in2_0, in2_1, in2_2, in2_3, in2_4, in2_5, ld_scalar1, ld_bias 0 (by decide), ld_bias 1 (by decide), ld_bias 2 (by decide)]
  exact pm_out _ _ _ _ _ _ _ _ _ y

end Cert.KernelIdeal.Gen

end
-- ==== Proof.Reg3.lean ====
/-
  The array `score_max` leaves.
-/
module

public import proofs.«01_k».proof.Proof.Gen.KernelIdeal.Frame.Region3
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx3_0 : ∀ t : Fin cfg3.N, win3_0.index t = ![0] := by decide +kernel

/-- The block window 1 takes at each grid point. -/
theorem idx3_1 : ∀ t : Fin cfg3.N, win3_1.index t = ![4 * (grid3.coords t 0).val + (grid3.coords t 1).val, 0, 0] := by decide +kernel

/-- The block window 2 takes at each grid point. -/
theorem idx3_2 : ∀ t : Fin cfg3.N, win3_2.index t = ![4 * (grid3.coords t 0).val + (grid3.coords t 1).val, 0, 0] := by decide +kernel

/-- The block window 3 takes at each grid point. -/
theorem idx3_3 : ∀ t : Fin cfg3.N, win3_3.index t = ![4 * (grid3.coords t 0).val + (grid3.coords t 1).val, 0, 0] := by decide +kernel

/-- What window 0 stages at a grid point. -/
theorem in3_0 (c : Dev nD) (t : Fin cfg3.N) : iblk3 V c 0 t = as2 (V c main_v35) := by
  funext i
  blk_ext! [iblk3, idx3_0 t, as2]

/-- What window 1 stages at a grid point. -/
theorem in3_1 (c : Dev nD) (t : Fin cfg3.N) : iblk3 V c 1 t = bAct (cur (V c main_v17_0)) (btc (grid3.coords t)) := by
  funext i
  blk_ext! [iblk3, idx3_1 t, bAct, cur, btc, bt]

/-- What window 2 stages at a grid point. -/
theorem in3_2 (c : Dev nD) (t : Fin cfg3.N) : iblk3 V c 2 t = bAct (cur (V c main_v17_1)) (btc (grid3.coords t)) := by
  funext i
  blk_ext! [iblk3, idx3_2 t, bAct, cur, btc, bt]

/-- Where window 3 writes back at a grid point. -/
theorem emb3_3 (t : Fin cfg3.N) (y : S1x1x128.Idx) :
    ((View.whole main_v36).slice (win3_3.rect t)).emb y = ix3 (btc (grid3.coords t)) (y 1) (y 2) := by
  ext a
  fin_cases a <;> blk_simp [idx3_3 t, btc, bt] <;> rfl

/-- The largest magnitude of the scores in each batch. -/
theorem arr3_m (c : Dev nD) : (dat3 V c).arrAt 3 cfg3.N = fun y =>
    ⨆ h : Fin 16, ⨆ p : Fin 512 × Fin 512,
      mag (scr (qz (as2 (V c main_v35) (ix1 0)) (cur (V c main_v17_0))) (qz (as2 (V c main_v35) (ix1 1)) (cur (V c main_v17_1))) (y 0) h p.1 p.2) := by
  refine (dat3 V c).arrAt_eq_of_covers 3 _ (by decide +kernel) fun t hf y => ?_
  blk_simp
  rw [after3_3]
  unfold outsAt3
  frame_out
  rw [emb3_3, in3_0, in3_1, in3_2, ld_scalar2 0 0 rfl, ld_scalar2 1 1 rfl]
  exact sm_out _ _ _ _ _ y

end Cert.KernelIdeal.Gen

end
-- ==== Proof.Reg4.lean ====
/-
  The arrays `prob_max` leaves.
-/
module

public import proofs.«01_k».proof.Proof.Gen.KernelIdeal.Frame.Region4
public import proofs.«01_k».proof.Proof.Block4

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx4_0 : ∀ t : Fin cfg4.N, win4_0.index t = ![0] := by decide +kernel

/-- The block window 1 takes at each grid point. -/
theorem idx4_1 : ∀ t : Fin cfg4.N, win4_1.index t = ![4 * (grid4.coords t 0).val + (grid4.coords t 1).val, 0, 0] := by decide +kernel

/-- The block window 2 takes at each grid point. -/
theorem idx4_2 : ∀ t : Fin cfg4.N, win4_2.index t = ![4 * (grid4.coords t 0).val + (grid4.coords t 1).val, 0, 0] := by decide +kernel

/-- The block window 3 takes at each grid point. -/
theorem idx4_3 : ∀ t : Fin cfg4.N, win4_3.index t = ![4 * (grid4.coords t 0).val + (grid4.coords t 1).val, 0, 0, 0] := by decide +kernel

/-- The block window 4 takes at each grid point. -/
theorem idx4_4 : ∀ t : Fin cfg4.N, win4_4.index t = ![4 * (grid4.coords t 0).val + (grid4.coords t 1).val, 0, 0, 0] := by decide +kernel

/-- The block window 5 takes at each grid point. -/
theorem idx4_5 : ∀ t : Fin cfg4.N, win4_5.index t = ![4 * (grid4.coords t 0).val + (grid4.coords t 1).val, 0, 0, 0] := by decide +kernel

/-- The block window 6 takes at each grid point. -/
theorem idx4_6 : ∀ t : Fin cfg4.N, win4_6.index t = ![4 * (grid4.coords t 0).val + (grid4.coords t 1).val, 0, 0, 0] := by decide +kernel

/-- The block window 7 takes at each grid point. -/
theorem idx4_7 : ∀ t : Fin cfg4.N, win4_7.index t = ![4 * (grid4.coords t 0).val + (grid4.coords t 1).val, 0, 0, 0] := by decide +kernel

/-- The block window 8 takes at each grid point. -/
theorem idx4_8 : ∀ t : Fin cfg4.N, win4_8.index t = ![4 * (grid4.coords t 0).val + (grid4.coords t 1).val, 0, 0] := by decide +kernel

/-- What window 0 stages at a grid point. -/
theorem in4_0 (c : Dev nD) (t : Fin cfg4.N) : iblk4 V c 0 t = as3 (V c main_v43) := by
  funext i
  blk_ext! [iblk4, idx4_0 t, as3]

/-- What window 1 stages at a grid point. -/
theorem in4_1 (c : Dev nD) (t : Fin cfg4.N) : iblk4 V c 1 t = bAct (cur (V c main_v17_0)) (btc (grid4.coords t)) := by
  funext i
  blk_ext! [iblk4, idx4_1 t, bAct, cur, btc, bt]

/-- What window 2 stages at a grid point. -/
theorem in4_2 (c : Dev nD) (t : Fin cfg4.N) : iblk4 V c 2 t = bAct (cur (V c main_v17_1)) (btc (grid4.coords t)) := by
  funext i
  blk_ext! [iblk4, idx4_2 t, bAct, cur, btc, bt]

/-- Where window 3 writes back at a grid point. -/
theorem emb4_3 (t : Fin cfg4.N) (y : S1x4x512x512.Idx) :
    ((View.whole main_v44_0).slice (win4_3.rect t)).emb y = ix4 (btc (grid4.coords t)) (y 1) (y 2) (y 3) := by
  ext a
  fin_cases a <;> blk_simp [idx4_3 t, btc, bt] <;> rfl

/-- Where window 4 writes back at a grid point. -/
theorem emb4_4 (t : Fin cfg4.N) (y : S1x4x512x512.Idx) :
    ((View.whole main_v44_1).slice (win4_4.rect t)).emb y = ix4 (btc (grid4.coords t)) (y 1) (y 2) (y 3) := by
  ext a
  fin_cases a <;> blk_simp [idx4_4 t, btc, bt] <;> rfl

/-- Where window 5 writes back at a grid point. -/
theorem emb4_5 (t : Fin cfg4.N) (y : S1x4x512x512.Idx) :
    ((View.whole main_v44_2).slice (win4_5.rect t)).emb y = ix4 (btc (grid4.coords t)) (y 1) (y 2) (y 3) := by
  ext a
  fin_cases a <;> blk_simp [idx4_5 t, btc, bt] <;> rfl

/-- Where window 6 writes back at a grid point. -/
theorem emb4_6 (t : Fin cfg4.N) (y : S1x4x512x512.Idx) :
    ((View.whole main_v44_3).slice (win4_6.rect t)).emb y = ix4 (btc (grid4.coords t)) (y 1) (y 2) (y 3) := by
  ext a
  fin_cases a <;> blk_simp [idx4_6 t, btc, bt] <;> rfl

/-- Where window 7 writes back at a grid point. -/
theorem emb4_7 (t : Fin cfg4.N) (y : S1x16x512x1.Idx) :
    ((View.whole main_v44_4).slice (win4_7.rect t)).emb y = ix4 (btc (grid4.coords t)) (y 1) (y 2) (y 3) := by
  ext a
  fin_cases a <;> blk_simp [idx4_7 t, btc, bt] <;> rfl

/-- Where window 8 writes back at a grid point. -/
theorem emb4_8 (t : Fin cfg4.N) (y : S1x1x128.Idx) :
    ((View.whole main_v44_5).slice (win4_8.rect t)).emb y = ix3 (btc (grid4.coords t)) (y 1) (y 2) := by
  ext a
  fin_cases a <;> blk_simp [idx4_8 t, btc, bt] <;> rfl

/-- The exponentials of heads 0 to 3. -/
theorem arr4_e0 (c : Dev nD) : (dat4 V c).arrAt 3 cfg4.N = fun y =>
    ex (qzS (as3 (V c main_v43) (ix1 2)) (scr (qz (as3 (V c main_v43) (ix1 0)) (cur (V c main_v17_0))) (qz (as3 (V c main_v43) (ix1 1)) (cur (V c main_v17_1))))) (y 0)
      (hq 0 (y 1)) (y 2) (y 3) := by
  refine (dat4 V c).arrAt_eq_of_covers 3 _ (by decide +kernel) fun t hf y => ?_
  blk_simp
  rw [after4_3]
  unfold outsAt4
  dsimp only
  frame_out
  rw [emb4_3, in4_0, in4_1, in4_2, ld_scalar3 0 0 rfl, ld_scalar3 1 1 rfl, ld_scalar3 2 2 rfl]
  generalize btc (grid4.coords t) = b
  generalize cur (V c main_v17_0) = A
  generalize cur (V c main_v17_1) = B
  generalize as3 (V c main_v43) = σ
  canon_tiles x h
  all_goals
    simp only [q4_blk, k4_blk, score_head, k4_pay4, k4_pay5, k4_pay6, k4_pay7, k4_pay8, k4_pay10, k4_pay11, k4_pay12, k4_pay13, k4_pay14, k4_pay15, k4_pay16, k4_pay17, k4_pay19, k4_pay20, k4_pay21, k4_pay22, k4_pay23, k4_pay25, k4_pay26, k4_pay27, k4_pay28, k4_pay29, k4_pay31, k4_pay32, k4_pay33, k4_pay34, k4_pay36, k4_pay37, k4_pay38, k4_pay39, k4_pay41, k4_pay42, k4_pay43, k4_pay44, k4_pay46, k4_pay47, k4_pay48, k4_pay49, k4_pay50, k4_pay52, k4_pay53, k4_pay54, k4_pay55, k4_pay57, k4_pay58, k4_pay59, k4_pay60, k4_pay61, k4_pay62, k4_pay63, k4_pay64, k4_pay66, k4_pay67, k4_pay68, k4_pay69, k4_pay70, k4_pay72, k4_pay73, k4_pay74, k4_pay75, k4_pay77, k4_pay78, k4_pay79, k4_pay80, k4_pay81, k4_pay82, k4_pay83, k4_pay84]
    refine (exp_piece _ _ _ _ x).trans (ex_at _ _ _ _ ?_ ?_ ?_)
    · show _ = 64 * (4 * 0 + (y 1).val)
      omega
    · show (x 2).val = (y 2).val
      omega
    · show (x 3).val = (y 3).val
      omega

/-- The exponentials of heads 4 to 7. -/
theorem arr4_e1 (c : Dev nD) : (dat4 V c).arrAt 4 cfg4.N = fun y =>
    ex (qzS (as3 (V c main_v43) (ix1 2)) (scr (qz (as3 (V c main_v43) (ix1 0)) (cur (V c main_v17_0))) (qz (as3 (V c main_v43) (ix1 1)) (cur (V c main_v17_1))))) (y 0)
      (hq 1 (y 1)) (y 2) (y 3) := by
  refine (dat4 V c).arrAt_eq_of_covers 4 _ (by decide +kernel) fun t hf y => ?_
  blk_simp
  rw [after4_4]
  unfold outsAt4
  dsimp only
  frame_out
  rw [emb4_4, in4_0, in4_1, in4_2, ld_scalar3 0 0 rfl, ld_scalar3 1 1 rfl, ld_scalar3 2 2 rfl]
  generalize btc (grid4.coords t) = b
  generalize cur (V c main_v17_0) = A
  generalize cur (V c main_v17_1) = B
  generalize as3 (V c main_v43) = σ
  canon_tiles x h
  all_goals
    simp only [q4_blk, k4_blk, score_head, k4_pay4, k4_pay5, k4_pay6, k4_pay7, k4_pay8, k4_pay10, k4_pay11, k4_pay12, k4_pay13, k4_pay14, k4_pay15, k4_pay16, k4_pay17, k4_pay19, k4_pay20, k4_pay21, k4_pay22, k4_pay23, k4_pay25, k4_pay26, k4_pay27, k4_pay28, k4_pay29, k4_pay31, k4_pay32, k4_pay33, k4_pay34, k4_pay36, k4_pay37, k4_pay38, k4_pay39, k4_pay41, k4_pay42, k4_pay43, k4_pay44, k4_pay46, k4_pay47, k4_pay48, k4_pay49, k4_pay50, k4_pay52, k4_pay53, k4_pay54, k4_pay55, k4_pay57, k4_pay58, k4_pay59, k4_pay60, k4_pay61, k4_pay62, k4_pay63, k4_pay64, k4_pay66, k4_pay67, k4_pay68, k4_pay69, k4_pay70, k4_pay72, k4_pay73, k4_pay74, k4_pay75, k4_pay77, k4_pay78, k4_pay79, k4_pay80, k4_pay81, k4_pay82, k4_pay83, k4_pay84]
    refine (exp_piece _ _ _ _ x).trans (ex_at _ _ _ _ ?_ ?_ ?_)
    · show _ = 64 * (4 * 1 + (y 1).val)
      omega
    · show (x 2).val = (y 2).val
      omega
    · show (x 3).val = (y 3).val
      omega

/-- The exponentials of heads 8 to 11. -/
theorem arr4_e2 (c : Dev nD) : (dat4 V c).arrAt 5 cfg4.N = fun y =>
    ex (qzS (as3 (V c main_v43) (ix1 2)) (scr (qz (as3 (V c main_v43) (ix1 0)) (cur (V c main_v17_0))) (qz (as3 (V c main_v43) (ix1 1)) (cur (V c main_v17_1))))) (y 0)
      (hq 2 (y 1)) (y 2) (y 3) := by
  refine (dat4 V c).arrAt_eq_of_covers 5 _ (by decide +kernel) fun t hf y => ?_
  blk_simp
  rw [after4_5]
  unfold outsAt4
  dsimp only
  frame_out
  rw [emb4_5, in4_0, in4_1, in4_2, ld_scalar3 0 0 rfl, ld_scalar3 1 1 rfl, ld_scalar3 2 2 rfl]
  generalize btc (grid4.coords t) = b
  generalize cur (V c main_v17_0) = A
  generalize cur (V c main_v17_1) = B
  generalize as3 (V c main_v43) = σ
  canon_tiles x h
  all_goals
    simp only [q4_blk, k4_blk, score_head, k4_pay4, k4_pay5, k4_pay6, k4_pay7, k4_pay8, k4_pay10, k4_pay11, k4_pay12, k4_pay13, k4_pay14, k4_pay15, k4_pay16, k4_pay17, k4_pay19, k4_pay20, k4_pay21, k4_pay22, k4_pay23, k4_pay25, k4_pay26, k4_pay27, k4_pay28, k4_pay29, k4_pay31, k4_pay32, k4_pay33, k4_pay34, k4_pay36, k4_pay37, k4_pay38, k4_pay39, k4_pay41, k4_pay42, k4_pay43, k4_pay44, k4_pay46, k4_pay47, k4_pay48, k4_pay49, k4_pay50, k4_pay52, k4_pay53, k4_pay54, k4_pay55, k4_pay57, k4_pay58, k4_pay59, k4_pay60, k4_pay61, k4_pay62, k4_pay63, k4_pay64, k4_pay66, k4_pay67, k4_pay68, k4_pay69, k4_pay70, k4_pay72, k4_pay73, k4_pay74, k4_pay75, k4_pay77, k4_pay78, k4_pay79, k4_pay80, k4_pay81, k4_pay82, k4_pay83, k4_pay84]
    refine (exp_piece _ _ _ _ x).trans (ex_at _ _ _ _ ?_ ?_ ?_)
    · show _ = 64 * (4 * 2 + (y 1).val)
      omega
    · show (x 2).val = (y 2).val
      omega
    · show (x 3).val = (y 3).val
      omega

/-- The exponentials of heads 12 to 15. -/
theorem arr4_e3 (c : Dev nD) : (dat4 V c).arrAt 6 cfg4.N = fun y =>
    ex (qzS (as3 (V c main_v43) (ix1 2)) (scr (qz (as3 (V c main_v43) (ix1 0)) (cur (V c main_v17_0))) (qz (as3 (V c main_v43) (ix1 1)) (cur (V c main_v17_1))))) (y 0)
      (hq 3 (y 1)) (y 2) (y 3) := by
  refine (dat4 V c).arrAt_eq_of_covers 6 _ (by decide +kernel) fun t hf y => ?_
  blk_simp
  rw [after4_6]
  unfold outsAt4
  dsimp only
  frame_out
  rw [emb4_6, in4_0, in4_1, in4_2, ld_scalar3 0 0 rfl, ld_scalar3 1 1 rfl, ld_scalar3 2 2 rfl]
  generalize btc (grid4.coords t) = b
  generalize cur (V c main_v17_0) = A
  generalize cur (V c main_v17_1) = B
  generalize as3 (V c main_v43) = σ
  canon_tiles x h
  all_goals
    simp only [q4_blk, k4_blk, score_head, k4_pay4, k4_pay5, k4_pay6, k4_pay7, k4_pay8, k4_pay10, k4_pay11, k4_pay12, k4_pay13, k4_pay14, k4_pay15, k4_pay16, k4_pay17, k4_pay19, k4_pay20, k4_pay21, k4_pay22, k4_pay23, k4_pay25, k4_pay26, k4_pay27, k4_pay28, k4_pay29, k4_pay31, k4_pay32, k4_pay33, k4_pay34, k4_pay36, k4_pay37, k4_pay38, k4_pay39, k4_pay41, k4_pay42, k4_pay43, k4_pay44, k4_pay46, k4_pay47, k4_pay48, k4_pay49, k4_pay50, k4_pay52, k4_pay53, k4_pay54, k4_pay55, k4_pay57, k4_pay58, k4_pay59, k4_pay60, k4_pay61, k4_pay62, k4_pay63, k4_pay64, k4_pay66, k4_pay67, k4_pay68, k4_pay69, k4_pay70, k4_pay72, k4_pay73, k4_pay74, k4_pay75, k4_pay77, k4_pay78, k4_pay79, k4_pay80, k4_pay81, k4_pay82, k4_pay83, k4_pay84]
    refine (exp_piece _ _ _ _ x).trans (ex_at _ _ _ _ ?_ ?_ ?_)
    · show _ = 64 * (4 * 3 + (y 1).val)
      omega
    · show (x 2).val = (y 2).val
      omega
    · show (x 3).val = (y 3).val
      omega

/-- The row sums. -/
theorem arr4_z (c : Dev nD) : (dat4 V c).arrAt 7 cfg4.N = fun y =>
    zs (ex (qzS (as3 (V c main_v43) (ix1 2)) (scr (qz (as3 (V c main_v43) (ix1 0)) (cur (V c main_v17_0))) (qz (as3 (V c main_v43) (ix1 1)) (cur (V c main_v17_1)))))) (y 0) (y 1) (y 2) := by
  refine (dat4 V c).arrAt_eq_of_covers 7 _ (by decide +kernel) fun t hf y => ?_
  blk_simp
  rw [after4_7]
  unfold outsAt4
  dsimp only
  frame_out
  rw [emb4_7, in4_0, in4_1, in4_2, ld_scalar3 0 0 rfl, ld_scalar3 1 1 rfl, ld_scalar3 2 2 rfl]
  generalize btc (grid4.coords t) = b
  generalize cur (V c main_v17_0) = A
  generalize cur (V c main_v17_1) = B
  generalize as3 (V c main_v43) = σ
  canon_tiles x h
  all_goals
    simp only [q4_blk, k4_blk, score_head, k4_pay4, k4_pay5, k4_pay6, k4_pay7, k4_pay8, k4_pay10, k4_pay11, k4_pay12, k4_pay13, k4_pay14, k4_pay15, k4_pay16, k4_pay17, k4_pay19, k4_pay20, k4_pay21, k4_pay22, k4_pay23, k4_pay25, k4_pay26, k4_pay27, k4_pay28, k4_pay29, k4_pay31, k4_pay32, k4_pay33, k4_pay34, k4_pay36, k4_pay37, k4_pay38, k4_pay39, k4_pay41, k4_pay42, k4_pay43, k4_pay44, k4_pay46, k4_pay47, k4_pay48, k4_pay49, k4_pay50, k4_pay52, k4_pay53, k4_pay54, k4_pay55, k4_pay57, k4_pay58, k4_pay59, k4_pay60, k4_pay61, k4_pay62, k4_pay63, k4_pay64, k4_pay66, k4_pay67, k4_pay68, k4_pay69, k4_pay70, k4_pay72, k4_pay73, k4_pay74, k4_pay75, k4_pay77, k4_pay78, k4_pay79, k4_pay80, k4_pay81, k4_pay82, k4_pay83, k4_pay84]
    refine (sum_piece _ _ _ _ x).trans (zs_at _ _ _ _ ?_ ?_)
    · show _ = 64 * (y 1).val
      omega
    · show (x 2).val = (y 2).val
      omega

/-- The reciprocal of the smallest row sum. -/
theorem arr4_m (c : Dev nD) : (dat4 V c).arrAt 8 cfg4.N = fun y =>
    Ideal.div 1 (⨅ h : Fin 16, ⨅ i, zs (ex (qzS (as3 (V c main_v43) (ix1 2)) (scr (qz (as3 (V c main_v43) (ix1 0)) (cur (V c main_v17_0))) (qz (as3 (V c main_v43) (ix1 1)) (cur (V c main_v17_1)))))) (y 0) h i) := by
  refine (dat4 V c).arrAt_eq_of_covers 8 _ (by decide +kernel) fun t hf y => ?_
  blk_simp
  rw [after4_8]
  unfold outsAt4
  dsimp only
  frame_out
  rw [emb4_8, in4_0, in4_1, in4_2, ld_scalar3 0 0 rfl, ld_scalar3 1 1 rfl, ld_scalar3 2 2 rfl]
  generalize btc (grid4.coords t) = b
  generalize cur (V c main_v17_0) = A
  generalize cur (V c main_v17_1) = B
  generalize as3 (V c main_v43) = σ
  simp only [k4_pay4, q4_blk, k4_blk]
  have e := fun o => exp_head o (bRow (qz (σ (ix1 0)) A) b) (bRow (qz (σ (ix1 1)) B) b) (σ (ix1 2))
  simp only [k4_pay67] at e
  simp only [k4_pay1, k4_pay4, k4_pay5, k4_pay6, k4_pay7, k4_pay8, k4_pay9, k4_pay10, k4_pay11, k4_pay12, k4_pay13, k4_pay14, k4_pay15, k4_pay16, k4_pay17, k4_pay18, k4_pay19, k4_pay20, k4_pay21, k4_pay22, k4_pay23, k4_pay24, k4_pay25, k4_pay26, k4_pay27, k4_pay28, k4_pay29, k4_pay30, k4_pay31, k4_pay32, k4_pay33, k4_pay34, k4_pay35, k4_pay36, k4_pay37, k4_pay38, k4_pay39, k4_pay40, k4_pay41, k4_pay42, k4_pay43, k4_pay44, k4_pay45, k4_pay46, k4_pay47, k4_pay48, k4_pay49, k4_pay50, k4_pay51, k4_pay52, k4_pay53, k4_pay54, k4_pay55, k4_pay56, k4_pay57, k4_pay58, k4_pay59, k4_pay60, k4_pay61, k4_pay62, k4_pay63, k4_pay64, k4_pay65, k4_pay66, k4_pay67, k4_pay68, k4_pay69, k4_pay70, k4_pay71, k4_pay72, k4_pay73, k4_pay74, k4_pay75, k4_pay76, k4_pay77, k4_pay78, k4_pay79, k4_pay80, k4_pay81, k4_pay82, k4_pay83, k4_pay84, k4_pay85, score_head, e]
  pointwise []
  simp only [fold_min]
  rw [pos_inf]
  exact min_heads (qz (σ (ix1 0)) A) (qz (σ (ix1 1)) B) b (σ (ix1 2))

end Cert.KernelIdeal.Gen

end
-- ==== Proof.Reg5.lean ====
/-
  The arrays `attn_out` leaves.
-/
module

public import proofs.«01_k».proof.Proof.Gen.KernelIdeal.Frame.Region5
public import proofs.«01_k».proof.Proof.Block5

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx5_0 : ∀ t : Fin cfg5.N, win5_0.index t = ![0] := by decide +kernel

/-- The block window 1 takes at each grid point. -/
theorem idx5_1 : ∀ t : Fin cfg5.N, win5_1.index t = ![4 * (grid5.coords t 0).val + (grid5.coords t 1).val, 0, 0, 0] := by decide +kernel

/-- The block window 2 takes at each grid point. -/
theorem idx5_2 : ∀ t : Fin cfg5.N, win5_2.index t = ![4 * (grid5.coords t 0).val + (grid5.coords t 1).val, 0, 0, 0] := by decide +kernel

/-- The block window 3 takes at each grid point. -/
theorem idx5_3 : ∀ t : Fin cfg5.N, win5_3.index t = ![4 * (grid5.coords t 0).val + (grid5.coords t 1).val, 0, 0, 0] := by decide +kernel

/-- The block window 4 takes at each grid point. -/
theorem idx5_4 : ∀ t : Fin cfg5.N, win5_4.index t = ![4 * (grid5.coords t 0).val + (grid5.coords t 1).val, 0, 0, 0] := by decide +kernel

/-- The block window 5 takes at each grid point. -/
theorem idx5_5 : ∀ t : Fin cfg5.N, win5_5.index t = ![4 * (grid5.coords t 0).val + (grid5.coords t 1).val, 0, 0, 0] := by decide +kernel

/-- The block window 6 takes at each grid point. -/
theorem idx5_6 : ∀ t : Fin cfg5.N, win5_6.index t = ![4 * (grid5.coords t 0).val + (grid5.coords t 1).val, 0, 0] := by decide +kernel

/-- The block window 7 takes at each grid point. -/
theorem idx5_7 : ∀ t : Fin cfg5.N, win5_7.index t = ![4 * (grid5.coords t 0).val + (grid5.coords t 1).val, 0, 0] := by decide +kernel

/-- The block window 8 takes at each grid point. -/
theorem idx5_8 : ∀ t : Fin cfg5.N, win5_8.index t = ![4 * (grid5.coords t 0).val + (grid5.coords t 1).val, 0, 0] := by decide +kernel

/-- What window 0 stages at a grid point. -/
theorem in5_0 (c : Dev nD) (t : Fin cfg5.N) : iblk5 V c 0 t = as2 (V c main_v50) := by
  funext i
  blk_ext! [iblk5, idx5_0 t, as2]

/-- What window 1 stages at a grid point. -/
theorem in5_1 (c : Dev nD) (t : Fin cfg5.N) : iblk5 V c 1 t = bExp (curE (V c main_v44_0)) (btc (grid5.coords t)) := by
  funext i
  blk_ext! [iblk5, idx5_1 t, bExp, curE, btc, bt]

/-- What window 2 stages at a grid point. -/
theorem in5_2 (c : Dev nD) (t : Fin cfg5.N) : iblk5 V c 2 t = bExp (curE (V c main_v44_1)) (btc (grid5.coords t)) := by
  funext i
  blk_ext! [iblk5, idx5_2 t, bExp, curE, btc, bt]

/-- What window 3 stages at a grid point. -/
theorem in5_3 (c : Dev nD) (t : Fin cfg5.N) : iblk5 V c 3 t = bExp (curE (V c main_v44_2)) (btc (grid5.coords t)) := by
  funext i
  blk_ext! [iblk5, idx5_3 t, bExp, curE, btc, bt]

/-- What window 4 stages at a grid point. -/
theorem in5_4 (c : Dev nD) (t : Fin cfg5.N) : iblk5 V c 4 t = bExp (curE (V c main_v44_3)) (btc (grid5.coords t)) := by
  funext i
  blk_ext! [iblk5, idx5_4 t, bExp, curE, btc, bt]

/-- What window 5 stages at a grid point. -/
theorem in5_5 (c : Dev nD) (t : Fin cfg5.N) : iblk5 V c 5 t = bSum (curZ (V c main_v44_4)) (btc (grid5.coords t)) := by
  funext i
  blk_ext! [iblk5, idx5_5 t, bSum, curZ, btc, bt]

/-- What window 6 stages at a grid point. -/
theorem in5_6 (c : Dev nD) (t : Fin cfg5.N) : iblk5 V c 6 t = bAct (cur (V c main_v17_2)) (btc (grid5.coords t)) := by
  funext i
  blk_ext! [iblk5, idx5_6 t, bAct, cur, btc, bt]

/-- Where window 7 writes back at a grid point. -/
theorem emb5_7 (t : Fin cfg5.N) (y : S1x512x1024.Idx) :
    ((View.whole main_v51_0).slice (win5_7.rect t)).emb y = ix3 (btc (grid5.coords t)) (y 1) (y 2) := by
  ext a
  fin_cases a <;> blk_simp [idx5_7 t, btc, bt] <;> rfl

/-- Where window 8 writes back at a grid point. -/
theorem emb5_8 (t : Fin cfg5.N) (y : S1x1x128.Idx) :
    ((View.whole main_v51_1).slice (win5_8.rect t)).emb y = ix3 (btc (grid5.coords t)) (y 1) (y 2) := by
  ext a
  fin_cases a <;> blk_simp [idx5_8 t, btc, bt] <;> rfl

set_option maxHeartbeats 4000000 in
/-- The heads' outcomes side by side. -/
theorem arr5_o (c : Dev nD) : (dat5 V c).arrAt 7 cfg5.N = fun y =>
    att (qzS (as2 (V c main_v50) (ix1 1)) (divS (join4 (curE (V c main_v44_0)) (curE (V c main_v44_1)) (curE (V c main_v44_2)) (curE (V c main_v44_3))) (curZ (V c main_v44_4)))) (qz (as2 (V c main_v50) (ix1 0)) (cur (V c main_v17_2))) (y 0) (y 1) (y 2) := by
  refine (dat5 V c).arrAt_eq_of_covers 7 _ (by decide +kernel) fun t hf y => ?_
  blk_simp
  rw [after5_7]
  unfold outsAt5
  dsimp only
  frame_out
  rw [emb5_7, in5_0, in5_1, in5_2, in5_3, in5_4, in5_5, in5_6, ld_scalar2 0 0 rfl, ld_scalar2 1 1 rfl]
  generalize curE (V c main_v44_0) = E0
  generalize curE (V c main_v44_1) = E1
  generalize curE (V c main_v44_2) = E2
  generalize curE (V c main_v44_3) = E3
  generalize curZ (V c main_v44_4) = Z
  generalize cur (V c main_v17_2) = A
  generalize as2 (V c main_v50) = σ
  generalize btc (grid5.coords t) = b
  canon_tiles x h
  all_goals
    simp only [ld_exp, ld_sum, v5_blk, prob_head, att_head, k5_pay1, k5_pay2, k5_pay3, k5_pay5, k5_pay6, k5_pay7, k5_pay8, k5_pay9, k5_pay10, k5_pay11, k5_pay12, k5_pay13, k5_pay14, k5_pay15, k5_pay16, k5_pay17, k5_pay18, k5_pay19, k5_pay20, k5_pay21, k5_pay22, k5_pay23, k5_pay24, k5_pay25, k5_pay26, k5_pay27, k5_pay28, k5_pay29, k5_pay30, k5_pay31, k5_pay32, k5_pay33, k5_pay34, k5_pay35, k5_pay36, k5_pay37, k5_pay38, k5_pay39, k5_pay40, k5_pay41, k5_pay42, k5_pay43, k5_pay44, k5_pay45, k5_pay46, k5_pay47, k5_pay48, k5_pay49, k5_pay50, k5_pay51, k5_pay52, k5_pay53, k5_pay54, k5_pay55, k5_pay56, k5_pay57, k5_pay58]
    refine att_put (join4 E0 E1 E2 E3) Z (qz (σ (ix1 0)) A) b (σ (ix1 1)) _ _ _ x _ _ rfl rfl ?_ ?_
    · show (x 1).val = (y 1).val
      omega
    · show (y 2).val = _ + (x 2).val
      omega

set_option maxHeartbeats 4000000 in
/-- Their largest magnitude in each batch. -/
theorem arr5_m (c : Dev nD) : (dat5 V c).arrAt 8 cfg5.N = fun y =>
    rowMax (att (qzS (as2 (V c main_v50) (ix1 1)) (divS (join4 (curE (V c main_v44_0)) (curE (V c main_v44_1)) (curE (V c main_v44_2)) (curE (V c main_v44_3))) (curZ (V c main_v44_4)))) (qz (as2 (V c main_v50) (ix1 0)) (cur (V c main_v17_2)))) (y 0) := by
  refine (dat5 V c).arrAt_eq_of_covers 8 _ (by decide +kernel) fun t hf y => ?_
  blk_simp
  rw [after5_8]
  unfold outsAt5
  dsimp only
  frame_out
  rw [emb5_8, in5_0, in5_1, in5_2, in5_3, in5_4, in5_5, in5_6, ld_scalar2 0 0 rfl, ld_scalar2 1 1 rfl]
  generalize curE (V c main_v44_0) = E0
  generalize curE (V c main_v44_1) = E1
  generalize curE (V c main_v44_2) = E2
  generalize curE (V c main_v44_3) = E3
  generalize curZ (V c main_v44_4) = Z
  generalize cur (V c main_v17_2) = A
  generalize as2 (V c main_v50) = σ
  generalize btc (grid5.coords t) = b
  simp only [ld_exp, ld_sum, v5_blk, prob_head, att_head, k5_pay1, k5_pay2, k5_pay3, k5_pay5, k5_pay6, k5_pay7, k5_pay8, k5_pay9, k5_pay10, k5_pay11, k5_pay12, k5_pay13, k5_pay14, k5_pay15, k5_pay16, k5_pay17, k5_pay18, k5_pay19, k5_pay20, k5_pay21, k5_pay22, k5_pay23, k5_pay24, k5_pay25, k5_pay26, k5_pay27, k5_pay28, k5_pay29, k5_pay30, k5_pay31, k5_pay32, k5_pay33, k5_pay34, k5_pay35, k5_pay36, k5_pay37, k5_pay38, k5_pay39, k5_pay40, k5_pay41, k5_pay42, k5_pay43, k5_pay44, k5_pay45, k5_pay46, k5_pay47, k5_pay48, k5_pay49, k5_pay50, k5_pay51, k5_pay52, k5_pay53, k5_pay54, k5_pay55, k5_pay56, k5_pay57, k5_pay58]
  pointwise []
  simp only [fold_max, absf_mag]
  refine Eq.trans ?_ (att_run (join4 E0 E1 E2 E3) Z (qz (σ (ix1 0)) A) b (σ (ix1 1)))
  simp only [run16]
  rfl

end Cert.KernelIdeal.Gen

end
-- ==== Proof.Reg6.lean ====
/-
  The arrays `out_proj` leaves.
-/
module

public import proofs.«01_k».proof.Proof.Gen.KernelIdeal.Frame.Region6
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx6_0 : ∀ t : Fin cfg6.N, win6_0.index t = ![0] := by decide +kernel

/-- The block window 1 takes at each grid point. -/
theorem idx6_1 : ∀ t : Fin cfg6.N, win6_1.index t = ![4 * (grid6.coords t 0).val + (grid6.coords t 1).val, 0, 0] := by decide +kernel

/-- The block window 2 takes at each grid point. -/
theorem idx6_2 : ∀ t : Fin cfg6.N, win6_2.index t = ![3, 0, 0] := by decide +kernel

/-- The block window 3 takes at each grid point. -/
theorem idx6_3 : ∀ t : Fin cfg6.N, win6_3.index t = ![0, 0, 0] := by decide +kernel

/-- The block window 4 takes at each grid point. -/
theorem idx6_4 : ∀ t : Fin cfg6.N, win6_4.index t = ![4 * (grid6.coords t 0).val + (grid6.coords t 1).val, 0, 0] := by decide +kernel

/-- The block window 5 takes at each grid point. -/
theorem idx6_5 : ∀ t : Fin cfg6.N, win6_5.index t = ![4 * (grid6.coords t 0).val + (grid6.coords t 1).val, 0, 0] := by decide +kernel

/-- What window 0 stages at a grid point. -/
theorem in6_0 (c : Dev nD) (t : Fin cfg6.N) : iblk6 V c 0 t = as1 (V c main_v55) := by
  funext i
  blk_ext! [iblk6, idx6_0 t, as1]

/-- What window 1 stages at a grid point. -/
theorem in6_1 (c : Dev nD) (t : Fin cfg6.N) : iblk6 V c 1 t = bAct (cur (V c main_v51_0)) (btc (grid6.coords t)) := by
  funext i
  blk_ext! [iblk6, idx6_1 t, bAct, cur, btc, bt]

/-- What window 2 stages at a grid point. -/
theorem in6_2 (c : Dev nD) (t : Fin cfg6.N) : iblk6 V c 2 t = bWgt (wAt (V c main_v11_0) 3) := by
  funext i
  blk_ext! [iblk6, idx6_2 t, bWgt, wAt]

/-- What window 3 stages at a grid point. -/
theorem in6_3 (c : Dev nD) (t : Fin cfg6.N) : iblk6 V c 3 t = V c main_v11_1 := by
  funext i
  blk_ext! [iblk6, idx6_3 t]

/-- Where window 4 writes back at a grid point. -/
theorem emb6_4 (t : Fin cfg6.N) (y : S1x512x1024.Idx) :
    ((View.whole main_v56_0).slice (win6_4.rect t)).emb y = ix3 (btc (grid6.coords t)) (y 1) (y 2) := by
  ext a
  fin_cases a <;> blk_simp [idx6_4 t, btc, bt] <;> rfl

/-- Where window 5 writes back at a grid point. -/
theorem emb6_5 (t : Fin cfg6.N) (y : S1x1x128.Idx) :
    ((View.whole main_v56_1).slice (win6_5.rect t)).emb y = ix3 (btc (grid6.coords t)) (y 1) (y 2) := by
  ext a
  fin_cases a <;> blk_simp [idx6_5 t, btc, bt] <;> rfl

/-- The projection. -/
theorem arr6_o (c : Dev nD) : (dat6 V c).arrAt 4 cfg6.N = fun y =>
    lin (qz (as1 (V c main_v55) (ix1 0)) (cur (V c main_v51_0))) (wAt (V c main_v11_0) 3) (bAt (V c main_v11_1) 3) (y 0) (y 1) (y 2) := by
  refine (dat6 V c).arrAt_eq_of_covers 4 _ (by decide +kernel) fun t hf y => ?_
  blk_simp
  rw [after6_4]
  unfold outsAt6
  dsimp only
  frame_out
  rw [emb6_4, in6_0, in6_1, in6_2, in6_3, ld_scalar1, ld_bias 3 (by decide)]
  exact o_out _ _ _ _ _ y

/-- Its largest magnitude in each batch. -/
theorem arr6_m (c : Dev nD) : (dat6 V c).arrAt 5 cfg6.N = fun y =>
    rowMax (lin (qz (as1 (V c main_v55) (ix1 0)) (cur (V c main_v51_0))) (wAt (V c main_v11_0) 3) (bAt (V c main_v11_1) 3)) (y 0) := by
  refine (dat6 V c).arrAt_eq_of_covers 5 _ (by decide +kernel) fun t hf y => ?_
  blk_simp
  rw [after6_5]
  unfold outsAt6
  dsimp only
  frame_out
  rw [emb6_5, in6_0, in6_1, in6_2, in6_3, ld_scalar1, ld_bias 3 (by decide)]
  exact om_out _ _ _ _ _ y

end Cert.KernelIdeal.Gen

end
-- ==== Proof.Layer1.lean ====
/-
  Layer 1: what its arrays hold, from its input.
-/
module

public import proofs.«01_k».proof.Proof.Gen.KernelIdeal.Frame.Fold0
public import proofs.«01_k».proof.Proof.Hosts
public import proofs.«01_k».proof.Proof.KLayer
public import proofs.«01_k».proof.Proof.Reg2
public import proofs.«01_k».proof.Proof.Reg3
public import proofs.«01_k».proof.Proof.Reg4
public import proofs.«01_k».proof.Proof.Reg5
public import proofs.«01_k».proof.Proof.Reg6

@[expose] public section

set_option maxRecDepth 16384

noncomputable section

namespace Cert.KernelIdeal.Gen

open Idealize.ShloMosaic Idealize.ShloMosaic.TcCoe Cert.Attn

variable (m : (ℓ : Loc nD τ sig) → Buf (Elt Ideal) ℓ) (ρ : Dev nD → PrngReg)

/-- The queries. -/
theorem layer1_q (c : Dev nD) (x : Act) (s : EReal) (w : Fin 4 → Wgt) (β : Fin 4 → Bia)
    (hx : cur (V4 m ρ c main_arg0) = x) (hs : as1 (V4 m ρ c main_v16) (ix1 0) = s)
    (hw : ∀ n, wAt (V4 m ρ c main_v11_0) n = w n) (hb : ∀ n, bAt (V4 m ρ c main_v11_1) n = β n) :
    cur (W5 m ρ c main_v17_0) = scaled (lin (qz s x) (w 0) (β 0)) := by
  have e : W5 m ρ c main_v17_0 = _ := (W5_arr m ρ c 6).trans (arr2_q (V4 m ρ) c)
  rw [hs, hx, hw, hb] at e
  exact congrArg cur e

/-- The keys. -/
theorem layer1_k (c : Dev nD) (x : Act) (s : EReal) (w : Fin 4 → Wgt) (β : Fin 4 → Bia)
    (hx : cur (V4 m ρ c main_arg0) = x) (hs : as1 (V4 m ρ c main_v16) (ix1 0) = s)
    (hw : ∀ n, wAt (V4 m ρ c main_v11_0) n = w n) (hb : ∀ n, bAt (V4 m ρ c main_v11_1) n = β n) :
    cur (W5 m ρ c main_v17_1) = lin (qz s x) (w 1) (β 1) := by
  have e : W5 m ρ c main_v17_1 = _ := (W5_arr m ρ c 7).trans (arr2_k (V4 m ρ) c)
  rw [hs, hx, hw, hb] at e
  exact congrArg cur e

/-- The values. -/
theorem layer1_v (c : Dev nD) (x : Act) (s : EReal) (w : Fin 4 → Wgt) (β : Fin 4 → Bia)
    (hx : cur (V4 m ρ c main_arg0) = x) (hs : as1 (V4 m ρ c main_v16) (ix1 0) = s)
    (hw : ∀ n, wAt (V4 m ρ c main_v11_0) n = w n) (hb : ∀ n, bAt (V4 m ρ c main_v11_1) n = β n) :
    cur (W5 m ρ c main_v17_2) = lin (qz s x) (w 2) (β 2) := by
  have e : W5 m ρ c main_v17_2 = _ := (W5_arr m ρ c 8).trans (arr2_v (V4 m ρ) c)
  rw [hs, hx, hw, hb] at e
  exact congrArg cur e

/-- The largest magnitudes of queries, keys and values, batch by batch. -/
theorem layer1_pm (c : Dev nD) (x : Act) (s : EReal) (w : Fin 4 → Wgt) (β : Fin 4 → Bia)
    (hx : cur (V4 m ρ c main_arg0) = x) (hs : as1 (V4 m ρ c main_v16) (ix1 0) = s)
    (hw : ∀ n, wAt (V4 m ρ c main_v11_0) n = w n) (hb : ∀ n, bAt (V4 m ρ c main_v11_1) n = β n) :
    W5 m ρ c main_v17_3 = fun y : S8x3x128.Idx => (![rowMax (scaled (lin (qz s x) (w 0) (β 0))), rowMax (lin (qz s x) (w 1) (β 1)), rowMax (lin (qz s x) (w 2) (β 2))] : Fin 3 → Fin 8 → EReal) (y 1) (y 0) := by
  have e : W5 m ρ c main_v17_3 = _ := (W5_arr m ρ c 9).trans (arr2_pm (V4 m ρ) c)
  rw [hs, hx, hw, hw, hw, hb, hb, hb] at e
  exact e.trans (rows_eq _ _ _)

section Scores

variable (c : Dev nD) (Q K V : Act) (hq : cur (W5 m ρ c main_v17_0) = Q) (hk : cur (W5 m ρ c main_v17_1) = K) (hv : cur (W5 m ρ c main_v17_2) = V)
    (hp : W5 m ρ c main_v17_3 = fun y : S8x3x128.Idx => (![rowMax Q, rowMax K, rowMax V] : Fin 3 → Fin 8 → EReal) (y 1) (y 0))
include hp

/-- The scales of the queries, the keys and the values. -/
theorem layer1_sq : W6 m ρ c main_v22 = fun _ => scl (amax Q) :=
  (host3_0 (W5 m ρ c) _ hp).trans (congrArg (fun r => fun _ => scl r) (sup_rowMax Q))

/-- The scale of the keys. -/
theorem layer1_sk : W6 m ρ c main_v27 = fun _ => scl (amax K) :=
  (host3_1 (W5 m ρ c) _ hp).trans (congrArg (fun r => fun _ => scl r) (sup_rowMax K))

/-- The scale of the values. -/
theorem layer1_sv : W6 m ρ c main_v32 = fun _ => scl (amax V) :=
  (host3_2 (W5 m ρ c) _ hp).trans (congrArg (fun r => fun _ => scl r) (sup_rowMax V))

include hq hk

/-- The largest score in each batch. -/
theorem layer1_sm : W7 m ρ c main_v36 = fun y : S8x1x128.Idx => (⨆ h : Fin 16, ⨆ p : Fin 512 × Fin 512, mag (scr (fq Q) (fq K) (y 0) h p.1 p.2)) := by
  have e : W7 m ρ c main_v36 = _ := (W7_arr m ρ c 3).trans (arr3_m (V6 m ρ) c)
  have h0 : as2 (V6 m ρ c main_v35) (ix1 0) = scl (amax Q) := (host3_c0 (W5 m ρ c) _ hp).trans (congrArg scl (sup_rowMax Q))
  have h1 : as2 (V6 m ρ c main_v35) (ix1 1) = scl (amax K) := (host3_c1 (W5 m ρ c) _ hp).trans (congrArg scl (sup_rowMax K))
  have eq : cur (V6 m ρ c main_v17_0) = Q := (congrArg cur (W6_of m ρ c main_v17_0 (by decide))).trans hq
  have ek : cur (V6 m ρ c main_v17_1) = K := (congrArg cur (W6_of m ρ c main_v17_1 (by decide))).trans hk
  rw [h0, h1, eq, ek] at e
  exact e

/-- The three scales `prob_max` reads, and its queries and keys. -/
theorem layer1_in4 : as3 (V8 m ρ c main_v43) (ix1 0) = scl (amax Q) ∧ as3 (V8 m ρ c main_v43) (ix1 1) = scl (amax K)
    ∧ as3 (V8 m ρ c main_v43) (ix1 2) = scl (smax (scr (fq Q) (fq K))) ∧ cur (V8 m ρ c main_v17_0) = Q ∧ cur (V8 m ρ c main_v17_1) = K :=
  ⟨host4_q (W7 m ρ c) _ ((W7_of m ρ c main_v22 (by decide)).trans (layer1_sq m ρ c Q K V hp)),
   host4_k (W7 m ρ c) _ ((W7_of m ρ c main_v27 (by decide)).trans (layer1_sk m ρ c Q K V hp)),
   (host4_s (W7 m ρ c) _ (layer1_sm m ρ c Q K V hq hk hp)).trans (congrArg scl (sup_scores _)),
   (congrArg cur (((W8_of m ρ c main_v17_0 (by decide)).trans ((W7_of m ρ c main_v17_0 (by decide)).trans (W6_of m ρ c main_v17_0 (by decide)))))).trans hq, (congrArg cur (((W8_of m ρ c main_v17_1 (by decide)).trans ((W7_of m ρ c main_v17_1 (by decide)).trans (W6_of m ρ c main_v17_1 (by decide)))))).trans hk⟩

/-- Exponentials of heads 0 to 3. -/
theorem layer1_e0 : curE (W9 m ρ c main_v44_0) = fun b k => ex (qzS (scl (smax (scr (fq Q) (fq K)))) (scr (fq Q) (fq K))) b (Cert.KernelIdeal.Gen.hq 0 k) := by
  obtain ⟨h0, h1, h2, h3, h4⟩ := layer1_in4 m ρ c Q K V hq hk hp
  have e : W9 m ρ c main_v44_0 = _ := (W9_arr m ρ c 3).trans (arr4_e0 (V8 m ρ) c)
  rw [h0, h1, h2, h3, h4] at e
  exact congrArg curE e

/-- Exponentials of heads 4 to 7. -/
theorem layer1_e1 : curE (W9 m ρ c main_v44_1) = fun b k => ex (qzS (scl (smax (scr (fq Q) (fq K)))) (scr (fq Q) (fq K))) b (Cert.KernelIdeal.Gen.hq 1 k) := by
  obtain ⟨h0, h1, h2, h3, h4⟩ := layer1_in4 m ρ c Q K V hq hk hp
  have e : W9 m ρ c main_v44_1 = _ := (W9_arr m ρ c 4).trans (arr4_e1 (V8 m ρ) c)
  rw [h0, h1, h2, h3, h4] at e
  exact congrArg curE e

/-- Exponentials of heads 8 to 11. -/
theorem layer1_e2 : curE (W9 m ρ c main_v44_2) = fun b k => ex (qzS (scl (smax (scr (fq Q) (fq K)))) (scr (fq Q) (fq K))) b (Cert.KernelIdeal.Gen.hq 2 k) := by
  obtain ⟨h0, h1, h2, h3, h4⟩ := layer1_in4 m ρ c Q K V hq hk hp
  have e : W9 m ρ c main_v44_2 = _ := (W9_arr m ρ c 5).trans (arr4_e2 (V8 m ρ) c)
  rw [h0, h1, h2, h3, h4] at e
  exact congrArg curE e

/-- Exponentials of heads 12 to 15. -/
theorem layer1_e3 : curE (W9 m ρ c main_v44_3) = fun b k => ex (qzS (scl (smax (scr (fq Q) (fq K)))) (scr (fq Q) (fq K))) b (Cert.KernelIdeal.Gen.hq 3 k) := by
  obtain ⟨h0, h1, h2, h3, h4⟩ := layer1_in4 m ρ c Q K V hq hk hp
  have e : W9 m ρ c main_v44_3 = _ := (W9_arr m ρ c 6).trans (arr4_e3 (V8 m ρ) c)
  rw [h0, h1, h2, h3, h4] at e
  exact congrArg curE e

/-- The row sums. -/
theorem layer1_z : curZ (W9 m ρ c main_v44_4) = zs (ex (qzS (scl (smax (scr (fq Q) (fq K)))) (scr (fq Q) (fq K)))) := by
  obtain ⟨h0, h1, h2, h3, h4⟩ := layer1_in4 m ρ c Q K V hq hk hp
  have e : W9 m ρ c main_v44_4 = _ := (W9_arr m ρ c 7).trans (arr4_z (V8 m ρ) c)
  rw [h0, h1, h2, h3, h4] at e
  exact congrArg curZ e

/-- The largest probability of each batch. -/
theorem layer1_zm : W9 m ρ c main_v44_5 = fun y : S8x1x128.Idx => Ideal.div 1 (⨅ h : Fin 16, ⨅ i, zs (ex (qzS (scl (smax (scr (fq Q) (fq K)))) (scr (fq Q) (fq K)))) (y 0) h i) := by
  obtain ⟨h0, h1, h2, h3, h4⟩ := layer1_in4 m ρ c Q K V hq hk hp
  have e : W9 m ρ c main_v44_5 = _ := (W9_arr m ρ c 8).trans (arr4_m (V8 m ρ) c)
  rw [h0, h1, h2, h3, h4] at e
  exact e

include hv

/-- The two scales `attn_out` reads, and its values. -/
theorem layer1_in5 : as2 (V10 m ρ c main_v50) (ix1 0) = scl (amax V) ∧ as2 (V10 m ρ c main_v50) (ix1 1) = scl (kmax (ex (qzS (scl (smax (scr (fq Q) (fq K)))) (scr (fq Q) (fq K)))))
    ∧ cur (V10 m ρ c main_v17_2) = V ∧ curZ (V10 m ρ c main_v44_4) = zs (ex (qzS (scl (smax (scr (fq Q) (fq K)))) (scr (fq Q) (fq K)))) :=
  ⟨host5_v (W9 m ρ c) _ ((((W9_of m ρ c main_v32 (by decide)).trans ((W8_of m ρ c main_v32 (by decide)).trans (W7_of m ρ c main_v32 (by decide))))).trans (layer1_sv m ρ c Q K V hp)),
   host5_p (W9 m ρ c) _ (layer1_zm m ρ c Q K V hq hk hp),
   (congrArg cur (((W10_of m ρ c main_v17_2 (by decide)).trans ((W9_of m ρ c main_v17_2 (by decide)).trans ((W8_of m ρ c main_v17_2 (by decide)).trans ((W7_of m ρ c main_v17_2 (by decide)).trans (W6_of m ρ c main_v17_2 (by decide)))))))).trans hv,
   (congrArg curZ (W10_of m ρ c main_v44_4 (by decide))).trans (layer1_z m ρ c Q K V hq hk hp)⟩

/-- The four arrays of exponentials together. -/
theorem layer1_join : join4 (curE (V10 m ρ c main_v44_0)) (curE (V10 m ρ c main_v44_1)) (curE (V10 m ρ c main_v44_2)) (curE (V10 m ρ c main_v44_3)) = ex (qzS (scl (smax (scr (fq Q) (fq K)))) (scr (fq Q) (fq K))) := by
  have e0 := (congrArg curE (W10_of m ρ c main_v44_0 (by decide))).trans (layer1_e0 m ρ c Q K V hq hk hp)
  have e1 := (congrArg curE (W10_of m ρ c main_v44_1 (by decide))).trans (layer1_e1 m ρ c Q K V hq hk hp)
  have e2 := (congrArg curE (W10_of m ρ c main_v44_2 (by decide))).trans (layer1_e2 m ρ c Q K V hq hk hp)
  have e3 := (congrArg curE (W10_of m ρ c main_v44_3 (by decide))).trans (layer1_e3 m ρ c Q K V hq hk hp)
  rw [show curE (V10 m ρ c main_v44_0) = _ from e0, show curE (V10 m ρ c main_v44_1) = _ from e1, show curE (V10 m ρ c main_v44_2) = _ from e2, show curE (V10 m ρ c main_v44_3) = _ from e3]
  exact join4_self _

/-- The heads' outcomes, and their largest magnitudes. -/
theorem layer1_a : cur (W11 m ρ c main_v51_0) = att (qzS (scl (kmax (ex (qzS (scl (smax (scr (fq Q) (fq K)))) (scr (fq Q) (fq K)))))) (prob (ex (qzS (scl (smax (scr (fq Q) (fq K)))) (scr (fq Q) (fq K)))))) (fq V) := by
  obtain ⟨h0, h1, h2, h3⟩ := layer1_in5 m ρ c Q K V hq hk hv hp
  have e : W11 m ρ c main_v51_0 = _ := (W11_arr m ρ c 7).trans (arr5_o (V10 m ρ) c)
  rw [h0, h1, h2, h3, layer1_join m ρ c Q K V hq hk hv hp] at e
  exact congrArg cur e

/-- The largest magnitudes of the heads' outputs, batch by batch. -/
theorem layer1_am : W11 m ρ c main_v51_1 = fun y : S8x1x128.Idx => rowMax (att (qzS (scl (kmax (ex (qzS (scl (smax (scr (fq Q) (fq K)))) (scr (fq Q) (fq K)))))) (prob (ex (qzS (scl (smax (scr (fq Q) (fq K)))) (scr (fq Q) (fq K)))))) (fq V)) (y 0) := by
  obtain ⟨h0, h1, h2, h3⟩ := layer1_in5 m ρ c Q K V hq hk hv hp
  have e : W11 m ρ c main_v51_1 = _ := (W11_arr m ρ c 8).trans (arr5_m (V10 m ρ) c)
  rw [h0, h1, h2, h3, layer1_join m ρ c Q K V hq hk hv hp] at e
  exact e

end Scores

section Out

variable (c : Dev nD) (x : Act) (s : EReal) (w : Fin 4 → Wgt) (β : Fin 4 → Bia)
    (hx : cur (V4 m ρ c main_arg0) = x) (hs : as1 (V4 m ρ c main_v16) (ix1 0) = s)
    (hw : ∀ n, wAt (V4 m ρ c main_v11_0) n = w n) (hb : ∀ n, bAt (V4 m ρ c main_v11_1) n = β n)
    (hw' : ∀ n, wAt (V12 m ρ c main_v11_0) n = w n) (hb' : ∀ n, bAt (V12 m ρ c main_v11_1) n = β n)

include hx hs hw hb hw' hb'

/-- What `out_proj` reads. -/
theorem layer1_in6 : cur (V12 m ρ c main_v51_0) = (fun Q K V => att (qzS (scl (kmax (ex (qzS (scl (smax (scr (fq Q) (fq K)))) (scr (fq Q) (fq K)))))) (prob (ex (qzS (scl (smax (scr (fq Q) (fq K)))) (scr (fq Q) (fq K)))))) (fq V)) (scaled (lin (qz s x) (w 0) (β 0))) (lin (qz s x) (w 1) (β 1)) (lin (qz s x) (w 2) (β 2))
    ∧ as1 (V12 m ρ c main_v55) (ix1 0) = scl (amax ((fun Q K V => att (qzS (scl (kmax (ex (qzS (scl (smax (scr (fq Q) (fq K)))) (scr (fq Q) (fq K)))))) (prob (ex (qzS (scl (smax (scr (fq Q) (fq K)))) (scr (fq Q) (fq K)))))) (fq V)) (scaled (lin (qz s x) (w 0) (β 0))) (lin (qz s x) (w 1) (β 1)) (lin (qz s x) (w 2) (β 2)))) := by
  have hq := layer1_q m ρ c x s w β hx hs hw hb
  have hk := layer1_k m ρ c x s w β hx hs hw hb
  have hv := layer1_v m ρ c x s w β hx hs hw hb
  have hp := layer1_pm m ρ c x s w β hx hs hw hb
  refine ⟨(congrArg cur (W12_of m ρ c main_v51_0 (by decide))).trans (layer1_a m ρ c _ _ _ hq hk hv hp), ?_⟩
  exact (host6 (W11 m ρ c) _ (layer1_am m ρ c _ _ _ hq hk hv hp)).trans (congrArg scl (sup_rowMax _))

/-- The layer's outcome, before it is quantised. -/
theorem layer1_o : cur (W13 m ρ c main_v56_0) = kLayer (qz s x) w β := by
  obtain ⟨h0, h1⟩ := layer1_in6 m ρ c x s w β hx hs hw hb hw' hb'
  have e : W13 m ρ c main_v56_0 = _ := (W13_arr m ρ c 4).trans (arr6_o (V12 m ρ) c)
  rw [h0, h1, hw', hb'] at e
  exact congrArg cur e

/-- Its largest magnitude in each batch. -/
theorem layer1_om : W13 m ρ c main_v56_1 = fun y : S8x1x128.Idx => rowMax (kLayer (qz s x) w β) (y 0) := by
  obtain ⟨h0, h1⟩ := layer1_in6 m ρ c x s w β hx hs hw hb hw' hb'
  have e : W13 m ρ c main_v56_1 = _ := (W13_arr m ρ c 5).trans (arr6_m (V12 m ρ) c)
  rw [h0, h1, hw', hb'] at e
  exact e

end Out

end Cert.KernelIdeal.Gen

end
-- ==== Proof.Reg7.lean ====
/-
  The arrays `qkv_proj` leaves.
-/
module

public import proofs.«01_k».proof.Proof.Gen.KernelIdeal.Frame.Region7
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx7_0 : ∀ t : Fin cfg7.N, win7_0.index t = ![0] := by decide +kernel

/-- The block window 1 takes at each grid point. -/
theorem idx7_1 : ∀ t : Fin cfg7.N, win7_1.index t = ![4 * (grid7.coords t 0).val + (grid7.coords t 1).val, 0, 0] := by decide +kernel

/-- The block window 2 takes at each grid point. -/
theorem idx7_2 : ∀ t : Fin cfg7.N, win7_2.index t = ![0, 0, 0] := by decide +kernel

/-- The block window 3 takes at each grid point. -/
theorem idx7_3 : ∀ t : Fin cfg7.N, win7_3.index t = ![1, 0, 0] := by decide +kernel

/-- The block window 4 takes at each grid point. -/
theorem idx7_4 : ∀ t : Fin cfg7.N, win7_4.index t = ![2, 0, 0] := by decide +kernel

/-- The block window 5 takes at each grid point. -/
theorem idx7_5 : ∀ t : Fin cfg7.N, win7_5.index t = ![0, 0, 0] := by decide +kernel

/-- The block window 6 takes at each grid point. -/
theorem idx7_6 : ∀ t : Fin cfg7.N, win7_6.index t = ![4 * (grid7.coords t 0).val + (grid7.coords t 1).val, 0, 0] := by decide +kernel

/-- The block window 7 takes at each grid point. -/
theorem idx7_7 : ∀ t : Fin cfg7.N, win7_7.index t = ![4 * (grid7.coords t 0).val + (grid7.coords t 1).val, 0, 0] := by decide +kernel

/-- The block window 8 takes at each grid point. -/
theorem idx7_8 : ∀ t : Fin cfg7.N, win7_8.index t = ![4 * (grid7.coords t 0).val + (grid7.coords t 1).val, 0, 0] := by decide +kernel

/-- The block window 9 takes at each grid point. -/
theorem idx7_9 : ∀ t : Fin cfg7.N, win7_9.index t = ![4 * (grid7.coords t 0).val + (grid7.coords t 1).val, 0, 0] := by decide +kernel

/-- What window 0 stages at a grid point. -/
theorem in7_0 (c : Dev nD) (t : Fin cfg7.N) : iblk7 V c 0 t = as1 (V c main_v60) := by
  funext i
  blk_ext! [iblk7, idx7_0 t, as1]

/-- What window 1 stages at a grid point. -/
theorem in7_1 (c : Dev nD) (t : Fin cfg7.N) : iblk7 V c 1 t = bAct (cur (V c main_v56_0)) (btc (grid7.coords t)) := by
  funext i
  blk_ext! [iblk7, idx7_1 t, bAct, cur, btc, bt]

/-- What window 2 stages at a grid point. -/
theorem in7_2 (c : Dev nD) (t : Fin cfg7.N) : iblk7 V c 2 t = bWgt (wAt (V c main_v11_0) 0) := by
  funext i
  blk_ext! [iblk7, idx7_2 t, bWgt, wAt]

/-- What window 3 stages at a grid point. -/
theorem in7_3 (c : Dev nD) (t : Fin cfg7.N) : iblk7 V c 3 t = bWgt (wAt (V c main_v11_0) 1) := by
  funext i
  blk_ext! [iblk7, idx7_3 t, bWgt, wAt]

/-- What window 4 stages at a grid point. -/
theorem in7_4 (c : Dev nD) (t : Fin cfg7.N) : iblk7 V c 4 t = bWgt (wAt (V c main_v11_0) 2) := by
  funext i
  blk_ext! [iblk7, idx7_4 t, bWgt, wAt]

/-- What window 5 stages at a grid point. -/
theorem in7_5 (c : Dev nD) (t : Fin cfg7.N) : iblk7 V c 5 t = V c main_v11_1 := by
  funext i
  blk_ext! [iblk7, idx7_5 t]

/-- Where window 6 writes back at a grid point. -/
theorem emb7_6 (t : Fin cfg7.N) (y : S1x512x1024.Idx) :
    ((View.whole main_v61_0).slice (win7_6.rect t)).emb y = ix3 (btc (grid7.coords t)) (y 1) (y 2) := by
  ext a
  fin_cases a <;> blk_simp [idx7_6 t, btc, bt] <;> rfl

/-- Where window 7 writes back at a grid point. -/
theorem emb7_7 (t : Fin cfg7.N) (y : S1x512x1024.Idx) :
    ((View.whole main_v61_1).slice (win7_7.rect t)).emb y = ix3 (btc (grid7.coords t)) (y 1) (y 2) := by
  ext a
  fin_cases a <;> blk_simp [idx7_7 t, btc, bt] <;> rfl

/-- Where window 8 writes back at a grid point. -/
theorem emb7_8 (t : Fin cfg7.N) (y : S1x512x1024.Idx) :
    ((View.whole main_v61_2).slice (win7_8.rect t)).emb y = ix3 (btc (grid7.coords t)) (y 1) (y 2) := by
  ext a
  fin_cases a <;> blk_simp [idx7_8 t, btc, bt] <;> rfl

/-- Where window 9 writes back at a grid point. -/
theorem emb7_9 (t : Fin cfg7.N) (y : S1x3x128.Idx) :
    ((View.whole main_v61_3).slice (win7_9.rect t)).emb y = ix3 (btc (grid7.coords t)) (y 1) (y 2) := by
  ext a
  fin_cases a <;> blk_simp [idx7_9 t, btc, bt] <;> rfl

/-- The scaled queries. -/
theorem arr7_q (c : Dev nD) : (dat7 V c).arrAt 6 cfg7.N = fun y =>
    scaled (lin (qz (as1 (V c main_v60) (ix1 0)) (cur (V c main_v56_0))) (wAt (V c main_v11_0) 0) (bAt (V c main_v11_1) 0)) (y 0) (y 1) (y 2) := by
  refine (dat7 V c).arrAt_eq_of_covers 6 _ (by decide +kernel) fun t hf y => ?_
  blk_simp
  rw [after7_6]
  unfold outsAt7
  dsimp only
  frame_out
  rw [emb7_6, in7_0, in7_1, in7_2, in7_5, ld_scalar1, ld_bias 0 (by decide)]
  exact q_out _ _ _ _ _ y

/-- The keys. -/
theorem arr7_k (c : Dev nD) : (dat7 V c).arrAt 7 cfg7.N = fun y =>
    lin (qz (as1 (V c main_v60) (ix1 0)) (cur (V c main_v56_0))) (wAt (V c main_v11_0) 1) (bAt (V c main_v11_1) 1) (y 0) (y 1) (y 2) := by
  refine (dat7 V c).arrAt_eq_of_covers 7 _ (by decide +kernel) fun t hf y => ?_
  blk_simp
  rw [after7_7]
  unfold outsAt7
  dsimp only
  frame_out
  rw [emb7_7, in7_0, in7_1, in7_3, in7_5, ld_scalar1, ld_bias 1 (by decide)]
  exact k_out _ _ _ _ _ y

/-- The values. -/
theorem arr7_v (c : Dev nD) : (dat7 V c).arrAt 8 cfg7.N = fun y =>
    lin (qz (as1 (V c main_v60) (ix1 0)) (cur (V c main_v56_0))) (wAt (V c main_v11_0) 2) (bAt (V c main_v11_1) 2) (y 0) (y 1) (y 2) := by
  refine (dat7 V c).arrAt_eq_of_covers 8 _ (by decide +kernel) fun t hf y => ?_
  blk_simp
  rw [after7_8]
  unfold outsAt7
  dsimp only
  frame_out
  rw [emb7_8, in7_0, in7_1, in7_4, in7_5, ld_scalar1, ld_bias 2 (by decide)]
  exact v_out _ _ _ _ _ y

set_option maxHeartbeats 2000000 in
/-- Their largest magnitudes in each batch. -/
theorem arr7_pm (c : Dev nD) : (dat7 V c).arrAt 9 cfg7.N = fun y =>
    ![rowMax (scaled (lin (qz (as1 (V c main_v60) (ix1 0)) (cur (V c main_v56_0))) (wAt (V c main_v11_0) 0) (bAt (V c main_v11_1) 0))) (y 0),
      rowMax (lin (qz (as1 (V c main_v60) (ix1 0)) (cur (V c main_v56_0))) (wAt (V c main_v11_0) 1) (bAt (V c main_v11_1) 1)) (y 0),
      rowMax (lin (qz (as1 (V c main_v60) (ix1 0)) (cur (V c main_v56_0))) (wAt (V c main_v11_0) 2) (bAt (V c main_v11_1) 2)) (y 0)] (y 1) := by
  refine (dat7 V c).arrAt_eq_of_covers 9 _ (by decide +kernel) fun t hf y => ?_
  blk_simp
  rw [after7_9]
  unfold outsAt7
  dsimp only
  frame_out
  rw [emb7_9, in7_0, in7_1, in7_2, in7_3, in7_4, in7_5, ld_scalar1, ld_bias 0 (by decide), ld_bias 1 (by decide), ld_bias 2 (by decide)]
  exact pm_out _ _ _ _ _ _ _ _ _ y

end Cert.KernelIdeal.Gen

end
-- ==== Proof.Reg8.lean ====
/-
  The array `score_max` leaves.
-/
module

public import proofs.«01_k».proof.Proof.Gen.KernelIdeal.Frame.Region8
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx8_0 : ∀ t : Fin cfg8.N, win8_0.index t = ![0] := by decide +kernel

/-- The block window 1 takes at each grid point. -/
theorem idx8_1 : ∀ t : Fin cfg8.N, win8_1.index t = ![4 * (grid8.coords t 0).val + (grid8.coords t 1).val, 0, 0] := by decide +kernel

/-- The block window 2 takes at each grid point. -/
theorem idx8_2 : ∀ t : Fin cfg8.N, win8_2.index t = ![4 * (grid8.coords t 0).val + (grid8.coords t 1).val, 0, 0] := by decide +kernel

/-- The block window 3 takes at each grid point. -/
theorem idx8_3 : ∀ t : Fin cfg8.N, win8_3.index t = ![4 * (grid8.coords t 0).val + (grid8.coords t 1).val, 0, 0] := by decide +kernel

/-- What window 0 stages at a grid point. -/
theorem in8_0 (c : Dev nD) (t : Fin cfg8.N) : iblk8 V c 0 t = as2 (V c main_v79) := by
  funext i
  blk_ext! [iblk8, idx8_0 t, as2]

/-- What window 1 stages at a grid point. -/
theorem in8_1 (c : Dev nD) (t : Fin cfg8.N) : iblk8 V c 1 t = bAct (cur (V c main_v61_0)) (btc (grid8.coords t)) := by
  funext i
  blk_ext! [iblk8, idx8_1 t, bAct, cur, btc, bt]

/-- What window 2 stages at a grid point. -/
theorem in8_2 (c : Dev nD) (t : Fin cfg8.N) : iblk8 V c 2 t = bAct (cur (V c main_v61_1)) (btc (grid8.coords t)) := by
  funext i
  blk_ext! [iblk8, idx8_2 t, bAct, cur, btc, bt]

/-- Where window 3 writes back at a grid point. -/
theorem emb8_3 (t : Fin cfg8.N) (y : S1x1x128.Idx) :
    ((View.whole main_v80).slice (win8_3.rect t)).emb y = ix3 (btc (grid8.coords t)) (y 1) (y 2) := by
  ext a
  fin_cases a <;> blk_simp [idx8_3 t, btc, bt] <;> rfl

/-- The largest magnitude of the scores in each batch. -/
theorem arr8_m (c : Dev nD) : (dat8 V c).arrAt 3 cfg8.N = fun y =>
    ⨆ h : Fin 16, ⨆ p : Fin 512 × Fin 512,
      mag (scr (qz (as2 (V c main_v79) (ix1 0)) (cur (V c main_v61_0))) (qz (as2 (V c main_v79) (ix1 1)) (cur (V c main_v61_1))) (y 0) h p.1 p.2) := by
  refine (dat8 V c).arrAt_eq_of_covers 3 _ (by decide +kernel) fun t hf y => ?_
  blk_simp
  rw [after8_3]
  unfold outsAt8
  frame_out
  rw [emb8_3, in8_0, in8_1, in8_2, ld_scalar2 0 0 rfl, ld_scalar2 1 1 rfl]
  exact sm_out _ _ _ _ _ y

end Cert.KernelIdeal.Gen

end
-- ==== Proof.Reg9.lean ====
/-
  The arrays `prob_max` leaves.
-/
module

public import proofs.«01_k».proof.Proof.Gen.KernelIdeal.Frame.Region9
public import proofs.«01_k».proof.Proof.Block4

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx9_0 : ∀ t : Fin cfg9.N, win9_0.index t = ![0] := by decide +kernel

/-- The block window 1 takes at each grid point. -/
theorem idx9_1 : ∀ t : Fin cfg9.N, win9_1.index t = ![4 * (grid9.coords t 0).val + (grid9.coords t 1).val, 0, 0] := by decide +kernel

/-- The block window 2 takes at each grid point. -/
theorem idx9_2 : ∀ t : Fin cfg9.N, win9_2.index t = ![4 * (grid9.coords t 0).val + (grid9.coords t 1).val, 0, 0] := by decide +kernel

/-- The block window 3 takes at each grid point. -/
theorem idx9_3 : ∀ t : Fin cfg9.N, win9_3.index t = ![4 * (grid9.coords t 0).val + (grid9.coords t 1).val, 0, 0, 0] := by decide +kernel

/-- The block window 4 takes at each grid point. -/
theorem idx9_4 : ∀ t : Fin cfg9.N, win9_4.index t = ![4 * (grid9.coords t 0).val + (grid9.coords t 1).val, 0, 0, 0] := by decide +kernel

/-- The block window 5 takes at each grid point. -/
theorem idx9_5 : ∀ t : Fin cfg9.N, win9_5.index t = ![4 * (grid9.coords t 0).val + (grid9.coords t 1).val, 0, 0, 0] := by decide +kernel

/-- The block window 6 takes at each grid point. -/
theorem idx9_6 : ∀ t : Fin cfg9.N, win9_6.index t = ![4 * (grid9.coords t 0).val + (grid9.coords t 1).val, 0, 0, 0] := by decide +kernel

/-- The block window 7 takes at each grid point. -/
theorem idx9_7 : ∀ t : Fin cfg9.N, win9_7.index t = ![4 * (grid9.coords t 0).val + (grid9.coords t 1).val, 0, 0, 0] := by decide +kernel

/-- The block window 8 takes at each grid point. -/
theorem idx9_8 : ∀ t : Fin cfg9.N, win9_8.index t = ![4 * (grid9.coords t 0).val + (grid9.coords t 1).val, 0, 0] := by decide +kernel

/-- What window 0 stages at a grid point. -/
theorem in9_0 (c : Dev nD) (t : Fin cfg9.N) : iblk9 V c 0 t = as3 (V c main_v87) := by
  funext i
  blk_ext! [iblk9, idx9_0 t, as3]

/-- What window 1 stages at a grid point. -/
theorem in9_1 (c : Dev nD) (t : Fin cfg9.N) : iblk9 V c 1 t = bAct (cur (V c main_v61_0)) (btc (grid9.coords t)) := by
  funext i
  blk_ext! [iblk9, idx9_1 t, bAct, cur, btc, bt]

/-- What window 2 stages at a grid point. -/
theorem in9_2 (c : Dev nD) (t : Fin cfg9.N) : iblk9 V c 2 t = bAct (cur (V c main_v61_1)) (btc (grid9.coords t)) := by
  funext i
  blk_ext! [iblk9, idx9_2 t, bAct, cur, btc, bt]

/-- Where window 3 writes back at a grid point. -/
theorem emb9_3 (t : Fin cfg9.N) (y : S1x4x512x512.Idx) :
    ((View.whole main_v88_0).slice (win9_3.rect t)).emb y = ix4 (btc (grid9.coords t)) (y 1) (y 2) (y 3) := by
  ext a
  fin_cases a <;> blk_simp [idx9_3 t, btc, bt] <;> rfl

/-- Where window 4 writes back at a grid point. -/
theorem emb9_4 (t : Fin cfg9.N) (y : S1x4x512x512.Idx) :
    ((View.whole main_v88_1).slice (win9_4.rect t)).emb y = ix4 (btc (grid9.coords t)) (y 1) (y 2) (y 3) := by
  ext a
  fin_cases a <;> blk_simp [idx9_4 t, btc, bt] <;> rfl

/-- Where window 5 writes back at a grid point. -/
theorem emb9_5 (t : Fin cfg9.N) (y : S1x4x512x512.Idx) :
    ((View.whole main_v88_2).slice (win9_5.rect t)).emb y = ix4 (btc (grid9.coords t)) (y 1) (y 2) (y 3) := by
  ext a
  fin_cases a <;> blk_simp [idx9_5 t, btc, bt] <;> rfl

/-- Where window 6 writes back at a grid point. -/
theorem emb9_6 (t : Fin cfg9.N) (y : S1x4x512x512.Idx) :
    ((View.whole main_v88_3).slice (win9_6.rect t)).emb y = ix4 (btc (grid9.coords t)) (y 1) (y 2) (y 3) := by
  ext a
  fin_cases a <;> blk_simp [idx9_6 t, btc, bt] <;> rfl

/-- Where window 7 writes back at a grid point. -/
theorem emb9_7 (t : Fin cfg9.N) (y : S1x16x512x1.Idx) :
    ((View.whole main_v88_4).slice (win9_7.rect t)).emb y = ix4 (btc (grid9.coords t)) (y 1) (y 2) (y 3) := by
  ext a
  fin_cases a <;> blk_simp [idx9_7 t, btc, bt] <;> rfl

/-- Where window 8 writes back at a grid point. -/
theorem emb9_8 (t : Fin cfg9.N) (y : S1x1x128.Idx) :
    ((View.whole main_v88_5).slice (win9_8.rect t)).emb y = ix3 (btc (grid9.coords t)) (y 1) (y 2) := by
  ext a
  fin_cases a <;> blk_simp [idx9_8 t, btc, bt] <;> rfl

/-- The queries, quantised. -/
theorem q9_blk (A : Act) (b : Fin 8) (s : EReal) : k9_pay2 (F := Ideal) (bAct A b) s = bRow (qz s A) b := quant_blk A b s

/-- The keys, quantised. -/
theorem k9_blk (A : Act) (b : Fin 8) (s : EReal) : k9_pay3 (F := Ideal) (bAct A b) s = bRow (qz s A) b := quant_blk A b s

/-- The exponentials of heads 0 to 3. -/
theorem arr9_e0 (c : Dev nD) : (dat9 V c).arrAt 3 cfg9.N = fun y =>
    ex (qzS (as3 (V c main_v87) (ix1 2)) (scr (qz (as3 (V c main_v87) (ix1 0)) (cur (V c main_v61_0))) (qz (as3 (V c main_v87) (ix1 1)) (cur (V c main_v61_1))))) (y 0)
      (hq 0 (y 1)) (y 2) (y 3) := by
  refine (dat9 V c).arrAt_eq_of_covers 3 _ (by decide +kernel) fun t hf y => ?_
  blk_simp
  rw [after9_3]
  unfold outsAt9
  dsimp only
  frame_out
  rw [emb9_3, in9_0, in9_1, in9_2, ld_scalar3 0 0 rfl, ld_scalar3 1 1 rfl, ld_scalar3 2 2 rfl]
  generalize btc (grid9.coords t) = b
  generalize cur (V c main_v61_0) = A
  generalize cur (V c main_v61_1) = B
  generalize as3 (V c main_v87) = σ
  canon_tiles x h
  all_goals
    simp only [q9_blk, k9_blk, score_head, k9_pay4, k9_pay5, k9_pay6, k9_pay7, k9_pay8, k9_pay10, k9_pay11, k9_pay12, k9_pay13, k9_pay14, k9_pay15, k9_pay16, k9_pay17, k9_pay19, k9_pay20, k9_pay21, k9_pay22, k9_pay23, k9_pay25, k9_pay26, k9_pay27, k9_pay28, k9_pay29, k9_pay31, k9_pay32, k9_pay33, k9_pay34, k9_pay36, k9_pay37, k9_pay38, k9_pay39, k9_pay41, k9_pay42, k9_pay43, k9_pay44, k9_pay46, k9_pay47, k9_pay48, k9_pay49, k9_pay50, k9_pay52, k9_pay53, k9_pay54, k9_pay55, k9_pay57, k9_pay58, k9_pay59, k9_pay60, k9_pay61, k9_pay62, k9_pay63, k9_pay64, k9_pay66, k9_pay67, k9_pay68, k9_pay69, k9_pay70, k9_pay72, k9_pay73, k9_pay74, k9_pay75, k9_pay77, k9_pay78, k9_pay79, k9_pay80, k9_pay81, k9_pay82, k9_pay83, k9_pay84]
    refine (exp_piece _ _ _ _ x).trans (ex_at _ _ _ _ ?_ ?_ ?_)
    · show _ = 64 * (4 * 0 + (y 1).val)
      omega
    · show (x 2).val = (y 2).val
      omega
    · show (x 3).val = (y 3).val
      omega

/-- The exponentials of heads 4 to 7. -/
theorem arr9_e1 (c : Dev nD) : (dat9 V c).arrAt 4 cfg9.N = fun y =>
    ex (qzS (as3 (V c main_v87) (ix1 2)) (scr (qz (as3 (V c main_v87) (ix1 0)) (cur (V c main_v61_0))) (qz (as3 (V c main_v87) (ix1 1)) (cur (V c main_v61_1))))) (y 0)
      (hq 1 (y 1)) (y 2) (y 3) := by
  refine (dat9 V c).arrAt_eq_of_covers 4 _ (by decide +kernel) fun t hf y => ?_
  blk_simp
  rw [after9_4]
  unfold outsAt9
  dsimp only
  frame_out
  rw [emb9_4, in9_0, in9_1, in9_2, ld_scalar3 0 0 rfl, ld_scalar3 1 1 rfl, ld_scalar3 2 2 rfl]
  generalize btc (grid9.coords t) = b
  generalize cur (V c main_v61_0) = A
  generalize cur (V c main_v61_1) = B
  generalize as3 (V c main_v87) = σ
  canon_tiles x h
  all_goals
    simp only [q9_blk, k9_blk, score_head, k9_pay4, k9_pay5, k9_pay6, k9_pay7, k9_pay8, k9_pay10, k9_pay11, k9_pay12, k9_pay13, k9_pay14, k9_pay15, k9_pay16, k9_pay17, k9_pay19, k9_pay20, k9_pay21, k9_pay22, k9_pay23, k9_pay25, k9_pay26, k9_pay27, k9_pay28, k9_pay29, k9_pay31, k9_pay32, k9_pay33, k9_pay34, k9_pay36, k9_pay37, k9_pay38, k9_pay39, k9_pay41, k9_pay42, k9_pay43, k9_pay44, k9_pay46, k9_pay47, k9_pay48, k9_pay49, k9_pay50, k9_pay52, k9_pay53, k9_pay54, k9_pay55, k9_pay57, k9_pay58, k9_pay59, k9_pay60, k9_pay61, k9_pay62, k9_pay63, k9_pay64, k9_pay66, k9_pay67, k9_pay68, k9_pay69, k9_pay70, k9_pay72, k9_pay73, k9_pay74, k9_pay75, k9_pay77, k9_pay78, k9_pay79, k9_pay80, k9_pay81, k9_pay82, k9_pay83, k9_pay84]
    refine (exp_piece _ _ _ _ x).trans (ex_at _ _ _ _ ?_ ?_ ?_)
    · show _ = 64 * (4 * 1 + (y 1).val)
      omega
    · show (x 2).val = (y 2).val
      omega
    · show (x 3).val = (y 3).val
      omega

/-- The exponentials of heads 8 to 11. -/
theorem arr9_e2 (c : Dev nD) : (dat9 V c).arrAt 5 cfg9.N = fun y =>
    ex (qzS (as3 (V c main_v87) (ix1 2)) (scr (qz (as3 (V c main_v87) (ix1 0)) (cur (V c main_v61_0))) (qz (as3 (V c main_v87) (ix1 1)) (cur (V c main_v61_1))))) (y 0)
      (hq 2 (y 1)) (y 2) (y 3) := by
  refine (dat9 V c).arrAt_eq_of_covers 5 _ (by decide +kernel) fun t hf y => ?_
  blk_simp
  rw [after9_5]
  unfold outsAt9
  dsimp only
  frame_out
  rw [emb9_5, in9_0, in9_1, in9_2, ld_scalar3 0 0 rfl, ld_scalar3 1 1 rfl, ld_scalar3 2 2 rfl]
  generalize btc (grid9.coords t) = b
  generalize cur (V c main_v61_0) = A
  generalize cur (V c main_v61_1) = B
  generalize as3 (V c main_v87) = σ
  canon_tiles x h
  all_goals
    simp only [q9_blk, k9_blk, score_head, k9_pay4, k9_pay5, k9_pay6, k9_pay7, k9_pay8, k9_pay10, k9_pay11, k9_pay12, k9_pay13, k9_pay14, k9_pay15, k9_pay16, k9_pay17, k9_pay19, k9_pay20, k9_pay21, k9_pay22, k9_pay23, k9_pay25, k9_pay26, k9_pay27, k9_pay28, k9_pay29, k9_pay31, k9_pay32, k9_pay33, k9_pay34, k9_pay36, k9_pay37, k9_pay38, k9_pay39, k9_pay41, k9_pay42, k9_pay43, k9_pay44, k9_pay46, k9_pay47, k9_pay48, k9_pay49, k9_pay50, k9_pay52, k9_pay53, k9_pay54, k9_pay55, k9_pay57, k9_pay58, k9_pay59, k9_pay60, k9_pay61, k9_pay62, k9_pay63, k9_pay64, k9_pay66, k9_pay67, k9_pay68, k9_pay69, k9_pay70, k9_pay72, k9_pay73, k9_pay74, k9_pay75, k9_pay77, k9_pay78, k9_pay79, k9_pay80, k9_pay81, k9_pay82, k9_pay83, k9_pay84]
    refine (exp_piece _ _ _ _ x).trans (ex_at _ _ _ _ ?_ ?_ ?_)
    · show _ = 64 * (4 * 2 + (y 1).val)
      omega
    · show (x 2).val = (y 2).val
      omega
    · show (x 3).val = (y 3).val
      omega

/-- The exponentials of heads 12 to 15. -/
theorem arr9_e3 (c : Dev nD) : (dat9 V c).arrAt 6 cfg9.N = fun y =>
    ex (qzS (as3 (V c main_v87) (ix1 2)) (scr (qz (as3 (V c main_v87) (ix1 0)) (cur (V c main_v61_0))) (qz (as3 (V c main_v87) (ix1 1)) (cur (V c main_v61_1))))) (y 0)
      (hq 3 (y 1)) (y 2) (y 3) := by
  refine (dat9 V c).arrAt_eq_of_covers 6 _ (by decide +kernel) fun t hf y => ?_
  blk_simp
  rw [after9_6]
  unfold outsAt9
  dsimp only
  frame_out
  rw [emb9_6, in9_0, in9_1, in9_2, ld_scalar3 0 0 rfl, ld_scalar3 1 1 rfl, ld_scalar3 2 2 rfl]
  generalize btc (grid9.coords t) = b
  generalize cur (V c main_v61_0) = A
  generalize cur (V c main_v61_1) = B
  generalize as3 (V c main_v87) = σ
  canon_tiles x h
  all_goals
    simp only [q9_blk, k9_blk, score_head, k9_pay4, k9_pay5, k9_pay6, k9_pay7, k9_pay8, k9_pay10, k9_pay11, k9_pay12, k9_pay13, k9_pay14, k9_pay15, k9_pay16, k9_pay17, k9_pay19, k9_pay20, k9_pay21, k9_pay22, k9_pay23, k9_pay25, k9_pay26, k9_pay27, k9_pay28, k9_pay29, k9_pay31, k9_pay32, k9_pay33, k9_pay34, k9_pay36, k9_pay37, k9_pay38, k9_pay39, k9_pay41, k9_pay42, k9_pay43, k9_pay44, k9_pay46, k9_pay47, k9_pay48, k9_pay49, k9_pay50, k9_pay52, k9_pay53, k9_pay54, k9_pay55, k9_pay57, k9_pay58, k9_pay59, k9_pay60, k9_pay61, k9_pay62, k9_pay63, k9_pay64, k9_pay66, k9_pay67, k9_pay68, k9_pay69, k9_pay70, k9_pay72, k9_pay73, k9_pay74, k9_pay75, k9_pay77, k9_pay78, k9_pay79, k9_pay80, k9_pay81, k9_pay82, k9_pay83, k9_pay84]
    refine (exp_piece _ _ _ _ x).trans (ex_at _ _ _ _ ?_ ?_ ?_)
    · show _ = 64 * (4 * 3 + (y 1).val)
      omega
    · show (x 2).val = (y 2).val
      omega
    · show (x 3).val = (y 3).val
      omega

/-- The row sums. -/
theorem arr9_z (c : Dev nD) : (dat9 V c).arrAt 7 cfg9.N = fun y =>
    zs (ex (qzS (as3 (V c main_v87) (ix1 2)) (scr (qz (as3 (V c main_v87) (ix1 0)) (cur (V c main_v61_0))) (qz (as3 (V c main_v87) (ix1 1)) (cur (V c main_v61_1)))))) (y 0) (y 1) (y 2) := by
  refine (dat9 V c).arrAt_eq_of_covers 7 _ (by decide +kernel) fun t hf y => ?_
  blk_simp
  rw [after9_7]
  unfold outsAt9
  dsimp only
  frame_out
  rw [emb9_7, in9_0, in9_1, in9_2, ld_scalar3 0 0 rfl, ld_scalar3 1 1 rfl, ld_scalar3 2 2 rfl]
  generalize btc (grid9.coords t) = b
  generalize cur (V c main_v61_0) = A
  generalize cur (V c main_v61_1) = B
  generalize as3 (V c main_v87) = σ
  canon_tiles x h
  all_goals
    simp only [q9_blk, k9_blk, score_head, k9_pay4, k9_pay5, k9_pay6, k9_pay7, k9_pay8, k9_pay10, k9_pay11, k9_pay12, k9_pay13, k9_pay14, k9_pay15, k9_pay16, k9_pay17, k9_pay19, k9_pay20, k9_pay21, k9_pay22, k9_pay23, k9_pay25, k9_pay26, k9_pay27, k9_pay28, k9_pay29, k9_pay31, k9_pay32, k9_pay33, k9_pay34, k9_pay36, k9_pay37, k9_pay38, k9_pay39, k9_pay41, k9_pay42, k9_pay43, k9_pay44, k9_pay46, k9_pay47, k9_pay48, k9_pay49, k9_pay50, k9_pay52, k9_pay53, k9_pay54, k9_pay55, k9_pay57, k9_pay58, k9_pay59, k9_pay60, k9_pay61, k9_pay62, k9_pay63, k9_pay64, k9_pay66, k9_pay67, k9_pay68, k9_pay69, k9_pay70, k9_pay72, k9_pay73, k9_pay74, k9_pay75, k9_pay77, k9_pay78, k9_pay79, k9_pay80, k9_pay81, k9_pay82, k9_pay83, k9_pay84]
    refine (sum_piece _ _ _ _ x).trans (zs_at _ _ _ _ ?_ ?_)
    · show _ = 64 * (y 1).val
      omega
    · show (x 2).val = (y 2).val
      omega

/-- The reciprocal of the smallest row sum. -/
theorem arr9_m (c : Dev nD) : (dat9 V c).arrAt 8 cfg9.N = fun y =>
    Ideal.div 1 (⨅ h : Fin 16, ⨅ i, zs (ex (qzS (as3 (V c main_v87) (ix1 2)) (scr (qz (as3 (V c main_v87) (ix1 0)) (cur (V c main_v61_0))) (qz (as3 (V c main_v87) (ix1 1)) (cur (V c main_v61_1)))))) (y 0) h i) := by
  refine (dat9 V c).arrAt_eq_of_covers 8 _ (by decide +kernel) fun t hf y => ?_
  blk_simp
  rw [after9_8]
  unfold outsAt9
  dsimp only
  frame_out
  rw [emb9_8, in9_0, in9_1, in9_2, ld_scalar3 0 0 rfl, ld_scalar3 1 1 rfl, ld_scalar3 2 2 rfl]
  generalize btc (grid9.coords t) = b
  generalize cur (V c main_v61_0) = A
  generalize cur (V c main_v61_1) = B
  generalize as3 (V c main_v87) = σ
  simp only [k9_pay4, q9_blk, k9_blk]
  have e := fun o => exp_head o (bRow (qz (σ (ix1 0)) A) b) (bRow (qz (σ (ix1 1)) B) b) (σ (ix1 2))
  simp only [k4_pay67] at e
  simp only [k9_pay1, k9_pay4, k9_pay5, k9_pay6, k9_pay7, k9_pay8, k9_pay9, k9_pay10, k9_pay11, k9_pay12, k9_pay13, k9_pay14, k9_pay15, k9_pay16, k9_pay17, k9_pay18, k9_pay19, k9_pay20, k9_pay21, k9_pay22, k9_pay23, k9_pay24, k9_pay25, k9_pay26, k9_pay27, k9_pay28, k9_pay29, k9_pay30, k9_pay31, k9_pay32, k9_pay33, k9_pay34, k9_pay35, k9_pay36, k9_pay37, k9_pay38, k9_pay39, k9_pay40, k9_pay41, k9_pay42, k9_pay43, k9_pay44, k9_pay45, k9_pay46, k9_pay47, k9_pay48, k9_pay49, k9_pay50, k9_pay51, k9_pay52, k9_pay53, k9_pay54, k9_pay55, k9_pay56, k9_pay57, k9_pay58, k9_pay59, k9_pay60, k9_pay61, k9_pay62, k9_pay63, k9_pay64, k9_pay65, k9_pay66, k9_pay67, k9_pay68, k9_pay69, k9_pay70, k9_pay71, k9_pay72, k9_pay73, k9_pay74, k9_pay75, k9_pay76, k9_pay77, k9_pay78, k9_pay79, k9_pay80, k9_pay81, k9_pay82, k9_pay83, k9_pay84, k9_pay85, score_head, e]
  pointwise []
  simp only [fold_min]
  rw [pos_inf]
  exact min_heads (qz (σ (ix1 0)) A) (qz (σ (ix1 1)) B) b (σ (ix1 2))

end Cert.KernelIdeal.Gen

end
-- ==== Proof.Reg10.lean ====
/-
  The arrays `attn_out` leaves.
-/
module

public import proofs.«01_k».proof.Proof.Gen.KernelIdeal.Frame.Region10
public import proofs.«01_k».proof.Proof.Block5

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx10_0 : ∀ t : Fin cfg10.N, win10_0.index t = ![0] := by decide +kernel

/-- The block window 1 takes at each grid point. -/
theorem idx10_1 : ∀ t : Fin cfg10.N, win10_1.index t = ![4 * (grid10.coords t 0).val + (grid10.coords t 1).val, 0, 0, 0] := by decide +kernel

/-- The block window 2 takes at each grid point. -/
theorem idx10_2 : ∀ t : Fin cfg10.N, win10_2.index t = ![4 * (grid10.coords t 0).val + (grid10.coords t 1).val, 0, 0, 0] := by decide +kernel

/-- The block window 3 takes at each grid point. -/
theorem idx10_3 : ∀ t : Fin cfg10.N, win10_3.index t = ![4 * (grid10.coords t 0).val + (grid10.coords t 1).val, 0, 0, 0] := by decide +kernel

/-- The block window 4 takes at each grid point. -/
theorem idx10_4 : ∀ t : Fin cfg10.N, win10_4.index t = ![4 * (grid10.coords t 0).val + (grid10.coords t 1).val, 0, 0, 0] := by decide +kernel

/-- The block window 5 takes at each grid point. -/
theorem idx10_5 : ∀ t : Fin cfg10.N, win10_5.index t = ![4 * (grid10.coords t 0).val + (grid10.coords t 1).val, 0, 0, 0] := by decide +kernel

/-- The block window 6 takes at each grid point. -/
theorem idx10_6 : ∀ t : Fin cfg10.N, win10_6.index t = ![4 * (grid10.coords t 0).val + (grid10.coords t 1).val, 0, 0] := by decide +kernel

/-- The block window 7 takes at each grid point. -/
theorem idx10_7 : ∀ t : Fin cfg10.N, win10_7.index t = ![4 * (grid10.coords t 0).val + (grid10.coords t 1).val, 0, 0] := by decide +kernel

/-- The block window 8 takes at each grid point. -/
theorem idx10_8 : ∀ t : Fin cfg10.N, win10_8.index t = ![4 * (grid10.coords t 0).val + (grid10.coords t 1).val, 0, 0] := by decide +kernel

/-- What window 0 stages at a grid point. -/
theorem in10_0 (c : Dev nD) (t : Fin cfg10.N) : iblk10 V c 0 t = as2 (V c main_v94) := by
  funext i
  blk_ext! [iblk10, idx10_0 t, as2]

/-- What window 1 stages at a grid point. -/
theorem in10_1 (c : Dev nD) (t : Fin cfg10.N) : iblk10 V c 1 t = bExp (curE (V c main_v88_0)) (btc (grid10.coords t)) := by
  funext i
  blk_ext! [iblk10, idx10_1 t, bExp, curE, btc, bt]

/-- What window 2 stages at a grid point. -/
theorem in10_2 (c : Dev nD) (t : Fin cfg10.N) : iblk10 V c 2 t = bExp (curE (V c main_v88_1)) (btc (grid10.coords t)) := by
  funext i
  blk_ext! [iblk10, idx10_2 t, bExp, curE, btc, bt]

/-- What window 3 stages at a grid point. -/
theorem in10_3 (c : Dev nD) (t : Fin cfg10.N) : iblk10 V c 3 t = bExp (curE (V c main_v88_2)) (btc (grid10.coords t)) := by
  funext i
  blk_ext! [iblk10, idx10_3 t, bExp, curE, btc, bt]

/-- What window 4 stages at a grid point. -/
theorem in10_4 (c : Dev nD) (t : Fin cfg10.N) : iblk10 V c 4 t = bExp (curE (V c main_v88_3)) (btc (grid10.coords t)) := by
  funext i
  blk_ext! [iblk10, idx10_4 t, bExp, curE, btc, bt]

/-- What window 5 stages at a grid point. -/
theorem in10_5 (c : Dev nD) (t : Fin cfg10.N) : iblk10 V c 5 t = bSum (curZ (V c main_v88_4)) (btc (grid10.coords t)) := by
  funext i
  blk_ext! [iblk10, idx10_5 t, bSum, curZ, btc, bt]

/-- What window 6 stages at a grid point. -/
theorem in10_6 (c : Dev nD) (t : Fin cfg10.N) : iblk10 V c 6 t = bAct (cur (V c main_v61_2)) (btc (grid10.coords t)) := by
  funext i
  blk_ext! [iblk10, idx10_6 t, bAct, cur, btc, bt]

/-- Where window 7 writes back at a grid point. -/
theorem emb10_7 (t : Fin cfg10.N) (y : S1x512x1024.Idx) :
    ((View.whole main_v95_0).slice (win10_7.rect t)).emb y = ix3 (btc (grid10.coords t)) (y 1) (y 2) := by
  ext a
  fin_cases a <;> blk_simp [idx10_7 t, btc, bt] <;> rfl

/-- Where window 8 writes back at a grid point. -/
theorem emb10_8 (t : Fin cfg10.N) (y : S1x1x128.Idx) :
    ((View.whole main_v95_1).slice (win10_8.rect t)).emb y = ix3 (btc (grid10.coords t)) (y 1) (y 2) := by
  ext a
  fin_cases a <;> blk_simp [idx10_8 t, btc, bt] <;> rfl

/-- The values, quantised. -/
theorem v10_blk (A : Act) (b : Fin 8) (s : EReal) : k10_pay4 (F := Ideal) (bAct A b) s = bRow (qz s A) b := quant_blk A b s

set_option maxHeartbeats 4000000 in
/-- The heads' outcomes side by side. -/
theorem arr10_o (c : Dev nD) : (dat10 V c).arrAt 7 cfg10.N = fun y =>
    att (qzS (as2 (V c main_v94) (ix1 1)) (divS (join4 (curE (V c main_v88_0)) (curE (V c main_v88_1)) (curE (V c main_v88_2)) (curE (V c main_v88_3))) (curZ (V c main_v88_4)))) (qz (as2 (V c main_v94) (ix1 0)) (cur (V c main_v61_2))) (y 0) (y 1) (y 2) := by
  refine (dat10 V c).arrAt_eq_of_covers 7 _ (by decide +kernel) fun t hf y => ?_
  blk_simp
  rw [after10_7]
  unfold outsAt10
  dsimp only
  frame_out
  rw [emb10_7, in10_0, in10_1, in10_2, in10_3, in10_4, in10_5, in10_6, ld_scalar2 0 0 rfl, ld_scalar2 1 1 rfl]
  generalize curE (V c main_v88_0) = E0
  generalize curE (V c main_v88_1) = E1
  generalize curE (V c main_v88_2) = E2
  generalize curE (V c main_v88_3) = E3
  generalize curZ (V c main_v88_4) = Z
  generalize cur (V c main_v61_2) = A
  generalize as2 (V c main_v94) = σ
  generalize btc (grid10.coords t) = b
  canon_tiles x h
  all_goals
    simp only [ld_exp, ld_sum, v10_blk, prob_head, att_head, k10_pay1, k10_pay2, k10_pay3, k10_pay5, k10_pay6, k10_pay7, k10_pay8, k10_pay9, k10_pay10, k10_pay11, k10_pay12, k10_pay13, k10_pay14, k10_pay15, k10_pay16, k10_pay17, k10_pay18, k10_pay19, k10_pay20, k10_pay21, k10_pay22, k10_pay23, k10_pay24, k10_pay25, k10_pay26, k10_pay27, k10_pay28, k10_pay29, k10_pay30, k10_pay31, k10_pay32, k10_pay33, k10_pay34, k10_pay35, k10_pay36, k10_pay37, k10_pay38, k10_pay39, k10_pay40, k10_pay41, k10_pay42, k10_pay43, k10_pay44, k10_pay45, k10_pay46, k10_pay47, k10_pay48, k10_pay49, k10_pay50, k10_pay51, k10_pay52, k10_pay53, k10_pay54, k10_pay55, k10_pay56, k10_pay57, k10_pay58]
    refine att_put (join4 E0 E1 E2 E3) Z (qz (σ (ix1 0)) A) b (σ (ix1 1)) _ _ _ x _ _ rfl rfl ?_ ?_
    · show (x 1).val = (y 1).val
      omega
    · show (y 2).val = _ + (x 2).val
      omega

set_option maxHeartbeats 4000000 in
/-- Their largest magnitude in each batch. -/
theorem arr10_m (c : Dev nD) : (dat10 V c).arrAt 8 cfg10.N = fun y =>
    rowMax (att (qzS (as2 (V c main_v94) (ix1 1)) (divS (join4 (curE (V c main_v88_0)) (curE (V c main_v88_1)) (curE (V c main_v88_2)) (curE (V c main_v88_3))) (curZ (V c main_v88_4)))) (qz (as2 (V c main_v94) (ix1 0)) (cur (V c main_v61_2)))) (y 0) := by
  refine (dat10 V c).arrAt_eq_of_covers 8 _ (by decide +kernel) fun t hf y => ?_
  blk_simp
  rw [after10_8]
  unfold outsAt10
  dsimp only
  frame_out
  rw [emb10_8, in10_0, in10_1, in10_2, in10_3, in10_4, in10_5, in10_6, ld_scalar2 0 0 rfl, ld_scalar2 1 1 rfl]
  generalize curE (V c main_v88_0) = E0
  generalize curE (V c main_v88_1) = E1
  generalize curE (V c main_v88_2) = E2
  generalize curE (V c main_v88_3) = E3
  generalize curZ (V c main_v88_4) = Z
  generalize cur (V c main_v61_2) = A
  generalize as2 (V c main_v94) = σ
  generalize btc (grid10.coords t) = b
  simp only [ld_exp, ld_sum, v10_blk, prob_head, att_head, k10_pay1, k10_pay2, k10_pay3, k10_pay5, k10_pay6, k10_pay7, k10_pay8, k10_pay9, k10_pay10, k10_pay11, k10_pay12, k10_pay13, k10_pay14, k10_pay15, k10_pay16, k10_pay17, k10_pay18, k10_pay19, k10_pay20, k10_pay21, k10_pay22, k10_pay23, k10_pay24, k10_pay25, k10_pay26, k10_pay27, k10_pay28, k10_pay29, k10_pay30, k10_pay31, k10_pay32, k10_pay33, k10_pay34, k10_pay35, k10_pay36, k10_pay37, k10_pay38, k10_pay39, k10_pay40, k10_pay41, k10_pay42, k10_pay43, k10_pay44, k10_pay45, k10_pay46, k10_pay47, k10_pay48, k10_pay49, k10_pay50, k10_pay51, k10_pay52, k10_pay53, k10_pay54, k10_pay55, k10_pay56, k10_pay57, k10_pay58]
  pointwise []
  simp only [fold_max, absf_mag]
  refine Eq.trans ?_ (att_run (join4 E0 E1 E2 E3) Z (qz (σ (ix1 0)) A) b (σ (ix1 1)))
  simp only [run16]
  rfl

end Cert.KernelIdeal.Gen

end
-- ==== Proof.Reg11.lean ====
/-
  The arrays `out_proj` leaves.
-/
module

public import proofs.«01_k».proof.Proof.Gen.KernelIdeal.Frame.Region11
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx11_0 : ∀ t : Fin cfg11.N, win11_0.index t = ![0] := by decide +kernel

/-- The block window 1 takes at each grid point. -/
theorem idx11_1 : ∀ t : Fin cfg11.N, win11_1.index t = ![4 * (grid11.coords t 0).val + (grid11.coords t 1).val, 0, 0] := by decide +kernel

/-- The block window 2 takes at each grid point. -/
theorem idx11_2 : ∀ t : Fin cfg11.N, win11_2.index t = ![3, 0, 0] := by decide +kernel

/-- The block window 3 takes at each grid point. -/
theorem idx11_3 : ∀ t : Fin cfg11.N, win11_3.index t = ![0, 0, 0] := by decide +kernel

/-- The block window 4 takes at each grid point. -/
theorem idx11_4 : ∀ t : Fin cfg11.N, win11_4.index t = ![4 * (grid11.coords t 0).val + (grid11.coords t 1).val, 0, 0] := by decide +kernel

/-- The block window 5 takes at each grid point. -/
theorem idx11_5 : ∀ t : Fin cfg11.N, win11_5.index t = ![4 * (grid11.coords t 0).val + (grid11.coords t 1).val, 0, 0] := by decide +kernel

/-- What window 0 stages at a grid point. -/
theorem in11_0 (c : Dev nD) (t : Fin cfg11.N) : iblk11 V c 0 t = as1 (V c main_v99) := by
  funext i
  blk_ext! [iblk11, idx11_0 t, as1]

/-- What window 1 stages at a grid point. -/
theorem in11_1 (c : Dev nD) (t : Fin cfg11.N) : iblk11 V c 1 t = bAct (cur (V c main_v95_0)) (btc (grid11.coords t)) := by
  funext i
  blk_ext! [iblk11, idx11_1 t, bAct, cur, btc, bt]

/-- What window 2 stages at a grid point. -/
theorem in11_2 (c : Dev nD) (t : Fin cfg11.N) : iblk11 V c 2 t = bWgt (wAt (V c main_v11_0) 3) := by
  funext i
  blk_ext! [iblk11, idx11_2 t, bWgt, wAt]

/-- What window 3 stages at a grid point. -/
theorem in11_3 (c : Dev nD) (t : Fin cfg11.N) : iblk11 V c 3 t = V c main_v11_1 := by
  funext i
  blk_ext! [iblk11, idx11_3 t]

/-- Where window 4 writes back at a grid point. -/
theorem emb11_4 (t : Fin cfg11.N) (y : S1x512x1024.Idx) :
    ((View.whole main_v100_0).slice (win11_4.rect t)).emb y = ix3 (btc (grid11.coords t)) (y 1) (y 2) := by
  ext a
  fin_cases a <;> blk_simp [idx11_4 t, btc, bt] <;> rfl

/-- Where window 5 writes back at a grid point. -/
theorem emb11_5 (t : Fin cfg11.N) (y : S1x1x128.Idx) :
    ((View.whole main_v100_1).slice (win11_5.rect t)).emb y = ix3 (btc (grid11.coords t)) (y 1) (y 2) := by
  ext a
  fin_cases a <;> blk_simp [idx11_5 t, btc, bt] <;> rfl

/-- The projection. -/
theorem arr11_o (c : Dev nD) : (dat11 V c).arrAt 4 cfg11.N = fun y =>
    lin (qz (as1 (V c main_v99) (ix1 0)) (cur (V c main_v95_0))) (wAt (V c main_v11_0) 3) (bAt (V c main_v11_1) 3) (y 0) (y 1) (y 2) := by
  refine (dat11 V c).arrAt_eq_of_covers 4 _ (by decide +kernel) fun t hf y => ?_
  blk_simp
  rw [after11_4]
  unfold outsAt11
  dsimp only
  frame_out
  rw [emb11_4, in11_0, in11_1, in11_2, in11_3, ld_scalar1, ld_bias 3 (by decide)]
  exact o_out _ _ _ _ _ y

/-- Its largest magnitude in each batch. -/
theorem arr11_m (c : Dev nD) : (dat11 V c).arrAt 5 cfg11.N = fun y =>
    rowMax (lin (qz (as1 (V c main_v99) (ix1 0)) (cur (V c main_v95_0))) (wAt (V c main_v11_0) 3) (bAt (V c main_v11_1) 3)) (y 0) := by
  refine (dat11 V c).arrAt_eq_of_covers 5 _ (by decide +kernel) fun t hf y => ?_
  blk_simp
  rw [after11_5]
  unfold outsAt11
  dsimp only
  frame_out
  rw [emb11_5, in11_0, in11_1, in11_2, in11_3, ld_scalar1, ld_bias 3 (by decide)]
  exact om_out _ _ _ _ _ y

end Cert.KernelIdeal.Gen

end
-- ==== Proof.Layer2.lean ====
/-
  Layer 2: what its arrays hold, from its input.
-/
module

public import proofs.«01_k».proof.Proof.Gen.KernelIdeal.Frame.Fold0
public import proofs.«01_k».proof.Proof.Hosts
public import proofs.«01_k».proof.Proof.KLayer
public import proofs.«01_k».proof.Proof.Reg7
public import proofs.«01_k».proof.Proof.Reg8
public import proofs.«01_k».proof.Proof.Reg9
public import proofs.«01_k».proof.Proof.Reg10
public import proofs.«01_k».proof.Proof.Reg11

@[expose] public section

set_option maxRecDepth 16384

noncomputable section

namespace Cert.KernelIdeal.Gen

open Idealize.ShloMosaic Idealize.ShloMosaic.TcCoe Cert.Attn

variable (m : (ℓ : Loc nD τ sig) → Buf (Elt Ideal) ℓ) (ρ : Dev nD → PrngReg)

/-- The queries. -/
theorem layer2_q (c : Dev nD) (x : Act) (s : EReal) (w : Fin 4 → Wgt) (β : Fin 4 → Bia)
    (hx : cur (V14 m ρ c main_v56_0) = x) (hs : as1 (V14 m ρ c main_v60) (ix1 0) = s)
    (hw : ∀ n, wAt (V14 m ρ c main_v11_0) n = w n) (hb : ∀ n, bAt (V14 m ρ c main_v11_1) n = β n) :
    cur (W15 m ρ c main_v61_0) = scaled (lin (qz s x) (w 0) (β 0)) := by
  have e : W15 m ρ c main_v61_0 = _ := (W15_arr m ρ c 6).trans (arr7_q (V14 m ρ) c)
  rw [hs, hx, hw, hb] at e
  exact congrArg cur e

/-- The keys. -/
theorem layer2_k (c : Dev nD) (x : Act) (s : EReal) (w : Fin 4 → Wgt) (β : Fin 4 → Bia)
    (hx : cur (V14 m ρ c main_v56_0) = x) (hs : as1 (V14 m ρ c main_v60) (ix1 0) = s)
    (hw : ∀ n, wAt (V14 m ρ c main_v11_0) n = w n) (hb : ∀ n, bAt (V14 m ρ c main_v11_1) n = β n) :
    cur (W15 m ρ c main_v61_1) = lin (qz s x) (w 1) (β 1) := by
  have e : W15 m ρ c main_v61_1 = _ := (W15_arr m ρ c 7).trans (arr7_k (V14 m ρ) c)
  rw [hs, hx, hw, hb] at e
  exact congrArg cur e

/-- The values. -/
theorem layer2_v (c : Dev nD) (x : Act) (s : EReal) (w : Fin 4 → Wgt) (β : Fin 4 → Bia)
    (hx : cur (V14 m ρ c main_v56_0) = x) (hs : as1 (V14 m ρ c main_v60) (ix1 0) = s)
    (hw : ∀ n, wAt (V14 m ρ c main_v11_0) n = w n) (hb : ∀ n, bAt (V14 m ρ c main_v11_1) n = β n) :
    cur (W15 m ρ c main_v61_2) = lin (qz s x) (w 2) (β 2) := by
  have e : W15 m ρ c main_v61_2 = _ := (W15_arr m ρ c 8).trans (arr7_v (V14 m ρ) c)
  rw [hs, hx, hw, hb] at e
  exact congrArg cur e

/-- The largest magnitudes of queries, keys and values, batch by batch. -/
theorem layer2_pm (c : Dev nD) (x : Act) (s : EReal) (w : Fin 4 → Wgt) (β : Fin 4 → Bia)
    (hx : cur (V14 m ρ c main_v56_0) = x) (hs : as1 (V14 m ρ c main_v60) (ix1 0) = s)
    (hw : ∀ n, wAt (V14 m ρ c main_v11_0) n = w n) (hb : ∀ n, bAt (V14 m ρ c main_v11_1) n = β n) :
    W15 m ρ c main_v61_3 = fun y : S8x3x128.Idx => (![rowMax (scaled (lin (qz s x) (w 0) (β 0))), rowMax (lin (qz s x) (w 1) (β 1)), rowMax (lin (qz s x) (w 2) (β 2))] : Fin 3 → Fin 8 → EReal) (y 1) (y 0) := by
  have e : W15 m ρ c main_v61_3 = _ := (W15_arr m ρ c 9).trans (arr7_pm (V14 m ρ) c)
  rw [hs, hx, hw, hw, hw, hb, hb, hb] at e
  exact e.trans (rows_eq _ _ _)

section Scores

variable (c : Dev nD) (Q K V : Act) (hq : cur (W15 m ρ c main_v61_0) = Q) (hk : cur (W15 m ρ c main_v61_1) = K) (hv : cur (W15 m ρ c main_v61_2) = V)
    (hp : W15 m ρ c main_v61_3 = fun y : S8x3x128.Idx => (![rowMax Q, rowMax K, rowMax V] : Fin 3 → Fin 8 → EReal) (y 1) (y 0))
include hp

/-- The scales of the queries, the keys and the values. -/
theorem layer2_sq : W16 m ρ c main_v66 = fun _ => scl (amax Q) :=
  (host8_0 (W15 m ρ c) _ hp).trans (congrArg (fun r => fun _ => scl r) (sup_rowMax Q))

/-- The scale of the keys. -/
theorem layer2_sk : W16 m ρ c main_v71 = fun _ => scl (amax K) :=
  (host8_1 (W15 m ρ c) _ hp).trans (congrArg (fun r => fun _ => scl r) (sup_rowMax K))

/-- The scale of the values. -/
theorem layer2_sv : W16 m ρ c main_v76 = fun _ => scl (amax V) :=
  (host8_2 (W15 m ρ c) _ hp).trans (congrArg (fun r => fun _ => scl r) (sup_rowMax V))

include hq hk

/-- The largest score in each batch. -/
theorem layer2_sm : W17 m ρ c main_v80 = fun y : S8x1x128.Idx => (⨆ h : Fin 16, ⨆ p : Fin 512 × Fin 512, mag (scr (fq Q) (fq K) (y 0) h p.1 p.2)) := by
  have e : W17 m ρ c main_v80 = _ := (W17_arr m ρ c 3).trans (arr8_m (V16 m ρ) c)
  have h0 : as2 (V16 m ρ c main_v79) (ix1 0) = scl (amax Q) := (host8_c0 (W15 m ρ c) _ hp).trans (congrArg scl (sup_rowMax Q))
  have h1 : as2 (V16 m ρ c main_v79) (ix1 1) = scl (amax K) := (host8_c1 (W15 m ρ c) _ hp).trans (congrArg scl (sup_rowMax K))
  have eq : cur (V16 m ρ c main_v61_0) = Q := (congrArg cur (W16_of m ρ c main_v61_0 (by decide))).trans hq
  have ek : cur (V16 m ρ c main_v61_1) = K := (congrArg cur (W16_of m ρ c main_v61_1 (by decide))).trans hk
  rw [h0, h1, eq, ek] at e
  exact e

/-- The three scales `prob_max` reads, and its queries and keys. -/
theorem layer2_in4 : as3 (V18 m ρ c main_v87) (ix1 0) = scl (amax Q) ∧ as3 (V18 m ρ c main_v87) (ix1 1) = scl (amax K)
    ∧ as3 (V18 m ρ c main_v87) (ix1 2) = scl (smax (scr (fq Q) (fq K))) ∧ cur (V18 m ρ c main_v61_0) = Q ∧ cur (V18 m ρ c main_v61_1) = K :=
  ⟨host9_q (W17 m ρ c) _ ((W17_of m ρ c main_v66 (by decide)).trans (layer2_sq m ρ c Q K V hp)),
   host9_k (W17 m ρ c) _ ((W17_of m ρ c main_v71 (by decide)).trans (layer2_sk m ρ c Q K V hp)),
   (host9_s (W17 m ρ c) _ (layer2_sm m ρ c Q K V hq hk hp)).trans (congrArg scl (sup_scores _)),
   (congrArg cur (((W18_of m ρ c main_v61_0 (by decide)).trans ((W17_of m ρ c main_v61_0 (by decide)).trans (W16_of m ρ c main_v61_0 (by decide)))))).trans hq, (congrArg cur (((W18_of m ρ c main_v61_1 (by decide)).trans ((W17_of m ρ c main_v61_1 (by decide)).trans (W16_of m ρ c main_v61_1 (by decide)))))).trans hk⟩

/-- Exponentials of heads 0 to 3. -/
theorem layer2_e0 : curE (W19 m ρ c main_v88_0) = fun b k => ex (qzS (scl (smax (scr (fq Q) (fq K)))) (scr (fq Q) (fq K))) b (Cert.KernelIdeal.Gen.hq 0 k) := by
  obtain ⟨h0, h1, h2, h3, h4⟩ := layer2_in4 m ρ c Q K V hq hk hp
  have e : W19 m ρ c main_v88_0 = _ := (W19_arr m ρ c 3).trans (arr9_e0 (V18 m ρ) c)
  rw [h0, h1, h2, h3, h4] at e
  exact congrArg curE e

/-- Exponentials of heads 4 to 7. -/
theorem layer2_e1 : curE (W19 m ρ c main_v88_1) = fun b k => ex (qzS (scl (smax (scr (fq Q) (fq K)))) (scr (fq Q) (fq K))) b (Cert.KernelIdeal.Gen.hq 1 k) := by
  obtain ⟨h0, h1, h2, h3, h4⟩ := layer2_in4 m ρ c Q K V hq hk hp
  have e : W19 m ρ c main_v88_1 = _ := (W19_arr m ρ c 4).trans (arr9_e1 (V18 m ρ) c)
  rw [h0, h1, h2, h3, h4] at e
  exact congrArg curE e

/-- Exponentials of heads 8 to 11. -/
theorem layer2_e2 : curE (W19 m ρ c main_v88_2) = fun b k => ex (qzS (scl (smax (scr (fq Q) (fq K)))) (scr (fq Q) (fq K))) b (Cert.KernelIdeal.Gen.hq 2 k) := by
  obtain ⟨h0, h1, h2, h3, h4⟩ := layer2_in4 m ρ c Q K V hq hk hp
  have e : W19 m ρ c main_v88_2 = _ := (W19_arr m ρ c 5).trans (arr9_e2 (V18 m ρ) c)
  rw [h0, h1, h2, h3, h4] at e
  exact congrArg curE e

/-- Exponentials of heads 12 to 15. -/
theorem layer2_e3 : curE (W19 m ρ c main_v88_3) = fun b k => ex (qzS (scl (smax (scr (fq Q) (fq K)))) (scr (fq Q) (fq K))) b (Cert.KernelIdeal.Gen.hq 3 k) := by
  obtain ⟨h0, h1, h2, h3, h4⟩ := layer2_in4 m ρ c Q K V hq hk hp
  have e : W19 m ρ c main_v88_3 = _ := (W19_arr m ρ c 6).trans (arr9_e3 (V18 m ρ) c)
  rw [h0, h1, h2, h3, h4] at e
  exact congrArg curE e

/-- The row sums. -/
theorem layer2_z : curZ (W19 m ρ c main_v88_4) = zs (ex (qzS (scl (smax (scr (fq Q) (fq K)))) (scr (fq Q) (fq K)))) := by
  obtain ⟨h0, h1, h2, h3, h4⟩ := layer2_in4 m ρ c Q K V hq hk hp
  have e : W19 m ρ c main_v88_4 = _ := (W19_arr m ρ c 7).trans (arr9_z (V18 m ρ) c)
  rw [h0, h1, h2, h3, h4] at e
  exact congrArg curZ e

/-- The largest probability of each batch. -/
theorem layer2_zm : W19 m ρ c main_v88_5 = fun y : S8x1x128.Idx => Ideal.div 1 (⨅ h : Fin 16, ⨅ i, zs (ex (qzS (scl (smax (scr (fq Q) (fq K)))) (scr (fq Q) (fq K)))) (y 0) h i) := by
  obtain ⟨h0, h1, h2, h3, h4⟩ := layer2_in4 m ρ c Q K V hq hk hp
  have e : W19 m ρ c main_v88_5 = _ := (W19_arr m ρ c 8).trans (arr9_m (V18 m ρ) c)
  rw [h0, h1, h2, h3, h4] at e
  exact e

include hv

/-- The two scales `attn_out` reads, and its values. -/
theorem layer2_in5 : as2 (V20 m ρ c main_v94) (ix1 0) = scl (amax V) ∧ as2 (V20 m ρ c main_v94) (ix1 1) = scl (kmax (ex (qzS (scl (smax (scr (fq Q) (fq K)))) (scr (fq Q) (fq K)))))
    ∧ cur (V20 m ρ c main_v61_2) = V ∧ curZ (V20 m ρ c main_v88_4) = zs (ex (qzS (scl (smax (scr (fq Q) (fq K)))) (scr (fq Q) (fq K)))) :=
  ⟨host10_v (W19 m ρ c) _ ((((W19_of m ρ c main_v76 (by decide)).trans ((W18_of m ρ c main_v76 (by decide)).trans (W17_of m ρ c main_v76 (by decide))))).trans (layer2_sv m ρ c Q K V hp)),
   host10_p (W19 m ρ c) _ (layer2_zm m ρ c Q K V hq hk hp),
   (congrArg cur (((W20_of m ρ c main_v61_2 (by decide)).trans ((W19_of m ρ c main_v61_2 (by decide)).trans ((W18_of m ρ c main_v61_2 (by decide)).trans ((W17_of m ρ c main_v61_2 (by decide)).trans (W16_of m ρ c main_v61_2 (by decide)))))))).trans hv,
   (congrArg curZ (W20_of m ρ c main_v88_4 (by decide))).trans (layer2_z m ρ c Q K V hq hk hp)⟩

/-- The four arrays of exponentials together. -/
theorem layer2_join : join4 (curE (V20 m ρ c main_v88_0)) (curE (V20 m ρ c main_v88_1)) (curE (V20 m ρ c main_v88_2)) (curE (V20 m ρ c main_v88_3)) = ex (qzS (scl (smax (scr (fq Q) (fq K)))) (scr (fq Q) (fq K))) := by
  have e0 := (congrArg curE (W20_of m ρ c main_v88_0 (by decide))).trans (layer2_e0 m ρ c Q K V hq hk hp)
  have e1 := (congrArg curE (W20_of m ρ c main_v88_1 (by decide))).trans (layer2_e1 m ρ c Q K V hq hk hp)
  have e2 := (congrArg curE (W20_of m ρ c main_v88_2 (by decide))).trans (layer2_e2 m ρ c Q K V hq hk hp)
  have e3 := (congrArg curE (W20_of m ρ c main_v88_3 (by decide))).trans (layer2_e3 m ρ c Q K V hq hk hp)
  rw [show curE (V20 m ρ c main_v88_0) = _ from e0, show curE (V20 m ρ c main_v88_1) = _ from e1, show curE (V20 m ρ c main_v88_2) = _ from e2, show curE (V20 m ρ c main_v88_3) = _ from e3]
  exact join4_self _

/-- The heads' outcomes, and their largest magnitudes. -/
theorem layer2_a : cur (W21 m ρ c main_v95_0) = att (qzS (scl (kmax (ex (qzS (scl (smax (scr (fq Q) (fq K)))) (scr (fq Q) (fq K)))))) (prob (ex (qzS (scl (smax (scr (fq Q) (fq K)))) (scr (fq Q) (fq K)))))) (fq V) := by
  obtain ⟨h0, h1, h2, h3⟩ := layer2_in5 m ρ c Q K V hq hk hv hp
  have e : W21 m ρ c main_v95_0 = _ := (W21_arr m ρ c 7).trans (arr10_o (V20 m ρ) c)
  rw [h0, h1, h2, h3, layer2_join m ρ c Q K V hq hk hv hp] at e
  exact congrArg cur e

/-- The largest magnitudes of the heads' outputs, batch by batch. -/
theorem layer2_am : W21 m ρ c main_v95_1 = fun y : S8x1x128.Idx => rowMax (att (qzS (scl (kmax (ex (qzS (scl (smax (scr (fq Q) (fq K)))) (scr (fq Q) (fq K)))))) (prob (ex (qzS (scl (smax (scr (fq Q) (fq K)))) (scr (fq Q) (fq K)))))) (fq V)) (y 0) := by
  obtain ⟨h0, h1, h2, h3⟩ := layer2_in5 m ρ c Q K V hq hk hv hp
  have e : W21 m ρ c main_v95_1 = _ := (W21_arr m ρ c 8).trans (arr10_m (V20 m ρ) c)
  rw [h0, h1, h2, h3, layer2_join m ρ c Q K V hq hk hv hp] at e
  exact e

end Scores

section Out

variable (c : Dev nD) (x : Act) (s : EReal) (w : Fin 4 → Wgt) (β : Fin 4 → Bia)
    (hx : cur (V14 m ρ c main_v56_0) = x) (hs : as1 (V14 m ρ c main_v60) (ix1 0) = s)
    (hw : ∀ n, wAt (V14 m ρ c main_v11_0) n = w n) (hb : ∀ n, bAt (V14 m ρ c main_v11_1) n = β n)
    (hw' : ∀ n, wAt (V22 m ρ c main_v11_0) n = w n) (hb' : ∀ n, bAt (V22 m ρ c main_v11_1) n = β n)

include hx hs hw hb hw' hb'

/-- What `out_proj` reads. -/
theorem layer2_in6 : cur (V22 m ρ c main_v95_0) = (fun Q K V => att (qzS (scl (kmax (ex (qzS (scl (smax (scr (fq Q) (fq K)))) (scr (fq Q) (fq K)))))) (prob (ex (qzS (scl (smax (scr (fq Q) (fq K)))) (scr (fq Q) (fq K)))))) (fq V)) (scaled (lin (qz s x) (w 0) (β 0))) (lin (qz s x) (w 1) (β 1)) (lin (qz s x) (w 2) (β 2))
    ∧ as1 (V22 m ρ c main_v99) (ix1 0) = scl (amax ((fun Q K V => att (qzS (scl (kmax (ex (qzS (scl (smax (scr (fq Q) (fq K)))) (scr (fq Q) (fq K)))))) (prob (ex (qzS (scl (smax (scr (fq Q) (fq K)))) (scr (fq Q) (fq K)))))) (fq V)) (scaled (lin (qz s x) (w 0) (β 0))) (lin (qz s x) (w 1) (β 1)) (lin (qz s x) (w 2) (β 2)))) := by
  have hq := layer2_q m ρ c x s w β hx hs hw hb
  have hk := layer2_k m ρ c x s w β hx hs hw hb
  have hv := layer2_v m ρ c x s w β hx hs hw hb
  have hp := layer2_pm m ρ c x s w β hx hs hw hb
  refine ⟨(congrArg cur (W22_of m ρ c main_v95_0 (by decide))).trans (layer2_a m ρ c _ _ _ hq hk hv hp), ?_⟩
  exact (host11 (W21 m ρ c) _ (layer2_am m ρ c _ _ _ hq hk hv hp)).trans (congrArg scl (sup_rowMax _))

/-- The layer's outcome, before it is quantised. -/
theorem layer2_o : cur (W23 m ρ c main_v100_0) = kLayer (qz s x) w β := by
  obtain ⟨h0, h1⟩ := layer2_in6 m ρ c x s w β hx hs hw hb hw' hb'
  have e : W23 m ρ c main_v100_0 = _ := (W23_arr m ρ c 4).trans (arr11_o (V22 m ρ) c)
  rw [h0, h1, hw', hb'] at e
  exact congrArg cur e

/-- Its largest magnitude in each batch. -/
theorem layer2_om : W23 m ρ c main_v100_1 = fun y : S8x1x128.Idx => rowMax (kLayer (qz s x) w β) (y 0) := by
  obtain ⟨h0, h1⟩ := layer2_in6 m ρ c x s w β hx hs hw hb hw' hb'
  have e : W23 m ρ c main_v100_1 = _ := (W23_arr m ρ c 5).trans (arr11_m (V22 m ρ) c)
  rw [h0, h1, hw', hb'] at e
  exact e

end Out

end Cert.KernelIdeal.Gen

end
-- ==== Proof.Reg0.lean ====
/-
  The arrays `wprep` leaves: every weight and bias quantised.
-/
module

public import proofs.«01_k».proof.Proof.Gen.KernelIdeal.Frame.Region0
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The matrix a grid point works on. -/
def mt (i j : Fin 2) : Fin 4 := ⟨2 * i.val + j.val, by omega⟩

/-- The block window 0 takes at each grid point. -/
theorem idx0_0 : ∀ t : Fin cfg0.N, win0_0.index t = ![2 * (grid0.coords t 0).val + (grid0.coords t 1).val, 0, 0] := by decide +kernel

/-- The block window 1 takes at each grid point. -/
theorem idx0_1 : ∀ t : Fin cfg0.N, win0_1.index t = ![2 * (grid0.coords t 0).val + (grid0.coords t 1).val, 0, 0] := by decide +kernel

/-- The block window 2 takes at each grid point. -/
theorem idx0_2 : ∀ t : Fin cfg0.N, win0_2.index t = ![2 * (grid0.coords t 0).val + (grid0.coords t 1).val, 0, 0] := by decide +kernel

/-- The block window 3 takes at each grid point. -/
theorem idx0_3 : ∀ t : Fin cfg0.N, win0_3.index t = ![2 * (grid0.coords t 0).val + (grid0.coords t 1).val, 0, 0] := by decide +kernel

/-- What window 0 stages at a grid point. -/
theorem in0_0 (c : Dev nD) (t : Fin cfg0.N) : iblk0 V c 0 t = bWgt (wAt (V c main_v4) (mt (grid0.coords t 0) (grid0.coords t 1))) := by
  funext i
  blk_ext! [iblk0, idx0_0 t, bWgt, wAt, mt]

/-- What window 1 stages at a grid point. -/
theorem in0_1 (c : Dev nD) (t : Fin cfg0.N) : iblk0 V c 1 t = bBia (bAt (V c main_v10) (mt (grid0.coords t 0) (grid0.coords t 1))) := by
  funext i
  blk_ext! [iblk0, idx0_1 t, bBia, bAt, mt]

/-- Where window 2 writes back at a grid point. -/
theorem emb0_2 (t : Fin cfg0.N) (y : S1x1024x1024.Idx) :
    ((View.whole main_v11_0).slice (win0_2.rect t)).emb y = ix3 (mt (grid0.coords t 0) (grid0.coords t 1)) (y 1) (y 2) := by
  ext a
  fin_cases a <;> blk_simp [idx0_2 t, mt] <;> rfl

/-- Where window 3 writes back at a grid point. -/
theorem emb0_3 (t : Fin cfg0.N) (y : S1x1x1024.Idx) :
    ((View.whole main_v11_1).slice (win0_3.rect t)).emb y = ix3 (mt (grid0.coords t 0) (grid0.coords t 1)) (y 1) (y 2) := by
  ext a
  fin_cases a <;> blk_simp [idx0_3 t, mt] <;> rfl

/-- The weights. -/
theorem arr0_w (c : Dev nD) : (dat0 V c).arrAt 2 cfg0.N = fun y =>
    fqW (wAt (V c main_v4) (y 0)) (y 1) (y 2) := by
  refine (dat0 V c).arrAt_eq_of_covers 2 _ (by decide +kernel) fun t hf y => ?_
  blk_simp
  rw [after0_2]
  frame_out
  rw [emb0_2, in0_0]
  exact w_out _ y

/-- The biases. -/
theorem arr0_b (c : Dev nD) : (dat0 V c).arrAt 3 cfg0.N = fun y =>
    fqB (bAt (V c main_v10) (y 0)) (y 2) := by
  refine (dat0 V c).arrAt_eq_of_covers 3 _ (by decide +kernel) fun t hf y => ?_
  blk_simp
  rw [after0_3]
  frame_out
  rw [emb0_3, in0_1]
  exact b_out _ y

end Cert.KernelIdeal.Gen

end
-- ==== Proof.Reg1.lean ====
/-
  The array `xabsmax` leaves.
-/
module

public import proofs.«01_k».proof.Proof.Gen.KernelIdeal.Frame.Region1
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx1_0 : ∀ t : Fin cfg1.N, win1_0.index t = ![4 * (grid1.coords t 0).val + (grid1.coords t 1).val, 0, 0] := by decide +kernel

/-- The block window 1 takes at each grid point. -/
theorem idx1_1 : ∀ t : Fin cfg1.N, win1_1.index t = ![4 * (grid1.coords t 0).val + (grid1.coords t 1).val, 0, 0] := by decide +kernel

/-- What window 0 stages at a grid point. -/
theorem in1_0 (c : Dev nD) (t : Fin cfg1.N) : iblk1 V c 0 t = bAct (cur (V c main_arg0)) (btc (grid1.coords t)) := by
  funext i
  blk_ext! [iblk1, idx1_0 t, bAct, cur, btc, bt]

/-- Where window 1 writes back at a grid point. -/
theorem emb1_1 (t : Fin cfg1.N) (y : S1x1x128.Idx) :
    ((View.whole main_v12).slice (win1_1.rect t)).emb y = ix3 (btc (grid1.coords t)) (y 1) (y 2) := by
  ext a
  fin_cases a <;> blk_simp [idx1_1 t, btc, bt] <;> rfl

/-- The largest magnitude in each batch. -/
theorem arr1_m (c : Dev nD) : (dat1 V c).arrAt 1 cfg1.N = fun y =>
    rowMax (cur (V c main_arg0)) (y 0) := by
  refine (dat1 V c).arrAt_eq_of_covers 1 _ (by decide +kernel) fun t hf y => ?_
  blk_simp
  rw [after1_1]
  frame_out
  rw [emb1_1, in1_0]
  exact xm_out _ _ y

end Cert.KernelIdeal.Gen

end
-- ==== Proof.Reg12.lean ====
/-
  The array `final_quant` leaves.
-/
module

public import proofs.«01_k».proof.Proof.Gen.KernelIdeal.Frame.Region12
public import proofs.«01_k».proof.Proof.Block

@[expose] public section

set_option maxRecDepth 16384

noncomputable section

namespace Cert.KernelIdeal.Gen

open Idealize.ShloMosaic Idealize.ShloMosaic.TcCoe Cert.Attn

variable (V : (c : Dev nD) → (b : Ref sig .tc) → Buf (Elt Ideal) ((c : Thread nD τ).loc b))

/-- The block window 0 takes at each grid point. -/
theorem idx12_0 : ∀ t : Fin cfg12.N, win12_0.index t = ![0] := by decide +kernel

/-- The block window 1 takes at each grid point. -/
theorem idx12_1 : ∀ t : Fin cfg12.N, win12_1.index t = ![4 * (grid12.coords t 0).val + (grid12.coords t 1).val, 0, 0] := by decide +kernel

/-- The block window 2 takes at each grid point. -/
theorem idx12_2 : ∀ t : Fin cfg12.N, win12_2.index t = ![4 * (grid12.coords t 0).val + (grid12.coords t 1).val, 0, 0] := by decide +kernel

/-- What window 0 stages at a grid point. -/
theorem in12_0 (c : Dev nD) (t : Fin cfg12.N) : iblk12 V c 0 t = as1 (V c main_v104) := by
  funext i
  blk_ext! [iblk12, idx12_0 t, as1]

/-- What window 1 stages at a grid point. -/
theorem in12_1 (c : Dev nD) (t : Fin cfg12.N) : iblk12 V c 1 t = bAct (cur (V c main_v100_0)) (btc (grid12.coords t)) := by
  funext i
  blk_ext! [iblk12, idx12_1 t, bAct, cur, btc, bt]

/-- Where window 2 writes back at a grid point. -/
theorem emb12_2 (t : Fin cfg12.N) (y : S1x512x1024.Idx) :
    ((View.whole main_v105).slice (win12_2.rect t)).emb y = ix3 (btc (grid12.coords t)) (y 1) (y 2) := by
  ext a
  fin_cases a <;> blk_simp [idx12_2 t, btc, bt] <;> rfl

/-- The quantised result. -/
theorem arr12_o (c : Dev nD) : (dat12 V c).arrAt 2 cfg12.N = fun y =>
    qz (as1 (V c main_v104) (ix1 0)) (cur (V c main_v100_0)) (y 0) (y 1) (y 2) := by
  refine (dat12 V c).arrAt_eq_of_covers 2 _ (by decide +kernel) fun t hf y => ?_
  blk_simp
  rw [after12_2]
  unfold outsAt12
  frame_out
  rw [emb12_2, in12_0, in12_1, ld_scalar1]
  exact fin_out _ _ _ y

end Cert.KernelIdeal.Gen

end
-- ==== Proof.KValue.lean ====
/-
  What the kernel's result holds.
-/
module

public import proofs.«01_k».proof.Proof.Layer1
public import proofs.«01_k».proof.Proof.Layer2
public import proofs.«01_k».proof.Proof.Reg0
public import proofs.«01_k».proof.Proof.Reg1
public import proofs.«01_k».proof.Proof.Reg12

@[expose] public section

set_option maxRecDepth 16384

noncomputable section

namespace Cert.KernelIdeal.Gen

open Idealize.ShloMosaic Idealize.ShloMosaic.TcCoe Cert.Attn

variable (m : (ℓ : Loc nD τ sig) → Buf (Elt Ideal) ℓ) (ρ : Dev nD → PrngReg) (c : Dev nD)

/-- The input, by its coordinates. -/
def inX : Act := cur (m ((c : Thread nD τ).loc main_arg0))

/-- The four weights, quantised. -/
def inW (n : Fin 4) : Wgt := fqW ((![curW (m ((c : Thread nD τ).loc main_arg1)), curW (m ((c : Thread nD τ).loc main_arg2)),
  curW (m ((c : Thread nD τ).loc main_arg3)), curW (m ((c : Thread nD τ).loc main_arg4))] : Fin 4 → Wgt) n)

/-- The four biases, quantised. -/
def inB (n : Fin 4) : Bia := fqB ((![curB (m ((c : Thread nD τ).loc main_arg5)), curB (m ((c : Thread nD τ).loc main_arg6)),
  curB (m ((c : Thread nD τ).loc main_arg7)), curB (m ((c : Thread nD τ).loc main_arg8))] : Fin 4 → Bia) n)

/-- Both layers, the first one's outcome quantised once. -/
def kernelVal : Act := fq (kLayer (fq (kLayer (fq (inX m c)) (inW m c) (inB m c))) (inW m c) (inB m c))

/-- A weight of a quantised stack is that weight, quantised. -/
theorem quantised_w (A C : Vec Ideal S4x1024x1024 .f32) (h : A = fun y => fqW (wAt C (y 0)) (y 1) (y 2)) (n : Fin 4) (w : Wgt)
    (hw : wAt C n = w) : wAt A n = fqW w := by
  subst h; subst hw; rfl

/-- A bias of a quantised stack is that bias, quantised. -/
theorem quantised_b (A C : Vec Ideal S4x1x1024 .f32) (h : A = fun y => fqB (bAt C (y 0)) (y 2)) (n : Fin 4) (β : Bia)
    (hb : bAt C n = β) : bAt A n = fqB β := by
  subst h; subst hb; rfl

/-- The stack of weights after the first call. -/
theorem val_w (n : Fin 4) : wAt (V2 m ρ c main_v11_0) n = inW m c n := by
  have e : W2 m ρ c main_v11_0 = _ := (W2_arr m ρ c 2).trans (arr0_w (V1 m ρ) c)
  have h : wAt (V1 m ρ c main_v4) n = _ := host0_w (W0 m ρ c) n
  exact quantised_w _ _ e n _ h

/-- The stack of biases after the first call. -/
theorem val_b (n : Fin 4) : bAt (V2 m ρ c main_v11_1) n = inB m c n := by
  have e : W2 m ρ c main_v11_1 = _ := (W2_arr m ρ c 3).trans (arr0_b (V1 m ρ) c)
  have h : bAt (V1 m ρ c main_v10) n = _ := host0_b (W0 m ρ c) n
  exact quantised_b _ _ e n _ h

/-- The scale of the input. -/
theorem val_s : as1 (V4 m ρ c main_v16) (ix1 0) = scl (amax (inX m c)) := by
  have e : W3 m ρ c main_v12 = _ := (W3_arr m ρ c 1).trans (arr1_m (V2 m ρ) c)
  have e0 : cur (V2 m ρ c main_arg0) = inX m c := congrArg cur (W2_args m ρ c main_arg0 (by decide))
  rw [e0] at e
  exact (host2 (W3 m ρ c) _ e).trans (congrArg scl (sup_rowMax _))

/-- The quantised weights, unchanged at boundary 4. -/
theorem w_4 (n : Fin 4) : wAt (V4 m ρ c main_v11_0) n = inW m c n :=
  (congrArg (fun A => wAt A n) ((W4_of m ρ c main_v11_0 (by decide)).trans (W3_of m ρ c main_v11_0 (by decide)))).trans (val_w m ρ c n)

/-- The quantised biases, unchanged at boundary 4. -/
theorem b_4 (n : Fin 4) : bAt (V4 m ρ c main_v11_1) n = inB m c n :=
  (congrArg (fun A => bAt A n) ((W4_of m ρ c main_v11_1 (by decide)).trans (W3_of m ρ c main_v11_1 (by decide)))).trans (val_b m ρ c n)

/-- The quantised weights, unchanged at boundary 12. -/
theorem w_12 (n : Fin 4) : wAt (V12 m ρ c main_v11_0) n = inW m c n :=
  (congrArg (fun A => wAt A n) ((W12_of m ρ c main_v11_0 (by decide)).trans ((W11_of m ρ c main_v11_0 (by decide)).trans ((W10_of m ρ c main_v11_0 (by decide)).trans ((W9_of m ρ c main_v11_0 (by decide)).trans ((W8_of m ρ c main_v11_0 (by decide)).trans ((W7_of m ρ c main_v11_0 (by decide)).trans ((W6_of m ρ c main_v11_0 (by decide)).trans ((W5_of m ρ c main_v11_0 (by decide)).trans ((W4_of m ρ c main_v11_0 (by decide)).trans (W3_of m ρ c main_v11_0 (by decide)))))))))))).trans (val_w m ρ c n)

/-- The quantised biases, unchanged at boundary 12. -/
theorem b_12 (n : Fin 4) : bAt (V12 m ρ c main_v11_1) n = inB m c n :=
  (congrArg (fun A => bAt A n) ((W12_of m ρ c main_v11_1 (by decide)).trans ((W11_of m ρ c main_v11_1 (by decide)).trans ((W10_of m ρ c main_v11_1 (by decide)).trans ((W9_of m ρ c main_v11_1 (by decide)).trans ((W8_of m ρ c main_v11_1 (by decide)).trans ((W7_of m ρ c main_v11_1 (by decide)).trans ((W6_of m ρ c main_v11_1 (by decide)).trans ((W5_of m ρ c main_v11_1 (by decide)).trans ((W4_of m ρ c main_v11_1 (by decide)).trans (W3_of m ρ c main_v11_1 (by decide)))))))))))).trans (val_b m ρ c n)

/-- The quantised weights, unchanged at boundary 14. -/
theorem w_14 (n : Fin 4) : wAt (V14 m ρ c main_v11_0) n = inW m c n :=
  (congrArg (fun A => wAt A n) ((W14_of m ρ c main_v11_0 (by decide)).trans ((W13_of m ρ c main_v11_0 (by decide)).trans ((W12_of m ρ c main_v11_0 (by decide)).trans ((W11_of m ρ c main_v11_0 (by decide)).trans ((W10_of m ρ c main_v11_0 (by decide)).trans ((W9_of m ρ c main_v11_0 (by decide)).trans ((W8_of m ρ c main_v11_0 (by decide)).trans ((W7_of m ρ c main_v11_0 (by decide)).trans ((W6_of m ρ c main_v11_0 (by decide)).trans ((W5_of m ρ c main_v11_0 (by decide)).trans ((W4_of m ρ c main_v11_0 (by decide)).trans (W3_of m ρ c main_v11_0 (by decide)))))))))))))).trans (val_w m ρ c n)

/-- The quantised biases, unchanged at boundary 14. -/
theorem b_14 (n : Fin 4) : bAt (V14 m ρ c main_v11_1) n = inB m c n :=
  (congrArg (fun A => bAt A n) ((W14_of m ρ c main_v11_1 (by decide)).trans ((W13_of m ρ c main_v11_1 (by decide)).trans ((W12_of m ρ c main_v11_1 (by decide)).trans ((W11_of m ρ c main_v11_1 (by decide)).trans ((W10_of m ρ c main_v11_1 (by decide)).trans ((W9_of m ρ c main_v11_1 (by decide)).trans ((W8_of m ρ c main_v11_1 (by decide)).trans ((W7_of m ρ c main_v11_1 (by decide)).trans ((W6_of m ρ c main_v11_1 (by decide)).trans ((W5_of m ρ c main_v11_1 (by decide)).trans ((W4_of m ρ c main_v11_1 (by decide)).trans (W3_of m ρ c main_v11_1 (by decide)))))))))))))).trans (val_b m ρ c n)

/-- The quantised weights, unchanged at boundary 22. -/
theorem w_22 (n : Fin 4) : wAt (V22 m ρ c main_v11_0) n = inW m c n :=
  (congrArg (fun A => wAt A n) ((W22_of m ρ c main_v11_0 (by decide)).trans ((W21_of m ρ c main_v11_0 (by decide)).trans ((W20_of m ρ c main_v11_0 (by decide)).trans ((W19_of m ρ c main_v11_0 (by decide)).trans ((W18_of m ρ c main_v11_0 (by decide)).trans ((W17_of m ρ c main_v11_0 (by decide)).trans ((W16_of m ρ c main_v11_0 (by decide)).trans ((W15_of m ρ c main_v11_0 (by decide)).trans ((W14_of m ρ c main_v11_0 (by decide)).trans ((W13_of m ρ c main_v11_0 (by decide)).trans ((W12_of m ρ c main_v11_0 (by decide)).trans ((W11_of m ρ c main_v11_0 (by decide)).trans ((W10_of m ρ c main_v11_0 (by decide)).trans ((W9_of m ρ c main_v11_0 (by decide)).trans ((W8_of m ρ c main_v11_0 (by decide)).trans ((W7_of m ρ c main_v11_0 (by decide)).trans ((W6_of m ρ c main_v11_0 (by decide)).trans ((W5_of m ρ c main_v11_0 (by decide)).trans ((W4_of m ρ c main_v11_0 (by decide)).trans (W3_of m ρ c main_v11_0 (by decide)))))))))))))))))))))).trans (val_w m ρ c n)

/-- The quantised biases, unchanged at boundary 22. -/
theorem b_22 (n : Fin 4) : bAt (V22 m ρ c main_v11_1) n = inB m c n :=
  (congrArg (fun A => bAt A n) ((W22_of m ρ c main_v11_1 (by decide)).trans ((W21_of m ρ c main_v11_1 (by decide)).trans ((W20_of m ρ c main_v11_1 (by decide)).trans ((W19_of m ρ c main_v11_1 (by decide)).trans ((W18_of m ρ c main_v11_1 (by decide)).trans ((W17_of m ρ c main_v11_1 (by decide)).trans ((W16_of m ρ c main_v11_1 (by decide)).trans ((W15_of m ρ c main_v11_1 (by decide)).trans ((W14_of m ρ c main_v11_1 (by decide)).trans ((W13_of m ρ c main_v11_1 (by decide)).trans ((W12_of m ρ c main_v11_1 (by decide)).trans ((W11_of m ρ c main_v11_1 (by decide)).trans ((W10_of m ρ c main_v11_1 (by decide)).trans ((W9_of m ρ c main_v11_1 (by decide)).trans ((W8_of m ρ c main_v11_1 (by decide)).trans ((W7_of m ρ c main_v11_1 (by decide)).trans ((W6_of m ρ c main_v11_1 (by decide)).trans ((W5_of m ρ c main_v11_1 (by decide)).trans ((W4_of m ρ c main_v11_1 (by decide)).trans (W3_of m ρ c main_v11_1 (by decide)))))))))))))))))))))).trans (val_b m ρ c n)

/-- The input, where the first layer starts. -/
theorem x_4 : cur (V4 m ρ c main_arg0) = inX m c := congrArg cur (W4_args m ρ c main_arg0 (by decide))

/-- The first layer's outcome, and the scale the second layer quantises it with. -/
theorem first_o : cur (W13 m ρ c main_v56_0) = kLayer (fq (inX m c)) (inW m c) (inB m c) :=
  layer1_o m ρ c _ _ _ _ (x_4 m ρ c) (val_s m ρ c) (w_4 m ρ c) (b_4 m ρ c) (w_12 m ρ c) (b_12 m ρ c)

/-- The first layer's outcome, where the second layer starts. -/
theorem first_x : cur (V14 m ρ c main_v56_0) = kLayer (fq (inX m c)) (inW m c) (inB m c) :=
  (congrArg cur (W14_of m ρ c main_v56_0 (by decide))).trans (first_o m ρ c)

/-- The scale the second layer quantises its input with. -/
theorem first_s : as1 (V14 m ρ c main_v60) (ix1 0) = scl (amax (kLayer (fq (inX m c)) (inW m c) (inB m c))) :=
  (host7 (W13 m ρ c) _ (layer1_om m ρ c _ _ _ _ (x_4 m ρ c) (val_s m ρ c) (w_4 m ρ c) (b_4 m ρ c) (w_12 m ρ c) (b_12 m ρ c))).trans
    (congrArg scl (sup_rowMax _))

/-- The second layer's outcome, and the scale it is quantised with. -/
theorem second_x : cur (V24 m ρ c main_v100_0) = kLayer (fq (kLayer (fq (inX m c)) (inW m c) (inB m c))) (inW m c) (inB m c) :=
  (congrArg cur (W24_of m ρ c main_v100_0 (by decide))).trans
    (layer2_o m ρ c _ _ _ _ (first_x m ρ c) (first_s m ρ c) (w_14 m ρ c) (b_14 m ρ c) (w_22 m ρ c) (b_22 m ρ c))

/-- The scale the result is quantised with. -/
theorem second_s : as1 (V24 m ρ c main_v104) (ix1 0) = scl (amax (kLayer (fq (kLayer (fq (inX m c)) (inW m c) (inB m c))) (inW m c) (inB m c))) :=
  (host12 (W23 m ρ c) _ (layer2_om m ρ c _ _ _ _ (first_x m ρ c) (first_s m ρ c) (w_14 m ρ c) (b_14 m ρ c) (w_22 m ρ c) (b_22 m ρ c))).trans
    (congrArg scl (sup_rowMax _))

/-- The kernel's result. -/
theorem kernel_value : W25 m ρ c main_v105 = fun y : S8x512x1024.Idx => kernelVal m c (y 0) (y 1) (y 2) := by
  have e : W25 m ρ c main_v105 = _ := (W25_arr m ρ c 2).trans (arr12_o (V24 m ρ) c)
  rw [second_x, second_s] at e
  exact e

end Cert.KernelIdeal.Gen

end
-- ==== Proof.RefQuant.lean ====
/-
  The reference's quantiser in its straight-through form, and arrays by their coordinates.
-/
module

public import Idealize.ShloMosaic.Lib.Pointwise
public import proofs.«01_k».proof.Proof.Spec
public import proofs.«01_k».proof.Proof.Folds
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Cert.Attn

/-- The scale of an array. -/
def sclT {s : Shape} {axes : List (Fin s.rank)} (h : s.ReducesTo axes S_) (X : FVec Ideal s .f32) : FVec Ideal S_ .f32 :=
  maximumf (Host.divf (Host.reduce FloatOps.maximumf (Host.absf X) (constant S_ .f32 0xFF800000#32) h h_S_) (constant S_ .f32 0x40E00000#32))
    (constant S_ .f32 0x322BCC77#32)

/-- The straight-through form of the quantiser, over a given scale. -/
def fakeT {s : Shape} (lo : BitVec 32) (hb : S_.BroadcastsInDim s ![]) (X : FVec Ideal s .f32) (c : FVec Ideal S_ .f32) : FVec Ideal s .f32 :=
  addf X (subf (mulf (minimumf (broadcastInDim s ![] hb (id (constant S_ .f32 0x40E00000#32)))
    (maximumf (broadcastInDim s ![] hb (id (constant S_ .f32 lo))) (Host.roundeven (Host.divf X (broadcastInDim s ![] hb c)))))
    (broadcastInDim s ![] hb c)) X)

/-- The scale of an array is that of its largest magnitude. -/
theorem sclT_eq {s : Shape} {axes : List (Fin s.rank)} (h : s.ReducesTo axes S_) (X : FVec Ideal s .f32) :
    sclT h X = fun _ => scl (⨆ i, mag (X i)) := by
  funext j
  exact congrArg scl (reduce_all (Host.absf X) h h_S_ rfl j)

/-- On finite elements the straight-through form is the quantised value. -/
theorem fakeT_eq {s : Shape} {lo : BitVec 32} {l : EReal} (hlo : Ideal.ofBits .f32 lo = l) (hl : IsFin l) (hb : S_.BroadcastsInDim s ![])
    (X : FVec Ideal s .f32) (hX : ∀ i, IsFin (X i)) (c : EReal) (hc : IsFin c) : fakeT lo hb X (fun _ => c) = fun i => quant l c (X i) := by
  subst hlo
  funext i
  exact ste (hX i) (IsFin.quant hl hc (X i))

/-- Activations as an array. -/
def ofAct (x : Act) : FVec Ideal S8x512x1024 .f32 := fun y => x (y 0) (y 1) (y 2)
/-- Activations as an array of heads. -/
def ofHeads (x : Act) : FVec Ideal S8x16x512x64 .f32 := fun y => x (y 0) (y 2) (cl (64 * (y 1).val) (y 3))
/-- Scores as an array. -/
def ofSco (x : Sco) : FVec Ideal S8x16x512x512 .f32 := fun y => x (y 0) (y 1) (y 2) (y 3)
/-- A weight as an array. -/
def ofW (w : Wgt) : FVec Ideal S1024x1024 .f32 := fun y => w (y 0) (y 1)
/-- A bias as an array. -/
def ofB (β : Bia) : FVec Ideal S1024 .f32 := fun y => β (y 0)

/-- The largest magnitude of an array of activations. -/
theorem sup_act (x : Act) : (⨆ i, mag (ofAct x i)) = amax x :=
  le_antisymm (iSup_le fun i => le_iSup_of_le (i 0) (le_iSup_of_le (i 1) (le_iSup (fun e => mag (x (i 0) (i 1) e)) (i 2))))
    (iSup_le fun b => iSup_le fun s => iSup_le fun e => le_iSup (fun i => mag (ofAct x i)) (ix3 b s e))

/-- The largest magnitude of an array of scores. -/
theorem sup_sco (x : Sco) : (⨆ i, mag (ofSco x i)) = smax x :=
  le_antisymm (iSup_le fun i => le_iSup_of_le (i 0) (le_iSup_of_le (i 1) (le_iSup_of_le (i 2) (le_iSup (fun e => mag (x (i 0) (i 1) (i 2) e)) (i 3)))))
    (iSup_le fun b => iSup_le fun h => iSup_le fun s => iSup_le fun t => le_iSup (fun i => mag (ofSco x i)) (ix4 b h s t))

/-- The largest magnitude of a weight. -/
theorem sup_w (w : Wgt) : (⨆ i, mag (ofW w i)) = ⨆ e, ⨆ c, mag (w e c) :=
  le_antisymm (iSup_le fun i => le_iSup_of_le (i 0) (le_iSup (fun c => mag (w (i 0) c)) (i 1)))
    (iSup_le fun e => iSup_le fun c => le_iSup (fun i => mag (ofW w i)) (ix2 e c))

/-- The largest magnitude of a bias. -/
theorem sup_b (β : Bia) : (⨆ i, mag (ofB β i)) = ⨆ e, mag (β e) :=
  le_antisymm (iSup_le fun i => le_iSup (fun e => mag (β e)) (i 0)) (iSup_le fun e => le_iSup (fun i => mag (ofB β i)) (ix1 e))

/-- A feature by its head and its place in the head. -/
theorem cl_hd (e : Fin 1024) : cl (64 * (hd e).val) ⟨e.val % 64, Nat.mod_lt _ (by decide)⟩ = e := by
  apply Fin.ext; show (64 * (e.val / 64) + e.val % 64) % 1024 = e.val
  have := e.isLt; omega

/-- The head of a feature given by head and place. -/
theorem hd_cl (h : Fin 16) (d : Fin 64) : hd (cl (64 * h.val) d) = h := by
  apply Fin.ext; show (64 * h.val + d.val) % 1024 / 64 = h.val
  have := h.isLt; have := d.isLt; omega

/-- Splitting into heads leaves the largest magnitude. -/
theorem sup_heads (x : Act) : (⨆ i, mag (ofHeads x i)) = amax x :=
  le_antisymm (iSup_le fun i => le_iSup_of_le (i 0) (le_iSup_of_le (i 2) (le_iSup (fun e => mag (x (i 0) (i 2) e)) (cl (64 * (i 1).val) (i 3)))))
    (iSup_le fun b => iSup_le fun s => iSup_le fun e => by
      have h := le_iSup (fun i => mag (ofHeads x i)) (ix4 b (hd e) s ⟨e.val % 64, Nat.mod_lt _ (by decide)⟩)
      have e1 : ofHeads x (ix4 b (hd e) s ⟨e.val % 64, Nat.mod_lt _ (by decide)⟩) = x b s e := congrArg (x b s) (cl_hd e)
      rw [← e1]; exact h)

/-- The largest magnitude of finite activations is finite. -/
theorem amax_fin {x : Act} (hx : ∀ b s e, IsFin (x b s e)) : IsFin (amax x) :=
  IsFin.iSup fun b => IsFin.iSup fun s => IsFin.iSup fun e => (hx b s e).mag

/-- The largest magnitude of finite scores is finite. -/
theorem smax_fin {x : Sco} (hx : ∀ b h s t, IsFin (x b h s t)) : IsFin (smax x) :=
  IsFin.iSup fun b => IsFin.iSup fun h => IsFin.iSup fun s => IsFin.iSup fun t => (hx b h s t).mag

/-- The quantiser on finite activations. -/
theorem quant_act (x : Act) (hx : ∀ b s e, IsFin (x b s e)) :
    fakeT 0xC1000000#32 bcast_S_S8x512x1024 (ofAct x) (sclT reducesTo_S8x512x1024_S_d0_1_2 (ofAct x)) = ofAct (fq x) := by
  rw [sclT_eq, sup_act, fakeT_eq rfl lowA_fin _ (ofAct x) (fun i => hx _ _ _) _ (amax_fin hx).scl]
  rfl

/-- The quantiser on finite heads. -/
theorem quant_heads (x : Act) (hx : ∀ b s e, IsFin (x b s e)) :
    fakeT 0xC1000000#32 bcast_S_S8x16x512x64 (ofHeads x) (sclT reducesTo_S8x16x512x64_S_d0_1_2_3 (ofHeads x)) = ofHeads (fq x) := by
  rw [sclT_eq, sup_heads, fakeT_eq rfl lowA_fin _ (ofHeads x) (fun i => hx _ _ _) _ (amax_fin hx).scl]
  rfl

/-- The quantiser on finite scores. -/
theorem quant_sco (x : Sco) (hx : ∀ b h s t, IsFin (x b h s t)) :
    fakeT 0xC1000000#32 bcast_S_S8x16x512x512 (ofSco x) (sclT reducesTo_S8x16x512x512_S_d0_1_2_3 (ofSco x)) = ofSco (qzS (scl (smax x)) x) := by
  rw [sclT_eq, sup_sco, fakeT_eq rfl lowA_fin _ (ofSco x) (fun i => hx _ _ _ _) _ (smax_fin hx).scl]
  rfl

/-- The quantiser on a finite weight. -/
theorem quant_w (w : Wgt) (hw : ∀ e c, IsFin (w e c)) :
    fakeT 0xC0E00000#32 bcast_S_S1024x1024 (ofW w) (sclT reducesTo_S1024x1024_S_d0_1 (ofW w)) = ofW (fqW w) := by
  rw [sclT_eq, sup_w, fakeT_eq rfl lowW_fin _ (ofW w) (fun i => hw _ _) _ (IsFin.scl (IsFin.iSup fun e => IsFin.iSup fun c => (hw e c).mag))]
  rfl

/-- The quantiser on a finite bias. -/
theorem quant_b (β : Bia) (hβ : ∀ e, IsFin (β e)) :
    fakeT 0xC0E00000#32 bcast_S_S1024 (ofB β) (sclT reducesTo_S1024_S_d0 (ofB β)) = ofB (fqB β) := by
  rw [sclT_eq, sup_b, fakeT_eq rfl lowW_fin _ (ofB β) (fun i => hβ _) _ (IsFin.scl (IsFin.iSup fun e => (hβ e).mag))]
  rfl

end Cert.ReferenceIdeal.Value

end
-- ==== Proof.RefOps.lean ====
/-
  The operations the reference's layer is made of, as functions of coordinates: the projections, the heads, the scores,
  the softmax, and the product with the values.
-/
module

public import proofs.«01_k».proof.Proof.RefQuant

@[expose] public section

set_option maxRecDepth 16384

noncomputable section

namespace Cert.ReferenceIdeal.Value

open Cert.ReferenceIdeal Cert.ReferenceIdeal.Gen Idealize.ShloMosaic Idealize.ShloMosaic.TcCoe Cert.Attn

/-- A projection. -/
def linT (X : FVec Ideal S8x512x1024 .f32) (W : FVec Ideal S1024x1024 .f32) (B : FVec Ideal S1024 .f32) : FVec Ideal S8x512x1024 .f32 :=
  addf (Host.dotGeneral dot_S8x512x1024_S1024x1024_S8x512x1024_2_0_01_1_n_n none X (transpose S1024x1024 [1, 0] W transposes_S1024x1024_S1024x1024_1_0))
    (broadcastInDim S8x512x1024 ![0, 1, 2] bcast_S1x1x1024_S8x512x1024_0_1_2 (broadcastInDim S1x1x1024 ![2] bcast_S1024_S1x1x1024_2 B))

/-- A projection, by coordinates. -/
theorem linT_eq (x : Act) (w : Wgt) (β : Bia) : linT (ofAct x) (ofW w) (ofB β) = ofAct (lin x w β) := by
  funext y
  unfold linT ofAct ofW ofB lin
  pointwise []

/-- The features split into heads. -/
def headsT (X : FVec Ideal S8x512x1024 .f32) : FVec Ideal S8x16x512x64 .f32 :=
  transpose S8x16x512x64 [0, 2, 1, 3] (shapeCast _ X shapeCasts_S8x512x1024_S8x512x16x64) transposes_S8x512x16x64_S8x16x512x64_0_2_1_3

/-- The heads, by coordinates. -/
theorem headsT_eq (x : Act) : headsT (ofAct x) = ofHeads x := by
  funext y
  unfold headsT ofAct ofHeads
  pointwise []
  exact congrArg (x (y 0) (y 2)) (Fin.ext (by
    show (y 1).val * 64 + (y 3).val = (64 * (y 1).val + (y 3).val) % 1024
    have h1 : (y 1).val < 16 := (y 1).isLt
    have h3 : (y 3).val < 64 := (y 3).isLt
    omega))

/-- The queries scaled. -/
def scaleT (X : FVec Ideal S8x16x512x64 .f32) : FVec Ideal S8x16x512x64 .f32 :=
  Host.divf X (broadcastInDim S8x16x512x64 ![] bcast_S_S8x16x512x64 (constant S_ .f32 0x41000000#32))

/-- Dividing by eight is multiplying by an eighth. -/
theorem div_eight (a : EReal) : Ideal.div a (Ideal.ofBits .f32 0x41000000#32) = a * eighth := by
  have h8 : Ideal.ofBits .f32 0x41000000#32 = ((8 : ℝ) : EReal) := by
    simp [Ideal.ofBits, Ideal.ieee, -EReal.coe_mul]; norm_num
  have h1 : eighth = ((1 / 8 : ℝ) : EReal) := by
    unfold eighth; simp [Ideal.ofBits, Ideal.ieee, -EReal.coe_mul]; norm_num
  rw [h8, h1, Ideal.div_coe (by norm_num)]

/-- The scaled queries, by coordinates. -/
theorem scaleT_eq (x : Act) : scaleT (ofHeads x) = ofHeads (scaled x) := by
  funext y
  exact div_eight _

/-- The scores. -/
def scrT (Q K : FVec Ideal S8x16x512x64 .f32) : FVec Ideal S8x16x512x512 .f32 :=
  Host.dotGeneral dot_S8x16x512x64_S8x16x512x64_S8x16x512x512_3_3_2_2_01_01 none Q K

/-- The scores, by coordinates. -/
theorem scrT_eq (q k : Act) : scrT (ofHeads q) (ofHeads k) = ofSco (scr q k) := by
  funext y
  unfold scrT ofHeads ofSco scr
  pointwise []

/-- The exponentials. -/
def exT (S : FVec Ideal S8x16x512x512 .f32) : FVec Ideal S8x16x512x512 .f32 :=
  Host.exp (subf S (broadcastInDim S8x16x512x512 ![0, 1, 2, 3] bcast_S8x16x512x1_S8x16x512x512_0_1_2_3 (broadcastInDim S8x16x512x1 ![0, 1, 2] bcast_S8x16x512_S8x16x512x1_0_1_2 (maximumf (broadcastInDim S8x16x512 ![] bcast_S_S8x16x512 (constant S_ .f32 0xFF800000#32)) (Host.reduce FloatOps.maximumf S (constant S_ .f32 0xFF800000#32) reducesTo_S8x16x512x512_S8x16x512_d3 h_S_)))))

/-- The largest score of each row. -/
theorem row_max (S : Sco) : (Host.reduce FloatOps.maximumf (ofSco S) (constant S_ .f32 0xFF800000#32) reducesTo_S8x16x512x512_S8x16x512_d3 h_S_ : FVec Ideal S8x16x512 .f32)
    = fun j => ⨆ t, S (j 0) (j 1) (j 2) t := by
  funext j
  have hr : S8x16x512x512.Reduces [3] S8x16x512 := by decide
  rw [Host.reduce_eq_fold_single FloatOps.maximumf (ofSco S) _ reducesTo_S8x16x512x512_S8x16x512_d3 hr h_S_ j]
  exact fold_max fun t => S (j 0) (j 1) (j 2) t

/-- The exponentials, by coordinates. -/
theorem exT_eq (S : Sco) : exT (ofSco S) = ofSco (ex S) := by
  unfold exT
  rw [row_max S]
  funext y
  unfold ofSco ex
  pointwise []
  simp only [neg_inf, bot_le, max_eq_right]

/-- The probabilities. -/
def probT (X : FVec Ideal S8x16x512x512 .f32) : FVec Ideal S8x16x512x512 .f32 :=
  Host.divf X (broadcastInDim S8x16x512x512 ![0, 1, 2, 3] bcast_S8x16x512x1_S8x16x512x512_0_1_2_3 (broadcastInDim S8x16x512x1 ![0, 1, 2] bcast_S8x16x512_S8x16x512x1_0_1_2 (Host.reduceAdd X (constant S_ .f32 0x00000000#32) reducesTo_S8x16x512x512_S8x16x512_d3 h_S_)))

/-- The probabilities, by coordinates. -/
theorem probT_eq (E : Sco) : probT (ofSco E) = ofSco (prob E) := by
  funext y
  unfold probT ofSco prob zs
  pointwise []

/-- The product with the values, the heads side by side. -/
def attT (P : FVec Ideal S8x16x512x512 .f32) (V : FVec Ideal S8x16x512x64 .f32) : FVec Ideal S8x512x1024 .f32 :=
  shapeCast _ (transpose S8x512x16x64 [0, 2, 1, 3] (Host.dotGeneral dot_S8x16x512x512_S8x16x512x64_S8x16x512x64_3_2_2_3_01_01 none P V) transposes_S8x16x512x64_S8x512x16x64_0_2_1_3) shapeCasts_S8x512x16x64_S8x512x1024

/-- The heads' outputs side by side, by coordinates. -/
theorem attT_eq (p : Sco) (v : Act) : attT (ofSco p) (ofHeads v) = ofAct (att p v) := by
  funext y
  unfold attT ofSco ofHeads ofAct att
  pointwise []
  exact Finset.sum_congr rfl fun t _ => congrArg (fun e => p (y 0) (hd (y 2)) (y 1) t * v (y 0) t e) (cl_hd (y 2))

end Cert.ReferenceIdeal.Value

end
-- ==== Proof.Finite.lean ====
/-
  What finiteness gives: every stage of a layer stays finite, and the largest probability is the reciprocal of the
  smallest row sum of exponentials.
-/
module

public import proofs.«01_k».proof.Proof.Spec

@[expose] public section

noncomputable section

namespace Cert.Attn

open Idealize.ShloMosaic

/-- Every activation is finite. -/
def FinA (x : Act) : Prop := ∀ b s e, IsFin (x b s e)
/-- Every score is finite. -/
def FinS (x : Sco) : Prop := ∀ b h s t, IsFin (x b h s t)
/-- Every weight is finite. -/
def FinW (w : Wgt) : Prop := ∀ e c, IsFin (w e c)
/-- Every bias element is finite. -/
def FinB (β : Bia) : Prop := ∀ e, IsFin (β e)

/-- The largest magnitude of finite activations is finite. -/
theorem FinA.amax {x : Act} (hx : FinA x) : IsFin (amax x) :=
  IsFin.iSup fun b => IsFin.iSup fun s => IsFin.iSup fun e => (hx b s e).mag

/-- The largest magnitude of finite scores is finite. -/
theorem FinS.smax {x : Sco} (hx : FinS x) : IsFin (smax x) :=
  IsFin.iSup fun b => IsFin.iSup fun h => IsFin.iSup fun s => IsFin.iSup fun t => (hx b h s t).mag

/-- Quantised activations are finite. -/
theorem FinA.fq {x : Act} (hx : FinA x) : FinA (fq x) := fun _ _ _ => IsFin.quant lowA_fin hx.amax.scl _

/-- Quantised scores are finite. -/
theorem FinS.qz {x : Sco} (hx : FinS x) : FinS (qzS (scl (Attn.smax x)) x) := fun _ _ _ _ => IsFin.quant lowA_fin hx.smax.scl _

/-- Quantised weights are finite. -/
theorem FinW.fq {w : Wgt} (hw : FinW w) : FinW (fqW w) := fun _ _ =>
  IsFin.quant lowW_fin (IsFin.scl (IsFin.iSup fun i => IsFin.iSup fun j => (hw i j).mag)) _
/-- A quantised bias is finite. -/
theorem FinB.fq {β : Bia} (hβ : FinB β) : FinB (fqB β) := fun _ => IsFin.quant lowW_fin (IsFin.scl (IsFin.iSup fun i => (hβ i).mag)) _

/-- A projection of finite values is finite. -/
theorem FinA.lin {x : Act} {w : Wgt} {β : Bia} (hx : FinA x) (hw : FinW w) (hβ : FinB β) : FinA (lin x w β) := fun b s e =>
  (IsFin.sum _ fun c => (hx b s c).mul (hw e c)).add (hβ e)

/-- An eighth is finite. -/
theorem eighth_fin : IsFin eighth := by
  refine ⟨1 / 8, ?_⟩
  unfold eighth; simp [Ideal.ofBits, Ideal.ieee, -EReal.coe_mul]; norm_num

/-- Scaled queries are finite. -/
theorem FinA.scaled {x : Act} (hx : FinA x) : FinA (scaled x) := fun b s e => (hx b s e).mul eighth_fin

/-- Scores of finite queries and keys are finite. -/
theorem FinA.scr {q k : Act} (hq : FinA q) (hk : FinA k) : FinS (scr q k) := fun b h s t =>
  IsFin.sum _ fun _ => (hq b s _).mul (hk b t _)
/-- The product of finite probabilities and values is finite. -/
theorem FinS.att {p : Sco} {v : Act} (hp : FinS p) (hv : FinA v) : FinA (att p v) := fun b s e =>
  IsFin.sum _ fun t => (hp b (hd e) s t).mul (hv b t e)

/-- The exponentials of a row are positive reals of at most one, and one of them is one. -/
theorem ex_facts {S : Sco} (hS : FinS S) (b : Fin 8) (h : Fin 16) (s : Fin 512) :
    (∀ t, ∃ r : ℝ, ex S b h s t = (r : EReal) ∧ 0 < r ∧ r ≤ 1) ∧ ∃ t, ex S b h s t = 1 := by
  obtain ⟨t0, e0⟩ := exists_iSup fun t => S b h s t
  obtain ⟨m, hm⟩ := hS b h s t0
  have hsup : (⨆ t, S b h s t) = (m : EReal) := e0.symm.trans hm
  refine ⟨fun t => ?_, t0, ?_⟩
  · obtain ⟨r, hr⟩ := hS b h s t
    have hle : S b h s t ≤ ⨆ t, S b h s t := le_iSup (fun t => S b h s t) t
    rw [hsup, hr] at hle
    have hle' : r ≤ m := by exact_mod_cast hle
    refine ⟨Real.exp (r - m), ?_, Real.exp_pos _, Real.exp_le_one_iff.mpr (by linarith)⟩
    rw [ex, hsup, hr, ← EReal.coe_sub, Ideal.exp_coe]
  · rw [ex, hsup, hm, ← EReal.coe_sub, Ideal.exp_coe, sub_self, Real.exp_zero]; rfl

/-- A row sum of exponentials is a positive real. -/
theorem zs_real {S : Sco} (hS : FinS S) (b : Fin 8) (h : Fin 16) (s : Fin 512) :
    ∃ z : ℝ, zs (ex S) b h s = (z : EReal) ∧ 0 < z := by
  obtain ⟨hr, t0, h0⟩ := ex_facts hS b h s
  obtain ⟨z, hz⟩ : IsFin (zs (ex S) b h s) := IsFin.sum _ fun t => (hr t).imp fun _ h => h.1
  refine ⟨z, hz, ?_⟩
  have h1 : ex S b h s t0 ≤ zs (ex S) b h s := Finset.single_le_sum (f := fun t => ex S b h s t) (fun t _ => by
    obtain ⟨r, e, hp, _⟩ := hr t
    show 0 ≤ ex S b h s t
    rw [e]; exact_mod_cast hp.le) (Finset.mem_univ t0)
  rw [h0, hz] at h1
  have : (1 : ℝ) ≤ z := by exact_mod_cast h1
  linarith

/-- A probability is finite. -/
theorem prob_real {S : Sco} (hS : FinS S) (b : Fin 8) (h : Fin 16) (s t : Fin 512) : IsFin (prob (ex S) b h s t) := by
  obtain ⟨r, e, _⟩ := (ex_facts hS b h s).1 t
  obtain ⟨z, hz, hp⟩ := zs_real hS b h s
  exact IsFin.div ⟨r, e⟩ ⟨z, hz⟩ (by rw [hz]; exact_mod_cast hp)

/-- The largest probability of a row is the reciprocal of its sum. -/
theorem row_prob {S : Sco} (hS : FinS S) (b : Fin 8) (h : Fin 16) (s : Fin 512) :
    (⨆ t, mag (prob (ex S) b h s t)) = Ideal.div 1 (zs (ex S) b h s) := by
  obtain ⟨hr, t0, h0⟩ := ex_facts hS b h s
  obtain ⟨z, hz, hp⟩ := zs_real hS b h s
  have h1 : Ideal.div 1 (zs (ex S) b h s) = ((1 / z : ℝ) : EReal) := by rw [hz]; exact div_real (x := 1) hp.ne'
  have ht : ∀ t, ∃ r : ℝ, ex S b h s t = (r : EReal) ∧ r ≤ 1 ∧ mag (prob (ex S) b h s t) = ((r / z : ℝ) : EReal) := fun t => by
    obtain ⟨r, e, h0, h1⟩ := hr t
    exact ⟨r, e, h1, by rw [prob, e, hz, div_real hp.ne', mag_coe, abs_of_nonneg (by positivity)]⟩
  rw [h1]
  apply le_antisymm
  · refine iSup_le fun t => ?_
    obtain ⟨r, _, h2, e⟩ := ht t
    rw [e]
    exact EReal.coe_le_coe_iff.mpr (div_le_div_of_nonneg_right h2 hp.le)
  · obtain ⟨r, e, _, em⟩ := ht t0
    rw [h0] at e
    have hr1 : r = 1 := by exact_mod_cast e.symm
    rw [← hr1, ← em]
    exact le_iSup (fun t => mag (prob (ex S) b h s t)) t0

/-- The largest probability, from the smallest row sum of each batch. -/
theorem prob_max {S : Sco} (hS : FinS S) :
    (⨆ b, Ideal.div 1 (⨅ h : Fin 16, ⨅ i, zs (ex S) b h i)) = smax (prob (ex S)) := by
  refine iSup_congr fun b => ?_
  simp only [row_prob hS b]
  have hz := fun h s => zs_real hS b h s
  generalize zs (ex S) b = Z at hz
  obtain ⟨h0, e0⟩ : ∃ h, (⨅ i, Z h i) = ⨅ h, ⨅ i, Z h i := exists_eq_ciInf_of_finite
  obtain ⟨s0, e1⟩ : ∃ s, Z h0 s = ⨅ i, Z h0 i := exists_eq_ciInf_of_finite
  have e2 : (⨅ h, ⨅ i, Z h i) = Z h0 s0 := e0.symm.trans e1.symm
  rw [e2]
  apply le_antisymm
  · exact le_iSup_of_le h0 (le_iSup (fun s => Ideal.div 1 (Z h0 s)) s0)
  · refine iSup_le fun h => iSup_le fun s => ?_
    have hle : Z h0 s0 ≤ Z h s := by rw [← e2]; exact (iInf_le _ h).trans (iInf_le _ s)
    obtain ⟨a, ha, hap⟩ := hz h0 s0
    obtain ⟨c, hc, hcp⟩ := hz h s
    rw [ha, hc] at hle ⊢
    have hac : a ≤ c := by exact_mod_cast hle
    have h1 : Ideal.div 1 (c : EReal) = ((1 / c : ℝ) : EReal) := div_real (x := 1) hcp.ne'
    have h2 : Ideal.div 1 (a : EReal) = ((1 / a : ℝ) : EReal) := div_real (x := 1) hap.ne'
    rw [h1, h2]
    exact EReal.coe_le_coe_iff.mpr (one_div_le_one_div_of_le hap hac)

/-- The largest probability, read off the probabilities. -/
def pmax (E : Sco) : EReal := smax (prob E)

/-- The two ways of reading the largest probability give one layer. -/
theorem layer_max {x : Act} {wq wk wv wo : Wgt} {βq βk βv βo : Bia} (hx : FinA x) (hq : FinW wq) (hk : FinW wk) (hbq : FinB βq) (hbk : FinB βk) :
    layerWith (fun E => ⨆ b, Ideal.div 1 (⨅ h : Fin 16, ⨅ i, zs E b h i)) x wq wk wv wo βq βk βv βo = layerWith pmax x wq wk wv wo βq βk βv βo := by
  have hS : FinS (scr (fq (scaled (lin x wq βq))) (fq (lin x wk βk))) := (hx.lin hq hbq).scaled.fq.scr (hx.lin hk hbk).fq
  unfold layerWith
  dsimp only
  rw [prob_max hS.qz]
  rfl

/-- A layer of finite activations, weights and biases is finite. -/
theorem layer_fin {x : Act} {wq wk wv wo : Wgt} {βq βk βv βo : Bia} (hx : FinA x) (hq : FinW wq) (hk : FinW wk) (hv : FinW wv) (ho : FinW wo)
    (hbq : FinB βq) (hbk : FinB βk) (hbv : FinB βv) (hbo : FinB βo) : FinA (layerWith pmax x wq wk wv wo βq βk βv βo) := by
  have hS : FinS (scr (fq (scaled (lin x wq βq))) (fq (lin x wk βk))) := (hx.lin hq hbq).scaled.fq.scr (hx.lin hk hbk).fq
  have hP : FinS (prob (ex (qzS (scl (smax (scr (fq (scaled (lin x wq βq))) (fq (lin x wk βk))))) (scr (fq (scaled (lin x wq βq))) (fq (lin x wk βk)))))) :=
    prob_real hS.qz
  exact (hP.qz.att (hx.lin hv hbv).fq).fq.lin ho hbo

/-- Quantising a second time changes nothing. -/
theorem fq_fq {x : Act} (hx : FinA x) : fq (fq x) = fq x := by
  have hsup : ∀ y : Act, amax y = ⨆ i : Fin 8 × Fin 512 × Fin 1024, mag (y i.1 i.2.1 i.2.2) := fun y =>
    le_antisymm (iSup_le fun b => iSup_le fun s => iSup_le fun e => le_iSup (fun i : Fin 8 × Fin 512 × Fin 1024 => mag (y i.1 i.2.1 i.2.2)) (b, s, e))
      (iSup_le fun i => le_iSup_of_le i.1 (le_iSup_of_le i.2.1 (le_iSup (fun e => mag (y i.1 i.2.1 e)) i.2.2)))
  have hf : ∀ i : Fin 8 × Fin 512 × Fin 1024, IsFin (x i.1 i.2.1 i.2.2) := fun i => hx _ _ _
  have hs : scl (amax (fq x)) = scl (amax x) := by
    rw [hsup (fq x), hsup x]
    have h := scale_quant (fun i : Fin 8 × Fin 512 × Fin 1024 => x i.1 i.2.1 i.2.2) hf
    rw [← hsup x] at h ⊢
    exact h
  funext b s e
  have h := quant_quant (fun i : Fin 8 × Fin 512 × Fin 1024 => x i.1 i.2.1 i.2.2) hf (b, s, e)
  rw [← hsup x] at h
  show quant lowA (scl (amax (fq x))) (fq x b s e) = fq x b s e
  rw [hs]
  exact h

end Cert.Attn

end
-- ==== Proof.RefLayer.lean ====
/-
  What the reference computes: each layer as a function of coordinates, and its result.
-/
module

public import proofs.«01_k».proof.Proof.RefOps
public import proofs.«01_k».proof.Proof.Finite

@[expose] public section

set_option maxRecDepth 16384

noncomputable section

namespace Cert.ReferenceIdeal.Value

open Cert.ReferenceIdeal Cert.ReferenceIdeal.Gen Idealize.ShloMosaic Idealize.ShloMosaic.TcCoe Cert.Attn

/-- Activations quantised. -/
def fqA (X : FVec Ideal S8x512x1024 .f32) : FVec Ideal S8x512x1024 .f32 :=
  fakeT 0xC1000000#32 bcast_S_S8x512x1024 X (sclT reducesTo_S8x512x1024_S_d0_1_2 X)
/-- Heads quantised. -/
def fqH (X : FVec Ideal S8x16x512x64 .f32) : FVec Ideal S8x16x512x64 .f32 :=
  fakeT 0xC1000000#32 bcast_S_S8x16x512x64 X (sclT reducesTo_S8x16x512x64_S_d0_1_2_3 X)
/-- Scores or probabilities quantised. -/
def fqS (X : FVec Ideal S8x16x512x512 .f32) : FVec Ideal S8x16x512x512 .f32 :=
  fakeT 0xC1000000#32 bcast_S_S8x16x512x512 X (sclT reducesTo_S8x16x512x512_S_d0_1_2_3 X)
/-- A weight quantised. -/
def fqM (X : FVec Ideal S1024x1024 .f32) : FVec Ideal S1024x1024 .f32 :=
  fakeT 0xC0E00000#32 bcast_S_S1024x1024 X (sclT reducesTo_S1024x1024_S_d0_1 X)
/-- A bias quantised. -/
def fqV (X : FVec Ideal S1024 .f32) : FVec Ideal S1024 .f32 :=
  fakeT 0xC0E00000#32 bcast_S_S1024 X (sclT reducesTo_S1024_S_d0 X)

/-- A layer from its quantised input, before its output is quantised. -/
def layerT (X : FVec Ideal S8x512x1024 .f32) (W1 W2 W3 W4 : FVec Ideal S1024x1024 .f32) (B1 B2 B3 B4 : FVec Ideal S1024 .f32) :
    FVec Ideal S8x512x1024 .f32 :=
  linT (fqA (attT (fqS (probT (exT (fqS (scrT (fqH (scaleT (headsT (linT X (fqM W1) (fqV B1))))) (fqH (headsT (linT X (fqM W2) (fqV B2)))))))))
    (fqH (headsT (linT X (fqM W3) (fqV B3)))))) (fqM W4) (fqV B4)

/-- A layer's operations on finite arguments, by coordinates. -/
theorem layerT_eq (x : Act) (w1 w2 w3 w4 : Wgt) (β1 β2 β3 β4 : Bia) (hx : FinA x) (h1 : FinW w1) (h2 : FinW w2) (h3 : FinW w3) (h4 : FinW w4)
    (g1 : FinB β1) (g2 : FinB β2) (g3 : FinB β3) (g4 : FinB β4) :
    layerT (ofAct x) (ofW w1) (ofW w2) (ofW w3) (ofW w4) (ofB β1) (ofB β2) (ofB β3) (ofB β4)
      = ofAct (layerWith pmax x (fqW w1) (fqW w2) (fqW w3) (fqW w4) (fqB β1) (fqB β2) (fqB β3) (fqB β4)) := by
  have hq := (hx.lin h1.fq g1.fq).scaled
  have hk := hx.lin h2.fq g2.fq
  have hv := hx.lin h3.fq g3.fq
  have hS := hq.fq.scr hk.fq
  have hP : FinS (prob (ex _)) := prob_real hS.qz
  have hA := hP.qz.att hv.fq
  unfold layerT fqM fqV
  rw [quant_w w1 h1, quant_w w2 h2, quant_w w3 h3, quant_w w4 h4, quant_b β1 g1, quant_b β2 g2, quant_b β3 g3, quant_b β4 g4,
    linT_eq, linT_eq, linT_eq, headsT_eq, headsT_eq, headsT_eq, scaleT_eq]
  unfold fqH
  rw [quant_heads _ hq, quant_heads _ hk, quant_heads _ hv, scrT_eq]
  unfold fqS
  rw [quant_sco _ hS, exT_eq, probT_eq, quant_sco _ hP, attT_eq]
  unfold fqA
  rw [quant_act _ hA, linT_eq]
  rfl

end Cert.ReferenceIdeal.Value

end
-- ==== Proof.RefRes.lean ====
/-
  The reference's result term, as the two layers and their quantisers.
-/
module

public import proofs.«01_k».proof.Proof.RefLayer

@[expose] public section

set_option maxRecDepth 16384

noncomputable section

namespace Cert.ReferenceIdeal.Value

open Cert.ReferenceIdeal Cert.ReferenceIdeal.Gen Idealize.ShloMosaic Idealize.ShloMosaic.TcCoe Cert.Attn

variable (V0 : Valuation τ sig (Elt Ideal))

/-- A layer over the launched weights and biases. -/
def layerV (X : FVec Ideal S8x512x1024 .f32) : FVec Ideal S8x512x1024 .f32 :=
  layerT X (V0 (Proc.devRef .tc main_arg1)) (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8))

/-- The quantised input. -/
theorem v11_eq : res_main_v11 V0 = fqA (V0 (Proc.devRef .tc main_arg0)) := rfl

/-- The first layer, before its output is quantised. -/
theorem v222_eq : res_main_v222 V0 = layerV V0 (res_main_v11 V0) := rfl

/-- The first layer's quantised output. -/
theorem v234_eq : res_main_v234 V0 = fqA (res_main_v222 V0) := rfl

/-- That output, quantised again as the second layer's input. -/
theorem v246_eq : res_main_v246 V0 = fqA (res_main_v234 V0) := rfl

/-- The second layer, before its output is quantised. -/
theorem v457_eq : res_main_v457 V0 = layerV V0 (res_main_v246 V0) := rfl

/-- Activations, weights and biases by their coordinates. -/
def coA (X : FVec Ideal S8x512x1024 .f32) : Act := fun b s e => X (ix3 b s e)

/-- A weight by its coordinates. -/
def coW (X : FVec Ideal S1024x1024 .f32) : Wgt := fun e c => X (ix2 e c)

/-- A bias by its coordinate. -/
def coB (X : FVec Ideal S1024 .f32) : Bia := fun e => X (ix1 e)

/-- Activations by their coordinates make the array again. -/
theorem of_coA (X : FVec Ideal S8x512x1024 .f32) : ofAct (coA X) = X := funext fun y => congrArg X (by funext a; fin_cases a <;> rfl)

/-- A weight by its coordinates makes the array again. -/
theorem of_coW (X : FVec Ideal S1024x1024 .f32) : ofW (coW X) = X := funext fun y => congrArg X (by funext a; fin_cases a <;> rfl)

/-- A bias by its coordinate makes the array again. -/
theorem of_coB (X : FVec Ideal S1024 .f32) : ofB (coB X) = X := funext fun y => congrArg X (by funext a; fin_cases a; rfl)

/-- Quantised weight of an argument. -/
def refW (X : FVec Ideal S1024x1024 .f32) : Wgt := fqW (coW X)
/-- Quantised bias of an argument. -/
def refB (X : FVec Ideal S1024 .f32) : Bia := fqB (coB X)

/-- A layer over arguments, from quantised input, before its output is quantised. -/
def refLayer (W1 W2 W3 W4 : FVec Ideal S1024x1024 .f32) (B1 B2 B3 B4 : FVec Ideal S1024 .f32) (x : Act) : Act :=
  layerWith pmax x (refW W1) (refW W2) (refW W3) (refW W4) (refB B1) (refB B2) (refB B3) (refB B4)

section
variable (X : FVec Ideal S8x512x1024 .f32) (W1 W2 W3 W4 : FVec Ideal S1024x1024 .f32) (B1 B2 B3 B4 : FVec Ideal S1024 .f32)
  (hX : ∀ i, IsFin (X i)) (hW : (∀ i, IsFin (W1 i)) ∧ (∀ i, IsFin (W2 i)) ∧ (∀ i, IsFin (W3 i)) ∧ (∀ i, IsFin (W4 i)))
  (hB : (∀ i, IsFin (B1 i)) ∧ (∀ i, IsFin (B2 i)) ∧ (∀ i, IsFin (B3 i)) ∧ (∀ i, IsFin (B4 i)))
include hW hB

/-- A layer over finite arguments is finite. -/
theorem refLayer_fin {x : Act} (hx : FinA x) : FinA (refLayer W1 W2 W3 W4 B1 B2 B3 B4 x) :=
  layer_fin hx (FinW.fq fun _ _ => hW.1 _) (FinW.fq fun _ _ => hW.2.1 _) (FinW.fq fun _ _ => hW.2.2.1 _) (FinW.fq fun _ _ => hW.2.2.2 _)
    (FinB.fq fun _ => hB.1 _) (FinB.fq fun _ => hB.2.1 _) (FinB.fq fun _ => hB.2.2.1 _) (FinB.fq fun _ => hB.2.2.2 _)

/-- The layer's operations over finite arguments. -/
theorem layerT_ref {x : Act} (hx : FinA x) :
    layerT (ofAct x) W1 W2 W3 W4 B1 B2 B3 B4 = ofAct (refLayer W1 W2 W3 W4 B1 B2 B3 B4 x) := by
  have h := layerT_eq x (coW W1) (coW W2) (coW W3) (coW W4) (coB B1) (coB B2) (coB B3) (coB B4) hx
    (fun _ _ => hW.1 _) (fun _ _ => hW.2.1 _) (fun _ _ => hW.2.2.1 _) (fun _ _ => hW.2.2.2 _)
    (fun _ => hB.1 _) (fun _ => hB.2.1 _) (fun _ => hB.2.2.1 _) (fun _ => hB.2.2.2 _)
  rw [of_coW, of_coW, of_coW, of_coW, of_coB, of_coB, of_coB, of_coB] at h
  exact h

include hX

/-- Both layers: the quantisation between them, done twice, is done once. -/
theorem two_layers :
    fqA (layerT (fqA (fqA (layerT (fqA X) W1 W2 W3 W4 B1 B2 B3 B4))) W1 W2 W3 W4 B1 B2 B3 B4)
      = ofAct (fq (refLayer W1 W2 W3 W4 B1 B2 B3 B4 (fq (refLayer W1 W2 W3 W4 B1 B2 B3 B4 (fq (coA X)))))) := by
  have hx : FinA (coA X) := fun _ _ _ => hX _
  have h0 : fqA X = ofAct (fq (coA X)) := by
    have h := quant_act (coA X) hx
    rw [of_coA] at h
    exact h
  have h1 := refLayer_fin W1 W2 W3 W4 B1 B2 B3 B4 hW hB hx.fq
  have h2 := refLayer_fin W1 W2 W3 W4 B1 B2 B3 B4 hW hB h1.fq
  have q : ∀ {x : Act}, FinA x → fqA (ofAct x) = ofAct (fq x) := fun {x} hx => quant_act x hx
  rw [h0, layerT_ref W1 W2 W3 W4 B1 B2 B3 B4 hW hB hx.fq, q h1, q h1.fq, fq_fq h1, layerT_ref W1 W2 W3 W4 B1 B2 B3 B4 hW hB h1.fq, q h2]

end

/-- The reference's result. -/
theorem result_eq : res_main_v457 V0 = layerV V0 (fqA (fqA (layerV V0 (fqA (V0 (Proc.devRef .tc main_arg0)))))) := by
  rw [v457_eq, v246_eq, v234_eq, v222_eq, v11_eq]

/-- The reference's result, from finite arguments. -/
theorem reference_value (hX : ∀ i, IsFin (V0 (Proc.devRef .tc main_arg0) i))
    (hW : (∀ i, IsFin (V0 (Proc.devRef .tc main_arg1) i)) ∧ (∀ i, IsFin (V0 (Proc.devRef .tc main_arg2) i)) ∧ (∀ i, IsFin (V0 (Proc.devRef .tc main_arg3) i)) ∧ (∀ i, IsFin (V0 (Proc.devRef .tc main_arg4) i)))
    (hB : (∀ i, IsFin (V0 (Proc.devRef .tc main_arg5) i)) ∧ (∀ i, IsFin (V0 (Proc.devRef .tc main_arg6) i)) ∧ (∀ i, IsFin (V0 (Proc.devRef .tc main_arg7) i)) ∧ (∀ i, IsFin (V0 (Proc.devRef .tc main_arg8) i))) :
    fqA (res_main_v457 V0) = ofAct (fq (refLayer (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
      (fq (refLayer (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
        (fq (coA (V0 (Proc.devRef .tc main_arg0)))))))) := by
  rw [result_eq]
  exact two_layers _ _ _ _ _ _ _ _ _ hX hW hB

end Cert.ReferenceIdeal.Value

end
-- ==== Proof.Equation.lean ====
/-
  The kernel's result is the reference's, where the arguments are finite.
-/
module

public import proofs.«01_k».proof.Proof.KValue
public import proofs.«01_k».proof.Proof.RefRes

@[expose] public section

set_option maxRecDepth 16384

noncomputable section

namespace Cert.Attn

open Idealize.ShloMosaic Idealize.ShloMosaic.TcCoe Cert.KernelIdeal Cert.KernelIdeal.Gen Cert.ReferenceIdeal.Value

variable (X : FVec Ideal S8x512x1024 .f32) (W1 W2 W3 W4 : FVec Ideal S1024x1024 .f32) (B1 B2 B3 B4 : FVec Ideal S1024 .f32)

/-- The kernel's layer over arguments is the reference's. -/
theorem layer_eq (hW : (∀ i, IsFin (W1 i)) ∧ (∀ i, IsFin (W2 i)) ∧ (∀ i, IsFin (W3 i)) ∧ (∀ i, IsFin (W4 i)))
    (hB : (∀ i, IsFin (B1 i)) ∧ (∀ i, IsFin (B2 i)) ∧ (∀ i, IsFin (B3 i)) ∧ (∀ i, IsFin (B4 i))) {x : Act} (hx : FinA x) :
    kLayer x (fun n => fqW ((![curW W1, curW W2, curW W3, curW W4] : Fin 4 → Wgt) n)) (fun n => fqB ((![curB B1, curB B2, curB B3, curB B4] : Fin 4 → Bia) n))
      = refLayer W1 W2 W3 W4 B1 B2 B3 B4 x :=
  layer_max (wq := fqW (curW W1)) (wk := fqW (curW W2)) (wv := fqW (curW W3)) (wo := fqW (curW W4))
    (βq := fqB (curB B1)) (βk := fqB (curB B2)) (βv := fqB (curB B3)) (βo := fqB (curB B4)) hx
    (FinW.fq fun _ _ => hW.1 _) (FinW.fq fun _ _ => hW.2.1 _) (FinB.fq fun _ => hB.1 _) (FinB.fq fun _ => hB.2.1 _)

/-- Both layers. -/
theorem layers_eq (hX : ∀ i, IsFin (X i)) (hW : (∀ i, IsFin (W1 i)) ∧ (∀ i, IsFin (W2 i)) ∧ (∀ i, IsFin (W3 i)) ∧ (∀ i, IsFin (W4 i)))
    (hB : (∀ i, IsFin (B1 i)) ∧ (∀ i, IsFin (B2 i)) ∧ (∀ i, IsFin (B3 i)) ∧ (∀ i, IsFin (B4 i)))
    (w : Fin 4 → Wgt) (hw : w = fun n => fqW ((![curW W1, curW W2, curW W3, curW W4] : Fin 4 → Wgt) n))
    (β : Fin 4 → Bia) (hβ : β = fun n => fqB ((![curB B1, curB B2, curB B3, curB B4] : Fin 4 → Bia) n)) :
    fq (kLayer (fq (kLayer (fq (cur X)) w β)) w β)
      = fq (refLayer W1 W2 W3 W4 B1 B2 B3 B4 (fq (refLayer W1 W2 W3 W4 B1 B2 B3 B4 (fq (coA X))))) := by
  subst hw; subst hβ
  have h0 : FinA (fq (cur X)) := FinA.fq fun _ _ _ => hX _
  rw [layer_eq W1 W2 W3 W4 B1 B2 B3 B4 hW hB h0,
    layer_eq W1 W2 W3 W4 B1 B2 B3 B4 hW hB (refLayer_fin W1 W2 W3 W4 B1 B2 B3 B4 hW hB h0).fq]
  rfl

variable (m : (ℓ : Loc nD τ sig) → Buf (Elt Ideal) ℓ) (ρ : Dev nD → PrngReg) (c : Dev nD)

/-- The kernel's result, from the launched arguments. -/
theorem kernel_result (X : FVec Ideal S8x512x1024 .f32) (W1 W2 W3 W4 : FVec Ideal S1024x1024 .f32) (B1 B2 B3 B4 : FVec Ideal S1024 .f32)
    (e0 : X = m ((c.tc : Thread nD τ).loc main_arg0)) (e1 : W1 = m ((c.tc : Thread nD τ).loc main_arg1)) (e2 : W2 = m ((c.tc : Thread nD τ).loc main_arg2))
    (e3 : W3 = m ((c.tc : Thread nD τ).loc main_arg3)) (e4 : W4 = m ((c.tc : Thread nD τ).loc main_arg4)) (e5 : B1 = m ((c.tc : Thread nD τ).loc main_arg5))
    (e6 : B2 = m ((c.tc : Thread nD τ).loc main_arg6)) (e7 : B3 = m ((c.tc : Thread nD τ).loc main_arg7)) (e8 : B4 = m ((c.tc : Thread nD τ).loc main_arg8))
    (hX : ∀ i, IsFin (X i)) (hW : (∀ i, IsFin (W1 i)) ∧ (∀ i, IsFin (W2 i)) ∧ (∀ i, IsFin (W3 i)) ∧ (∀ i, IsFin (W4 i)))
    (hB : (∀ i, IsFin (B1 i)) ∧ (∀ i, IsFin (B2 i)) ∧ (∀ i, IsFin (B3 i)) ∧ (∀ i, IsFin (B4 i))) :
    W25 m ρ c (Proc.devRef .tc main_v105)
      = ofAct (fq (refLayer W1 W2 W3 W4 B1 B2 B3 B4 (fq (refLayer W1 W2 W3 W4 B1 B2 B3 B4 (fq (coA X)))))) := by
  refine (kernel_value m ρ c).trans ?_
  have hw : inW m c = fun n => fqW ((![curW W1, curW W2, curW W3, curW W4] : Fin 4 → Wgt) n) := by subst e1; subst e2; subst e3; subst e4; rfl
  have hβ : inB m c = fun n => fqB ((![curB B1, curB B2, curB B3, curB B4] : Fin 4 → Bia) n) := by subst e5; subst e6; subst e7; subst e8; rfl
  have hx : inX m c = cur X := by subst e0; rfl
  have h := layers_eq X W1 W2 W3 W4 B1 B2 B3 B4 hX hW hB (inW m c) hw (inB m c) hβ
  have e : kernelVal m c = fq (refLayer W1 W2 W3 W4 B1 B2 B3 B4 (fq (refLayer W1 W2 W3 W4 B1 B2 B3 B4 (fq (coA X))))) := by
    unfold kernelVal
    rw [hx]
    exact h
  exact congrArg ofAct e

end Cert.Attn

end
-- ==== Proof.KRun.lean ====
/-
  The kernel's run, its result kept.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with its result at the last boundary's contents, the arguments as launched. -/
theorem kernel_run : θ_run defs (onTc (τ := τ) (main (F := F))) ⟨m, fun _ => 0, ρ⟩ (fun r => ∀ c : Dev nD,
      r.2.mem ((c.tc : Thread nD τ).loc main_v105) = W25 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h _ => fun c =>
      ⟨h c _ (mem_uc main_v105 (by decide)),
       (h c _ (mem_uc main_arg0 (by decide))).trans (W25_main_arg0 m ρ c),
       (h c _ (mem_uc main_arg1 (by decide))).trans (W25_main_arg1 m ρ c),
       (h c _ (mem_uc main_arg2 (by decide))).trans (W25_main_arg2 m ρ c),
       (h c _ (mem_uc main_arg3 (by decide))).trans (W25_main_arg3 m ρ c),
       (h c _ (mem_uc main_arg4 (by decide))).trans (W25_main_arg4 m ρ c),
       (h c _ (mem_uc main_arg5 (by decide))).trans (W25_main_arg5 m ρ c),
       (h c _ (mem_uc main_arg6 (by decide))).trans (W25_main_arg6 m ρ c),
       (h c _ (mem_uc main_arg7 (by decide))).trans (W25_main_arg7 m ρ c),
       (h c _ (mem_uc main_arg8 (by decide))).trans (W25_main_arg8 m ρ c)⟩)

end Cert.KernelIdeal.Gen

end
-- ==== Proof.Pre.lean ====
/-
  What the precondition gives: every element of every argument is finite.
-/
module

public import proofs.«01_k».proof.Proof.Gen.Pre_inputs_finite
public import proofs.«01_k».proof.Proof.Folds

@[expose] public section

set_option maxRecDepth 16384

noncomputable section

namespace Cert.Pre_inputs_finite

open Idealize.ShloMosaic Cert.Attn

variable [Facts]
open Facts

/-- A value whose magnitude is below `+∞` is finite. -/
theorem fin_of_mag {x : EReal} (h : mag x < ⊤) : IsFin x := by
  refine fin_of_ne ?_ ?_ <;> rintro rfl <;> simp [mag] at h

/-- A conjunction of bits is one only if both are. -/
theorem and_one : ∀ a b : BitVec 1, IntOp.andi a b = 1#1 → a = 1#1 ∧ b = 1#1 := by decide

/-- One argument's check: its largest magnitude is below `+∞`. -/
def chk {s : Shape} {axes : List (Fin s.rank)} (h : s.ReducesTo axes S_) (X : FVec Ideal s .f32) : IVec S_ 1 :=
  cmpf .olt (Host.reduce FloatOps.maximumf (Host.absf X) (constant S_ .f32 0xFF800000#32) h h_S_) (constant S_ .f32 0x7F800000#32)

/-- A check that holds gives finite elements. -/
theorem chk_fin {s : Shape} {axes : List (Fin s.rank)} (h : s.ReducesTo axes S_) (X : FVec Ideal s .f32) (j : S_.Idx)
    (e : chk h X j = 1#1) (i : s.Idx) : IsFin (X i) := by
  have e1 : Ideal.cmp .olt (⨆ i, mag (X i)) ⊤ = 1#1 := by
    rw [← pos_inf, ← e]
    exact congrArg (fun t => Ideal.cmp .olt t (Ideal.ofBits .f32 0x7F800000#32)) (reduce_all (Host.absf X) h h_S_ rfl j).symm
  have e2 : (⨆ i, mag (X i)) < ⊤ := by
    by_contra hn
    simp [Ideal.cmp, hn] at e1
  exact fin_of_mag (lt_of_le_of_lt (le_iSup (fun i => mag (X i)) i) e2)

/-- The nine checks, joined. -/
theorem fn_eq (x : FVec Ideal S8x512x1024 .f32) (w1 w2 w3 w4 : FVec Ideal S1024x1024 .f32) (b1 b2 b3 b4 : FVec Ideal S1024 .f32) :
    fn (F := Ideal) x w1 w2 w3 w4 b1 b2 b3 b4
      = andi (andi (andi (andi (andi (andi (andi (andi (chk reducesTo_S8x512x1024_S_d0_1_2 x) (chk reducesTo_S1024x1024_S_d0_1 w1))
          (chk reducesTo_S1024x1024_S_d0_1 w2)) (chk reducesTo_S1024x1024_S_d0_1 w3)) (chk reducesTo_S1024x1024_S_d0_1 w4))
          (chk reducesTo_S1024_S_d0 b1)) (chk reducesTo_S1024_S_d0 b2)) (chk reducesTo_S1024_S_d0 b3)) (chk reducesTo_S1024_S_d0 b4) := rfl

/-- Under the precondition every element of every argument is finite. -/
theorem fin_of_pre (x : FVec Ideal S8x512x1024 .f32) (w1 w2 w3 w4 : FVec Ideal S1024x1024 .f32) (b1 b2 b3 b4 : FVec Ideal S1024 .f32)
    (h : fn (F := Ideal) x w1 w2 w3 w4 b1 b2 b3 b4 = fun _ => 1#1) :
    (∀ i, IsFin (x i)) ∧ ((∀ i, IsFin (w1 i)) ∧ (∀ i, IsFin (w2 i)) ∧ (∀ i, IsFin (w3 i)) ∧ (∀ i, IsFin (w4 i)))
      ∧ (∀ i, IsFin (b1 i)) ∧ (∀ i, IsFin (b2 i)) ∧ (∀ i, IsFin (b3 i)) ∧ (∀ i, IsFin (b4 i)) := by
  rw [fn_eq] at h
  have j : S_.Idx := fun a => absurd a.isLt (Nat.not_lt_zero _)
  obtain ⟨h, e8⟩ := and_one _ _ (congrFun h j)
  obtain ⟨h, e7⟩ := and_one _ _ h
  obtain ⟨h, e6⟩ := and_one _ _ h
  obtain ⟨h, e5⟩ := and_one _ _ h
  obtain ⟨h, e4⟩ := and_one _ _ h
  obtain ⟨h, e3⟩ := and_one _ _ h
  obtain ⟨h, e2⟩ := and_one _ _ h
  obtain ⟨e0, e1⟩ := and_one _ _ h
  exact ⟨chk_fin _ _ j e0, ⟨chk_fin _ _ j e1, chk_fin _ _ j e2, chk_fin _ _ j e3, chk_fin _ _ j e4⟩,
    chk_fin _ _ j e5, chk_fin _ _ j e6, chk_fin _ _ j e7, chk_fin _ _ j e8⟩

end Cert.Pre_inputs_finite

end
-- ==== Proof.Algebraic.lean ====
/-
  From the same finite arguments the kernel and the reference end with the same result.
-/
module

public import proofs.«01_k».proof.Defs
public import proofs.«01_k».proof.Proof.Equation
public import proofs.«01_k».proof.Proof.KRun
public import proofs.«01_k».proof.Proof.Pre

@[expose] public section

set_option maxRecDepth 16384

noncomputable section

namespace Cert.Attn

open Idealize.ShloMosaic Idealize.SL.Sem

/-- The claim over the extended reals: one result, reached by both programs. -/
theorem algebraic : Cert.algebraic_KernelIdeal_ReferenceIdeal_pre_inputs_finite (hKernelIdeal := Cert.KernelIdeal.Gen.facts)
    (hReferenceIdeal := Cert.ReferenceIdeal.Gen.facts) (hPre_inputs_finite := Cert.Pre_inputs_finite.Gen.facts) := by
  intro m g m' g' hpre hargs
  refine ⟨fun c => Cert.KernelIdeal.Gen.W25 m g c (Proc.devRef .tc Cert.KernelIdeal.main_v105), Cert.KernelIdeal.Gen.kernel_run m g, ?_⟩
  refine (θ_run _ _ _).mono (fun r h c => ⟨(h c).1.trans ?_, (h c).2⟩) (Cert.ReferenceIdeal.Value.run m' g')
  obtain ⟨e0, e1, e2, e3, e4, e5, e6, e7, e8⟩ := hargs c
  have hf := Cert.Pre_inputs_finite.fin_of_pre _ _ _ _ _ _ _ _ _ (hpre c)
  rw [← e0, ← e1, ← e2, ← e3, ← e4, ← e5, ← e6, ← e7, ← e8] at hf
  obtain ⟨hX, hW, hB⟩ := hf
  exact (Cert.ReferenceIdeal.Value.reference_value (StableHlo.launchContents m' c) hX hW hB).trans
    (kernel_result m g c _ _ _ _ _ _ _ _ _ e0 e1 e2 e3 e4 e5 e6 e7 e8 hX hW hB).symm

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Algebraic
public import proofs.«01_k».proof.Proof.Gen.Pre_inputs_finite
public import Idealize.ShloMosaic.Adequacy
public import Idealize.ShloMosaic.Init

@[expose] public section

noncomputable section

namespace Cert.Proof

open Idealize.ShloMosaic Idealize.SL.Sem Cert.Kernel

/-- The reference's run ends with its arguments unchanged and every counter at zero. -/
theorem frameRef : Cert.quiescent_ReferenceIdeal (hReferenceIdeal := Cert.ReferenceIdeal.Gen.facts) := fun m ρ _ =>
  (θ_run _ _ _).mono (fun r h => ⟨fun c => (h c).2, Cert.ReferenceIdeal.Value.sems_zero r.2.sem⟩) (Cert.ReferenceIdeal.Value.run m ρ)

theorem claim : Cert.Claim := ⟨Cert.Kernel.Gen.facts, Cert.KernelIdeal.Gen.facts, Cert.ReferenceIdeal.Gen.facts, Cert.Pre_inputs_finite.Gen.facts,
  fun m ρ _ => Cert.Kernel.Gen.frame m ρ, fun m ρ _ => Cert.KernelIdeal.Gen.frame m ρ, fun m ρ _ => Cert.KernelIdeal.Gen.frame m ρ,
  frameRef, fun m ρ _ => frameRef m ρ trivial, trivial, Cert.Attn.algebraic⟩

end Cert.Proof

end
